-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18)) (m ((c.tc : Thread Cert.Kernel4Ideal.nD Cert.Kernel4Ideal.τ).loc Cert.Kernel4Ideal.main_arg19))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18)) (m ((c.tc : Thread Cert.Reference4Ideal.nD Cert.Reference4Ideal.τ).loc Cert.Reference4Ideal.main_arg19))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v86_0)) (v1 : (c : Dev Cert.Kernel3Ideal.nD) → Buf (Elt Ideal) ((c.tc : Thread Cert.Kernel3Ideal.nD Cert.Kernel3Ideal.τ).loc Cert.Kernel3Ideal.main_v86_1)) (v2 : (c : Dev Cert.Kernel3Ideal.nD) → Buf (Elt Ideal) ((c.tc : Thread Cert.Kernel3Ideal.nD Cert.Kernel3Ideal.τ).loc Cert.Kernel3Ideal.main_v86_2)) (v3 : (c : Dev Cert.Kernel3Ideal.nD) → Buf (Elt Ideal) ((c.tc : Thread Cert.Kernel3Ideal.nD Cert.Kernel3Ideal.τ).loc Cert.Kernel3Ideal.main_v86_5)) (v4 : (c : Dev Cert.Kernel3Ideal.nD) → Buf (Elt Ideal) ((c.tc : Thread Cert.Kernel3Ideal.nD Cert.Kernel3Ideal.τ).loc Cert.Kernel3Ideal.main_v86_6)) (v5 : (c : Dev Cert.Kernel3Ideal.nD) → Buf (Elt Ideal) ((c.tc : Thread Cert.Kernel3Ideal.nD Cert.Kernel3Ideal.τ).loc Cert.Kernel3Ideal.main_v86_7)) (v6 : (c : Dev Cert.Kernel3Ideal.nD) → Buf (Elt Ideal) ((c.tc : Thread Cert.Kernel3Ideal.nD Cert.Kernel3Ideal.τ).loc Cert.Kernel3Ideal.main_v86_8)) (v7 : (c : Dev Cert.Kernel3Ideal.nD) → Buf (Elt Ideal) ((c.tc : Thread Cert.Kernel3Ideal.nD Cert.Kernel3Ideal.τ).loc Cert.Kernel3Ideal.main_v86_9)) (v8 : (c : Dev Cert.Kernel3Ideal.nD) → Buf (Elt Ideal) ((c.tc : Thread Cert.Kernel3Ideal.nD Cert.Kernel3Ideal.τ).loc Cert.Kernel3Ideal.main_v86_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v86_0) = v0 c
          ∧ r.2.mem ((c.tc : Thread Cert.Kernel3Ideal.nD Cert.Kernel3Ideal.τ).loc Cert.Kernel3Ideal.main_v86_1) = v1 c
          ∧ r.2.mem ((c.tc : Thread Cert.Kernel3Ideal.nD Cert.Kernel3Ideal.τ).loc Cert.Kernel3Ideal.main_v86_2) = v2 c
          ∧ r.2.mem ((c.tc : Thread Cert.Kernel3Ideal.nD Cert.Kernel3Ideal.τ).loc Cert.Kernel3Ideal.main_v86_5) = v3 c
          ∧ r.2.mem ((c.tc : Thread Cert.Kernel3Ideal.nD Cert.Kernel3Ideal.τ).loc Cert.Kernel3Ideal.main_v86_6) = v4 c
          ∧ r.2.mem ((c.tc : Thread Cert.Kernel3Ideal.nD Cert.Kernel3Ideal.τ).loc Cert.Kernel3Ideal.main_v86_7) = v5 c
          ∧ r.2.mem ((c.tc : Thread Cert.Kernel3Ideal.nD Cert.Kernel3Ideal.τ).loc Cert.Kernel3Ideal.main_v86_8) = v6 c
          ∧ r.2.mem ((c.tc : Thread Cert.Kernel3Ideal.nD Cert.Kernel3Ideal.τ).loc Cert.Kernel3Ideal.main_v86_9) = v7 c
          ∧ r.2.mem ((c.tc : Thread Cert.Kernel3Ideal.nD Cert.Kernel3Ideal.τ).loc Cert.Kernel3Ideal.main_v86_10) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_v62) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_v64) = v4 c
          ∧ r.2.mem ((c.tc : Thread Cert.Reference3Ideal.nD Cert.Reference3Ideal.τ).loc Cert.Reference3Ideal.main_v65) = v5 c
          ∧ r.2.mem ((c.tc : Thread Cert.Reference3Ideal.nD Cert.Reference3Ideal.τ).loc Cert.Reference3Ideal.main_v66) = v6 c
          ∧ r.2.mem ((c.tc : Thread Cert.Reference3Ideal.nD Cert.Reference3Ideal.τ).loc Cert.Reference3Ideal.main_v68) = v7 c
          ∧ r.2.mem ((c.tc : Thread Cert.Reference3Ideal.nD Cert.Reference3Ideal.τ).loc Cert.Reference3Ideal.main_v70) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)) →
    ∃ (v0 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v129) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
-- ==== Pre_finite.lean ====
abbrev S1x4x2x16384x32 : Shape := ⟨5, ![1, 4, 2, 16384, 32]⟩
abbrev S1x4x2x16640x32 : Shape := ⟨5, ![1, 4, 2, 16640, 32]⟩
abbrev S1x4x16640x64 : Shape := ⟨4, ![1, 4, 16640, 64]⟩
abbrev S4x32 : Shape := ⟨2, ![4, 32]⟩
abbrev S_ : Shape := ⟨0, ![]⟩

class Facts : Prop where
  bcast_S_S1x4x2x16384x32 : S_.BroadcastsInDim S1x4x2x16384x32 (![] : Fin 0 → Fin S1x4x2x16384x32.rank)
  reducesTo_S1x4x2x16384x32_S_d0_1_2_3_4 : S1x4x2x16384x32.ReducesTo [0, 1, 2, 3, 4] S_
  h_S_ : 0 < S_.numel
  bcast_S_S1x4x2x16640x32 : S_.BroadcastsInDim S1x4x2x16640x32 (![] : Fin 0 → Fin S1x4x2x16640x32.rank)
  reducesTo_S1x4x2x16640x32_S_d0_1_2_3_4 : S1x4x2x16640x32.ReducesTo [0, 1, 2, 3, 4] S_
  bcast_S_S1x4x16640x64 : S_.BroadcastsInDim S1x4x16640x64 (![] : Fin 0 → Fin S1x4x16640x64.rank)
  reducesTo_S1x4x16640x64_S_d0_1_2_3 : S1x4x16640x64.ReducesTo [0, 1, 2, 3] S_
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_v13 : IVec S_ 1) (main_v16 : IVec S4x32 1) : IVec S_ 1 :=
  let main_c_5 : IVec S_ 1 := constantI S_ 1 1#1
  let main_v17 : IVec S_ 1 := (fun x v => Host.reduce IntOp.andi x v reducesTo_S4x32_S_d0_1 h_S_) main_v16 main_c_5
  let main_v18 : IVec S_ 1 := andi main_v13 main_v17
  main_v18

def fn {F : FTy → Type} [FloatOps F] (main_arg0 : FVec F S1x4x2x16384x32 .f32) (main_arg1 : FVec F S1x4x2x16640x32 .f32) (main_arg2 : FVec F S1x4x16640x64 .f32) (main_arg3 : FVec F S4x32 .f32) : IVec S_ 1 :=
  let main_v0 : FVec F S1x4x2x16384x32 .f32 := Host.absf main_arg0
  let main_cst : FVec F S_ .f32 := constant S_ .f32 0x7F800000#32
  let main_v1 : FVec F S1x4x2x16384x32 .f32 := broadcastInDim S1x4x2x16384x32 ![] bcast_S_S1x4x2x16384x32 main_cst
  let main_v2 : IVec S1x4x2x16384x32 1 := cmpf .olt main_v0 main_v1
  let main_c : IVec S_ 1 := constantI S_ 1 1#1
  let main_v3 : IVec S_ 1 := (fun x v => Host.reduce IntOp.andi x v reducesTo_S1x4x2x16384x32_S_d0_1_2_3_4 h_S_) main_v2 main_c
  let main_v4 : FVec F S1x4x2x16640x32 .f32 := Host.absf main_arg1
  let main_cst_0 : FVec F S_ .f32 := constant S_ .f32 0x7F800000#32
  let main_v5 : FVec F S1x4x2x16640x32 .f32 := broadcastInDim S1x4x2x16640x32 ![] bcast_S_S1x4x2x16640x32 main_cst_0
  let main_v6 : IVec S1x4x2x16640x32 1 := cmpf .olt main_v4 main_v5
  let main_c_1 : IVec S_ 1 := constantI S_ 1 1#1
  let main_v7 : IVec S_ 1 := (fun x v => Host.reduce IntOp.andi x v reducesTo_S1x4x2x16640x32_S_d0_1_2_3_4 h_S_) main_v6 main_c_1
  let main_v8 : IVec S_ 1 := andi main_v3 main_v7
  let main_v9 : FVec F S1x4x16640x64 .f32 := Host.absf main_arg2
  let main_cst_2 : FVec F S_ .f32 := constant S_ .f32 0x7F800000#32
  let main_v10 : FVec F S1x4x16640x64 .f32 := broadcastInDim S1x4x16640x64 ![] bcast_S_S1x4x16640x64 main_cst_2
  let main_v11 : IVec S1x4x16640x64 1 := cmpf .olt main_v9 main_v10
  let main_c_3 : IVec S_ 1 := constantI S_ 1 1#1
  let main_v12 : IVec S_ 1 := (fun x v => Host.reduce IntOp.andi x v reducesTo_S1x4x16640x64_S_d0_1_2_3 h_S_) main_v11 main_c_3
  let main_v13 : IVec S_ 1 := andi main_v8 main_v12
  let main_v14 : FVec F S4x32 .f32 := Host.absf main_arg3
  let main_cst_4 : FVec F S_ .f32 := constant S_ .f32 0x7F800000#32
  let main_v15 : FVec F S4x32 .f32 := broadcastInDim S4x32 ![] bcast_S_S4x32 main_cst_4
  let main_v16 : IVec S4x32 1 := cmpf .olt main_v14 main_v15
  fn_part1 (F := F) main_v13 main_v16
-- ==== Pre_finite4.lean ====
abbrev S1x16384x1024 : Shape := ⟨3, ![1, 16384, 1024]⟩
abbrev S1x256x1024 : Shape := ⟨3, ![1, 256, 1024]⟩
abbrev S2x6144 : Shape := ⟨2, ![2, 6144]⟩
abbrev S16640x256 : Shape := ⟨2, ![16640, 256]⟩
abbrev S256 : Shape := ⟨1, ![256]⟩
abbrev S256x256 : Shape := ⟨2, ![256, 256]⟩
abbrev S64 : Shape := ⟨1, ![64]⟩
abbrev S16640x4096 : Shape := ⟨2, ![16640, 4096]⟩
abbrev S4x256x1024 : Shape := ⟨3, ![4, 256, 1024]⟩
abbrev S1024x1024 : Shape := ⟨2, ![1024, 1024]⟩
abbrev S_ : Shape := ⟨0, ![]⟩

class Facts : Prop where
  bcast_S_S16640x256 : S_.BroadcastsInDim S16640x256 (![] : Fin 0 → Fin S16640x256.rank)
  reducesTo_S16640x256_S_d0_1 : S16640x256.ReducesTo [0, 1] S_
  h_S_ : 0 < S_.numel

variable [Facts]

def fn {F : FTy → Type} [FloatOps F] (main_arg0 : FVec F S1x16384x1024 .f32) (main_arg1 : FVec F S1x256x1024 .f32) (main_arg2 : FVec F S2x6144 .f32) (main_arg3 : FVec F S16640x256 .f32) (main_arg4 : FVec F S16640x256 .f32) (main_arg5 : FVec F S16640x256 .f32) (main_arg6 : FVec F S256 .f32) (main_arg7 : FVec F S256x256 .f32) (main_arg8 : FVec F S16640x256 .f32) (main_arg9 : FVec F S16640x256 .f32) (main_arg10 : FVec F S16640x256 .f32) (main_arg11 : FVec F S16640x256 .f32) (main_arg12 : FVec F S64 .f32) (main_arg13 : FVec F S16640x256 .f32) (main_arg14 : FVec F S16640x256 .f32) (main_arg15 : FVec F S16640x256 .f32) (main_arg16 : FVec F S64 .f32) (main_arg17 : FVec F S16640x4096 .f32) (main_arg18 : FVec F S4x256x1024 .f32) (main_arg19 : FVec F S1024x1024 .f32) : IVec S_ 1 :=
  let main_v0 : FVec F S16640x256 .f32 := Host.absf main_arg11
  let main_cst : FVec F S_ .f32 := constant S_ .f32 0x7F800000#32
  let main_v1 : FVec F S16640x256 .f32 := broadcastInDim S16640x256 ![] bcast_S_S16640x256 main_cst
  let main_v2 : IVec S16640x256 1 := cmpf .olt main_v0 main_v1
  let main_c : IVec S_ 1 := constantI S_ 1 1#1
  let main_v3 : IVec S_ 1 := (fun x v => Host.reduce IntOp.andi x v reducesTo_S16640x256_S_d0_1 h_S_) main_v2 main_c
  let main_v4 : FVec F S16640x256 .f32 := Host.absf main_arg13
  let main_cst_0 : FVec F S_ .f32 := constant S_ .f32 0x7F800000#32
  let main_v5 : FVec F S16640x256 .f32 := broadcastInDim S16640x256 ![] bcast_S_S16640x256 main_cst_0
  let main_v6 : IVec S16640x256 1 := cmpf .olt main_v4 main_v5
  let main_c_1 : IVec S_ 1 := constantI S_ 1 1#1
  let main_v7 : IVec S_ 1 := (fun x v => Host.reduce IntOp.andi x v reducesTo_S16640x256_S_d0_1 h_S_) main_v6 main_c_1
  let main_v8 : IVec S_ 1 := andi main_v3 main_v7
  let main_v9 : FVec F S16640x256 .f32 := Host.absf main_arg14
  let main_cst_2 : FVec F S_ .f32 := constant S_ .f32 0x7F800000#32
  let main_v10 : FVec F S16640x256 .f32 := broadcastInDim S16640x256 ![] bcast_S_S16640x256 main_cst_2
  let main_v11 : IVec S16640x256 1 := cmpf .olt main_v9 main_v10
  let main_c_3 : IVec S_ 1 := constantI S_ 1 1#1
  let main_v12 : IVec S_ 1 := (fun x v => Host.reduce IntOp.andi x v reducesTo_S16640x256_S_d0_1 h_S_) main_v11 main_c_3
  let main_v13 : IVec S_ 1 := andi main_v8 main_v12
  main_v13
-- ==== Kernel.lean ====
abbrev S1x4x2x16384x32 : Shape := ⟨5, ![1, 4, 2, 16384, 32]⟩
abbrev S1x4x2x16640x32 : Shape := ⟨5, ![1, 4, 2, 16640, 32]⟩
abbrev S1x4x16640x64 : Shape := ⟨4, ![1, 4, 16640, 64]⟩
abbrev S4x32 : Shape := ⟨2, ![4, 32]⟩
abbrev S_ : Shape := ⟨0, ![]⟩
abbrev S4x2x16384x32 : Shape := ⟨4, ![4, 2, 16384, 32]⟩
abbrev S4x2x32x16384 : Shape := ⟨4, ![4, 2, 32, 16384]⟩
abbrev S256x16384 : Shape := ⟨2, ![256, 16384]⟩
abbrev S4x2x16640x32 : Shape := ⟨4, ![4, 2, 16640, 32]⟩
abbrev S8x16640x32 : Shape := ⟨3, ![8, 16640, 32]⟩
abbrev S8x16640 : Shape := ⟨2, ![8, 16640]⟩
abbrev S8 : Shape := ⟨1, ![8]⟩
abbrev S4x16640x64 : Shape := ⟨3, ![4, 16640, 64]⟩
abbrev S4x64x16640 : Shape := ⟨3, ![4, 64, 16640]⟩
abbrev S4x1x16640 : Shape := ⟨3, ![4, 1, 16640]⟩
abbrev S4x15x16640 : Shape := ⟨3, ![4, 15, 16640]⟩
abbrev S4x80x16640 : Shape := ⟨3, ![4, 80, 16640]⟩
abbrev S1x32 : Shape := ⟨2, ![1, 32]⟩
abbrev S32 : Shape := ⟨1, ![32]⟩
abbrev S1 : Shape := ⟨1, ![1]⟩
abbrev S7 : Shape := ⟨1, ![7]⟩
abbrev S16 : Shape := ⟨1, ![16]⟩
abbrev S1x16 : Shape := ⟨2, ![1, 16]⟩
abbrev S16384x256 : Shape := ⟨2, ![16384, 256]⟩
abbrev S256x1024 : Shape := ⟨2, ![256, 1024]⟩
abbrev S8x3328x32 : Shape := ⟨3, ![8, 3328, 32]⟩
abbrev S4x80x3328 : Shape := ⟨3, ![4, 80, 3328]⟩
abbrev S1024x256 : Shape := ⟨2, ![1024, 256]⟩
abbrev S8x1x1024 : Shape := ⟨3, ![8, 1, 1024]⟩
abbrev S8x80x1024 : Shape := ⟨3, ![8, 80, 1024]⟩
abbrev S32x1024 : Shape := ⟨2, ![32, 1024]⟩
abbrev S1024 : Shape := ⟨1, ![1024]⟩
abbrev S1x1024 : Shape := ⟨2, ![1, 1024]⟩
abbrev S1x1 : Shape := ⟨2, ![1, 1]⟩
abbrev S1x1x1024 : Shape := ⟨3, ![1, 1, 1024]⟩
abbrev S1x3328x32 : Shape := ⟨3, ![1, 3328, 32]⟩
abbrev S3328x32 : Shape := ⟨2, ![3328, 32]⟩
abbrev S3328x1024 : Shape := ⟨2, ![3328, 1024]⟩
abbrev S1x80x1024 : Shape := ⟨3, ![1, 80, 1024]⟩
abbrev S80x1024 : Shape := ⟨2, ![80, 1024]⟩
abbrev S1x80x3328 : Shape := ⟨3, ![1, 80, 3328]⟩
abbrev S80x3328 : Shape := ⟨2, ![80, 3328]⟩
abbrev S64x1024 : Shape := ⟨2, ![64, 1024]⟩

abbrev nBuf : Space → Nat
  | .hbm => 57
  | .vmem => 10
  | .smem => 1
  | _ => 0

abbrev bufTy : (tb : Table) → Fin (tcTables nBuf tb) → BufTy
  | .hbm, ⟨0, _⟩ => ⟨S1x4x2x16384x32, .f32⟩
  | .hbm, ⟨1, _⟩ => ⟨S1x4x2x16640x32, .f32⟩
  | .hbm, ⟨2, _⟩ => ⟨S1x4x16640x64, .f32⟩
  | .hbm, ⟨3, _⟩ => ⟨S4x32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x2x16384x32, .f32⟩
  | .hbm, ⟨9, _⟩ => ⟨S4x2x32x16384, .f32⟩
  | .hbm, ⟨10, _⟩ => ⟨S256x16384, .f32⟩
  | .hbm, ⟨11, _⟩ => ⟨S_, .f32⟩
  | .hbm, ⟨12, _⟩ => ⟨S256x16384, .f32⟩
  | .hbm, ⟨13, _⟩ => ⟨S256x16384, .f32⟩
  | .hbm, ⟨14, _⟩ => ⟨S256x16384, .bf16⟩
  | .hbm, ⟨15, _⟩ => ⟨S4x2x16640x32, .f32⟩
  | .hbm, ⟨16, _⟩ => ⟨S8x16640x32, .f32⟩
  | .hbm, ⟨17, _⟩ => ⟨S8x16640x32, .f32⟩
  | .hbm, ⟨18, _⟩ => ⟨S_, .f32⟩
  | .hbm, ⟨19, _⟩ => ⟨S8x16640, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8x16640x32, .bf16⟩
  | .hbm, ⟨24, _⟩ => ⟨S4x16640x64, .f32⟩
  | .hbm, ⟨25, _⟩ => ⟨S4x64x16640, .f32⟩
  | .hbm, ⟨26, _⟩ => ⟨S_, .f32⟩
  | .hbm, ⟨27, _⟩ => ⟨S4x1x16640, .f32⟩
  | .hbm, ⟨28, _⟩ => ⟨S_, .f32⟩
  | .hbm, ⟨29, _⟩ => ⟨S4x15x16640, .f32⟩
  | .hbm, ⟨30, _⟩ => ⟨S4x80x16640, .f32⟩
  | .hbm, ⟨31, _⟩ => ⟨S4x80x16640, .bf16⟩
  | .hbm, ⟨32, _⟩ => ⟨S1x32, .f32⟩
  | .hbm, ⟨33, _⟩ => ⟨S32, .f32⟩
  | .hbm, ⟨34, _⟩ => ⟨S1x32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x32, .f32⟩
  | .hbm, ⟨41, _⟩ => ⟨S32, .f32⟩
  | .hbm, ⟨42, _⟩ => ⟨S1x32, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S_, .f32⟩
  | .hbm, ⟨53, _⟩ => ⟨S7, .f32⟩
  | .hbm, ⟨54, _⟩ => ⟨S16, .f32⟩
  | .hbm, ⟨55, _⟩ => ⟨S1x16, .f32⟩
  | .hbm, ⟨56, _⟩ => ⟨S16384x256, .f32⟩
  | .local _ .vmem, ⟨0, _⟩ => ⟨S256x1024, .bf16⟩
  | .local _ .vmem, ⟨1, _⟩ => ⟨S256x1024, .bf16⟩
  | .local _ .vmem, ⟨2, _⟩ => ⟨S8x3328x32, .bf16⟩
  | .local _ .vmem, ⟨3, _⟩ => ⟨S8x3328x32, .bf16⟩
  | .local _ .vmem, ⟨4, _⟩ => ⟨S4x80x3328, .bf16⟩
  | .local _ .vmem, ⟨5, _⟩ => ⟨S4x80x3328, .bf16⟩
  | .local _ .vmem, ⟨6, _⟩ => ⟨S1024x256, .f32⟩
  | .local _ .vmem, ⟨7, _⟩ => ⟨S1024x256, .f32⟩
  | .local _ .vmem, ⟨8, _⟩ => ⟨S8x1x1024, .f32⟩
  | .local _ .vmem, ⟨9, _⟩ => ⟨S8x80x1024, .f32⟩
  | .local _ .smem, ⟨0, _⟩ => ⟨S1x16, .f32⟩
  | _, _ => ⟨S1x4x2x16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v163 : BitVec 1 := Scalar.cmpi .eq arg1 c4_i32
  let v164 : BitVec 32 := Scalar.extui v163
  let c0_i32_137 : BitVec 32 := 0#32
  let v165 : BitVec 1 := Scalar.cmpi .ne v164 c0_i32_137
  v165

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x3328x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x80x3328 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S1x4x2x16384x32 : Shape := ⟨5, ![1, 4, 2, 16384, 32]⟩
abbrev S1x4x2x16640x32 : Shape := ⟨5, ![1, 4, 2, 16640, 32]⟩
abbrev S1x4x16640x64 : Shape := ⟨4, ![1, 4, 16640, 64]⟩
abbrev S4x32 : Shape := ⟨2, ![4, 32]⟩
abbrev S1x32 : Shape := ⟨2, ![1, 32]⟩
abbrev S32 : Shape := ⟨1, ![32]⟩
abbrev S_ : Shape := ⟨0, ![]⟩
abbrev S1x4x2x16384x16640 : Shape := ⟨5, ![1, 4, 2, 16384, 16640]⟩
abbrev S1x4x2x16384 : Shape := ⟨4, ![1, 4, 2, 16384]⟩
abbrev S1x4x2x16384x1 : Shape := ⟨5, ![1, 4, 2, 16384, 1]⟩
abbrev S1x4x1x16384x16640 : Shape := ⟨5, ![1, 4, 1, 16384, 16640]⟩
abbrev S1x4x16384x16640 : Shape := ⟨4, ![1, 4, 16384, 16640]⟩
abbrev S1x4x16384x64 : Shape := ⟨4, ![1, 4, 16384, 64]⟩
abbrev S1x16384x4x64 : Shape := ⟨4, ![1, 16384, 4, 64]⟩
abbrev S16384x256 : Shape := ⟨2, ![16384, 256]⟩

abbrev nBuf : Space → Nat
  | .hbm => 51
  | .vmem => 0
  | .smem => 0
  | _ => 0

abbrev bufTy : (tb : Table) → Fin (tcTables nBuf tb) → BufTy
  | .hbm, ⟨0, _⟩ => ⟨S1x4x2x16384x32, .f32⟩
  | .hbm, ⟨1, _⟩ => ⟨S1x4x2x16640x32, .f32⟩
  | .hbm, ⟨2, _⟩ => ⟨S1x4x16640x64, .f32⟩
  | .hbm, ⟨3, _⟩ => ⟨S4x32, .f32⟩
  | .hbm, ⟨4, _⟩ => ⟨S1x32, .f32⟩
  | .hbm, ⟨5, _⟩ => ⟨S32, .f32⟩
  | .hbm, ⟨6, _⟩ => ⟨S1x32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x32, .f32⟩
  | .hbm, ⟨13, _⟩ => ⟨S32, .f32⟩
  | .hbm, ⟨14, _⟩ => ⟨S1x32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x4x2x16384x16640, .f32⟩
  | .hbm, ⟨24, _⟩ => ⟨S_, .f32⟩
  | .hbm, ⟨25, _⟩ => ⟨S1x4x2x16384x16640, .f32⟩
  | .hbm, ⟨26, _⟩ => ⟨S1x4x2x16384x16640, .f32⟩
  | .hbm, ⟨27, _⟩ => ⟨S_, .f32⟩
  | .hbm, ⟨28, _⟩ => ⟨S1x4x2x16384, .f32⟩
  | .hbm, ⟨29, _⟩ => ⟨S_, .f32⟩
  | .hbm, ⟨30, _⟩ => ⟨S1x4x2x16384, .f32⟩
  | .hbm, ⟨31, _⟩ => ⟨S1x4x2x16384, .f32⟩
  | .hbm, ⟨32, _⟩ => ⟨S1x4x2x16384x1, .f32⟩
  | .hbm, ⟨33, _⟩ => ⟨S1x4x2x16384x16640, .f32⟩
  | .hbm, ⟨34, _⟩ => ⟨S1x4x2x16384x16640, .f32⟩
  | .hbm, ⟨35, _⟩ => ⟨S1x4x2x16384x16640, .f32⟩
  | .hbm, ⟨36, _⟩ => ⟨S_, .f32⟩
  | .hbm, ⟨37, _⟩ => ⟨S1x4x2x16384, .f32⟩
  | .hbm, ⟨38, _⟩ => ⟨S1x4x2x16384x1, .f32⟩
  | .hbm, ⟨39, _⟩ => ⟨S1x4x2x16384x16640, .f32⟩
  | .hbm, ⟨40, _⟩ => ⟨S1x4x2x16384x16640, .f32⟩
  | .hbm, ⟨41, _⟩ => ⟨S1x4x1x16384x16640, .f32⟩
  | .hbm, ⟨42, _⟩ => ⟨S1x4x16384x16640, .f32⟩
  | .hbm, ⟨43, _⟩ => ⟨S1x4x1x16384x16640, .f32⟩
  | .hbm, ⟨44, _⟩ => ⟨S1x4x16384x16640, .f32⟩
  | .hbm, ⟨45, _⟩ => ⟨S1x4x16384x16640, .f32⟩
  | .hbm, ⟨46, _⟩ => ⟨S1x4x16384x16640, .f32⟩
  | .hbm, ⟨47, _⟩ => ⟨S1x4x16384x16640, .f32⟩
  | .hbm, ⟨48, _⟩ => ⟨S1x4x16384x64, .f32⟩
  | .hbm, ⟨49, _⟩ => ⟨S1x16384x4x64, .f32⟩
  | .hbm, ⟨50, _⟩ => ⟨S16384x256, .f32⟩
  | _, _ => ⟨S1x4x2x16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x256x1024 : Shape := ⟨3, ![1, 256, 1024]⟩
abbrev S2x6144 : Shape := ⟨2, ![2, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S16384x1024 : Shape := ⟨2, ![16384, 1024]⟩
abbrev S16640x1024 : Shape := ⟨2, ![16640, 1024]⟩
abbrev S2x6x1024 : Shape := ⟨3, ![2, 6, 1024]⟩
abbrev S_ : Shape := ⟨0, ![]⟩
abbrev S2x8x1024 : Shape := ⟨3, ![2, 8, 1024]⟩
abbrev S1x1024 : Shape := ⟨2, ![1, 1024]⟩
abbrev S1024x2816 : Shape := ⟨2, ![1024, 2816]⟩
abbrev S1x2816 : Shape := ⟨2, ![1, 2816]⟩
abbrev S8x1024 : Shape := ⟨2, ![8, 1024]⟩
abbrev S1x8x1024 : Shape := ⟨3, ![1, 8, 1024]⟩
abbrev S272x1024 : Shape := ⟨2, ![272, 1024]⟩
abbrev S272x2816 : Shape := ⟨2, ![272, 2816]⟩
abbrev S256 : Shape := ⟨1, ![256]⟩
abbrev S256x1 : Shape := ⟨2, ![256, 1]⟩
abbrev S8 : Shape := ⟨1, ![8]⟩
abbrev S8x1 : Shape := ⟨2, ![8, 1]⟩
abbrev S256x2816 : Shape := ⟨2, ![256, 2816]⟩

abbrev nBuf : Space → Nat
  | .hbm => 23
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1x256x1024, .f32⟩
  | .hbm, ⟨2, _⟩ => ⟨S2x6144, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S256x1024, .f32⟩
  | .hbm, ⟨9, _⟩ => ⟨S16384x1024, .f32⟩
  | .hbm, ⟨10, _⟩ => ⟨S16640x1024, .f32⟩
  | .hbm, ⟨11, _⟩ => ⟨S2x6x1024, .f32⟩
  | .hbm, ⟨12, _⟩ => ⟨S_, .i32⟩
  | .hbm, ⟨13, _⟩ => ⟨S_, .f32⟩
  | .hbm, ⟨14, _⟩ => ⟨S2x8x1024, .f32⟩
  | .hbm, ⟨15, _⟩ => ⟨S1x1024, .f32⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S1x2816, .f32⟩
  | .hbm, ⟨21, _⟩ => ⟨S2816x1024, .bf16⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S3x2816, .f32⟩
  | .local _ .vmem, ⟨12, _⟩ => ⟨S1x2816, .f32⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | .local _ .vmem, ⟨16, _⟩ => ⟨S272x1024, .f32⟩
  | .local _ .vmem, ⟨17, _⟩ => ⟨S272x2816, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2079_i32 : BitVec 32 := 2079#32
  let v2 : BitVec 32 := Scalar.minsi v1 c2079_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S1x16384x1024 : Shape := ⟨3, ![1, 16384, 1024]⟩
abbrev S1x256x1024 : Shape := ⟨3, ![1, 256, 1024]⟩
abbrev S2x6144 : Shape := ⟨2, ![2, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S16386x2816 : Shape := ⟨2, ![16386, 2816]⟩
abbrev S1x2816 : Shape := ⟨2, ![1, 2816]⟩

abbrev nBuf : Space → Nat
  | .hbm => 92
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x256x1024, .f32⟩
  | .hbm, ⟨2, _⟩ => ⟨S2x6144, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x5632, .f32⟩
  | .hbm, ⟨41, _⟩ => ⟨S16384x2816, .f32⟩
  | .hbm, ⟨42, _⟩ => ⟨S16384x2816, .f32⟩
  | .hbm, ⟨43, _⟩ => ⟨S_, .i32⟩
  | .hbm, ⟨44, _⟩ => ⟨S_, .f32⟩
  | .hbm, ⟨45, _⟩ => ⟨S16386x2816, .f32⟩
  | .hbm, ⟨46, _⟩ => ⟨S1x2816, .f32⟩
  | .hbm, ⟨47, _⟩ => ⟨S2816, .f32⟩
  | .hbm, ⟨48, _⟩ => ⟨S16384x2816, .f32⟩
  | .hbm, ⟨49, _⟩ => ⟨S1x2816, .f32⟩
  | .hbm, ⟨50, _⟩ => ⟨S16384x2816, .f32⟩
  | .hbm, ⟨51, _⟩ => ⟨S16384x2816, .f32⟩
  | .hbm, ⟨52, _⟩ => ⟨S1x2816, .f32⟩
  | .hbm, ⟨53, _⟩ => ⟨S2816, .f32⟩
  | .hbm, ⟨54, _⟩ => ⟨S16384x2816, .f32⟩
  | .hbm, ⟨55, _⟩ => ⟨S1x2816, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S1x2816, .f32⟩
  | .hbm, ⟨60, _⟩ => ⟨S2816, .f32⟩
  | .hbm, ⟨61, _⟩ => ⟨S16384x2816, .f32⟩
  | .hbm, ⟨62, _⟩ => ⟨S1x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S1x2816, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S16384x2816, .f32⟩
  | .hbm, ⟨71, _⟩ => ⟨S_, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S_, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S_, .f32⟩
  | .hbm, ⟨80, _⟩ => ⟨S16384x2816, .f32⟩
  | .hbm, ⟨81, _⟩ => ⟨S16384x2816, .f32⟩
  | .hbm, ⟨82, _⟩ => ⟨S_, .f32⟩
  | .hbm, ⟨83, _⟩ => ⟨S16384x2816, .f32⟩
  | .hbm, ⟨84, _⟩ => ⟨S16384x2816, .f32⟩
  | .hbm, ⟨85, _⟩ => ⟨S16384x2816, .f32⟩
  | .hbm, ⟨86, _⟩ => ⟨S16384x2816, .f32⟩
  | .hbm, ⟨87, _⟩ => ⟨S16384x1024, .f32⟩
  | .hbm, ⟨88, _⟩ => ⟨S1x1024, .f32⟩
  | .hbm, ⟨89, _⟩ => ⟨S16384x1024, .f32⟩
  | .hbm, ⟨90, _⟩ => ⟨S16384x1024, .f32⟩
  | .hbm, ⟨91, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_4 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_5 : Ref sig .tc := ⟨.hbm, 79, rfl⟩
abbrev main_v63 : Ref sig .tc := ⟨.hbm, 80, rfl⟩
abbrev main_v64 : Ref sig .tc := ⟨.hbm, 81, rfl⟩
abbrev main_cst_6 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x256x1024 : Shape := ⟨3, ![1, 256, 1024]⟩
abbrev S2x6144 : Shape := ⟨2, ![2, 6144]⟩
abbrev S1024 : Shape := ⟨1, ![1024]⟩
abbrev S1024x6432 : Shape := ⟨2, ![1024, 6432]⟩
abbrev S32 : Shape := ⟨1, ![32]⟩
abbrev S256x1024 : Shape := ⟨2, ![256, 1024]⟩
abbrev S16384x1024 : Shape := ⟨2, ![16384, 1024]⟩
abbrev S16640x1024 : Shape := ⟨2, ![16640, 1024]⟩
abbrev S2x6x1024 : Shape := ⟨3, ![2, 6, 1024]⟩
abbrev S_ : Shape := ⟨0, ![]⟩
abbrev S2x8x1024 : Shape := ⟨3, ![2, 8, 1024]⟩
abbrev S16384 : Shape := ⟨1, ![16384]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x1x8 : Shape := ⟨3, ![16384, 1, 8]⟩
abbrev S16384x2x8 : Shape := ⟨3, ![16384, 2, 8]⟩
abbrev S16384x2x1x8 : Shape := ⟨4, ![16384, 2, 1, 8]⟩
abbrev S16384x2x2x8 : Shape := ⟨4, ![16384, 2, 2, 8]⟩
abbrev S16384x32 : Shape := ⟨2, ![16384, 32]⟩
abbrev S256x32 : Shape := ⟨2, ![256, 32]⟩
abbrev S16640x32 : Shape := ⟨2, ![16640, 32]⟩
abbrev S1x16640x1x32 : Shape := ⟨4, ![1, 16640, 1, 32]⟩
abbrev S1x16640x8x32 : Shape := ⟨4, ![1, 16640, 8, 32]⟩
abbrev S16640x256 : Shape := ⟨2, ![16640, 256]⟩
abbrev S1024x768 : Shape := ⟨2, ![1024, 768]⟩
abbrev S1024x1536 : Shape := ⟨2, ![1024, 1536]⟩
abbrev S1024x32 : Shape := ⟨2, ![1024, 32]⟩
abbrev S1024x128 : Shape := ⟨2, ![1024, 128]⟩
abbrev S1024x4096 : Shape := ⟨2, ![1024, 4096]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S1x1024 : Shape := ⟨2, ![1, 1024]⟩
abbrev S256x1 : Shape := ⟨2, ![256, 1]⟩
abbrev S256x256 : Shape := ⟨2, ![256, 256]⟩
abbrev S256x16640 : Shape := ⟨2, ![256, 16640]⟩
abbrev S8x16640x32 : Shape := ⟨3, ![8, 16640, 32]⟩
abbrev S4x80x16640 : Shape := ⟨3, ![4, 80, 16640]⟩
abbrev S16640x128 : Shape := ⟨2, ![16640, 128]⟩
abbrev S16640x4096 : Shape := ⟨2, ![16640, 4096]⟩
abbrev S8x256 : Shape := ⟨2, ![8, 256]⟩
abbrev S1x8x1024 : Shape := ⟨3, ![1, 8, 1024]⟩
abbrev S8x256x32 : Shape := ⟨3, ![8, 256, 32]⟩
abbrev S4x80x256 : Shape := ⟨3, ![4, 80, 256]⟩
abbrev S256x128 : Shape := ⟨2, ![256, 128]⟩
abbrev S256x4096 : Shape := ⟨2, ![256, 4096]⟩
abbrev S8x1024 : Shape := ⟨2, ![8, 1024]⟩
abbrev S256x768 : Shape := ⟨2, ![256, 768]⟩
abbrev S1x256x32 : Shape := ⟨3, ![1, 256, 32]⟩
abbrev S128x256 : Shape := ⟨2, ![128, 256]⟩
abbrev S80x256 : Shape := ⟨2, ![80, 256]⟩
abbrev S1x80x256 : Shape := ⟨3, ![1, 80, 256]⟩
abbrev S256x1536 : Shape := ⟨2, ![256, 1536]⟩

abbrev nBuf : Space → Nat
  | .hbm => 173
  | .vmem => 40
  | .smem => 0
  | _ => 0

abbrev hbmTy0_0 (i : Nat) : BufTy := match i % 128 with
  | 0 => ⟨S1x16384x1024, .f32⟩
  | 1 => ⟨S1x256x1024, .f32⟩
  | 2 => ⟨S2x6144, .f32⟩
  | 3 => ⟨S1024, .f32⟩
  | 4 => ⟨S1024x6432, .f32⟩
  | 5 => ⟨S32, .f32⟩
  | 6 => ⟨S32, .f32⟩
  | 7 => ⟨S256x1024, .f32⟩
  | 8 => ⟨S16384x1024, .f32⟩
  | 9 => ⟨S16640x1024, .f32⟩
  | 10 => ⟨S2x6x1024, .f32⟩
  | 11 => ⟨S_, .i32⟩
  | 12 => ⟨S_, .f32⟩
  | 13 => ⟨S2x8x1024, .f32⟩
  | 14 => ⟨S16384, .i32⟩
  | 15 => ⟨S_, .i32⟩
  | 16 => ⟨S_, .i32⟩
  | 17 => ⟨S16384, .i32⟩
  | 18 => ⟨S16384, .i32⟩
  | 19 => ⟨S16384, .i32⟩
  | 20 => ⟨S_, .i32⟩
  | 21 => ⟨S16384, .i32⟩
  | 22 => ⟨S16384, .i1⟩
  | 23 => ⟨S16384, .i32⟩
  | 24 => ⟨S16384, .i32⟩
  | 25 => ⟨S_, .i32⟩
  | 26 => ⟨S16384, .i32⟩
  | 27 => ⟨S16384, .i1⟩
  | 28 => ⟨S16384, .i1⟩
  | 29 => ⟨S_, .i32⟩
  | 30 => ⟨S16384, .i32⟩
  | 31 => ⟨S16384, .i32⟩
  | 32 => ⟨S16384, .i32⟩
  | 33 => ⟨S16384, .f32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S16384, .i32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i1⟩
  | 48 => ⟨S_, .i32⟩
  | 49 => ⟨S_, .i1⟩
  | 50 => ⟨S16384, .i1⟩
  | 51 => ⟨S16384, .i1⟩
  | 52 => ⟨S16384, .i1⟩
  | 53 => ⟨S16384, .i32⟩
  | 54 => ⟨S16384, .i32⟩
  | 55 => ⟨S16384, .i32⟩
  | 56 => ⟨S16384, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S8, .f32⟩
  | 73 => ⟨S16384x1, .f32⟩
  | 74 => ⟨S1x8, .f32⟩
  | 75 => ⟨S16384x8, .f32⟩
  | 76 => ⟨S16384x8, .f32⟩
  | 77 => ⟨S16384x8, .f32⟩
  | 78 => ⟨S16384x1, .f32⟩
  | 79 => ⟨S1x8, .f32⟩
  | 80 => ⟨S16384x8, .f32⟩
  | 81 => ⟨S16384x8, .f32⟩
  | 82 => ⟨S16384x8, .f32⟩
  | 83 => ⟨S16384x1x8, .f32⟩
  | 84 => ⟨S16384x1x8, .f32⟩
  | 85 => ⟨S16384x2x8, .f32⟩
  | 86 => ⟨S16384x2x8, .f32⟩
  | 87 => ⟨S16384x2x8, .f32⟩
  | 88 => ⟨S16384x2x1x8, .f32⟩
  | 89 => ⟨S16384x2x1x8, .f32⟩
  | 90 => ⟨S16384x2x2x8, .f32⟩
  | 91 => ⟨S16384x32, .f32⟩
  | 92 => ⟨S16384x2x8, .f32⟩
  | 93 => ⟨S16384x2x1x8, .f32⟩
  | 94 => ⟨S16384x2x1x8, .f32⟩
  | 95 => ⟨S16384x2x2x8, .f32⟩
  | 96 => ⟨S16384x32, .f32⟩
  | 97 => ⟨S_, .f32⟩
  | 98 => ⟨S256x32, .f32⟩
  | 99 => ⟨S16640x32, .f32⟩
  | 100 => ⟨S_, .f32⟩
  | 101 => ⟨S256x32, .f32⟩
  | 102 => ⟨S16640x32, .f32⟩
  | 103 => ⟨S1x16640x1x32, .f32⟩
  | 104 => ⟨S1x16640x8x32, .f32⟩
  | 105 => ⟨S16640x256, .f32⟩
  | 106 => ⟨S1x16640x1x32, .f32⟩
  | 107 => ⟨S1x16640x8x32, .f32⟩
  | 108 => ⟨S16640x256, .f32⟩
  | 109 => ⟨S1024x768, .f32⟩
  | 110 => ⟨S1024x768, .bf16⟩
  | 111 => ⟨S1024x768, .f32⟩
  | 112 => ⟨S1024x768, .f32⟩
  | 113 => ⟨S1024x1536, .f32⟩
  | 114 => ⟨S1024x1536, .bf16⟩
  | 115 => ⟨S1024x32, .f32⟩
  | 116 => ⟨S_, .i32⟩
  | 117 => ⟨S_, .f32⟩
  | 118 => ⟨S1024x128, .f32⟩
  | 119 => ⟨S1024x128, .bf16⟩
  | 120 => ⟨S1024x4096, .f32⟩
  | 121 => ⟨S1024x4096, .bf16⟩
  | 122 => ⟨S1x32, .f32⟩
  | 123 => ⟨S8x32, .f32⟩
  | 124 => ⟨S256, .f32⟩
  | 125 => ⟨S1x256, .f32⟩
  | 126 => ⟨S1x32, .f32⟩
  | 127 => ⟨S8x32, .f32⟩
  | _ => ⟨S1x16384x1024, .f32⟩

abbrev hbmTy0_1 (i : Nat) : BufTy := match i % 128 with
  | 0 => ⟨S256, .f32⟩
  | 1 => ⟨S1x256, .f32⟩
  | 2 => ⟨S1x1024, .f32⟩
  | 3 => ⟨S256, .i32⟩
  | 4 => ⟨S_, .i32⟩
  | 5 => ⟨S_, .i32⟩
  | 6 => ⟨S256, .i32⟩
  | 7 => ⟨S256, .i32⟩
  | 8 => ⟨S256, .i32⟩
  | 9 => ⟨S_, .i32⟩
  | 10 => ⟨S256, .i32⟩
  | 11 => ⟨S256, .i1⟩
  | 12 => ⟨S256, .i32⟩
  | 13 => ⟨S256, .i32⟩
  | 14 => ⟨S_, .i32⟩
  | 15 => ⟨S256, .i32⟩
  | 16 => ⟨S256, .i1⟩
  | 17 => ⟨S256, .i1⟩
  | 18 => ⟨S_, .i32⟩
  | 19 => ⟨S256, .i32⟩
  | 20 => ⟨S256, .i32⟩
  | 21 => ⟨S256, .i32⟩
  | 22 => ⟨S256x1, .i32⟩
  | 23 => ⟨S1x256, .i32⟩
  | 24 => ⟨S256x256, .i32⟩
  | 25 => ⟨S256x256, .i32⟩
  | 26 => ⟨S256x256, .i1⟩
  | 27 => ⟨S256x256, .f32⟩
  | 28 => ⟨S_, .f32⟩
  | 29 => ⟨S256x256, .f32⟩
  | 30 => ⟨S256x256, .f32⟩
  | 31 => ⟨S256x256, .bf16⟩
  | 32 => ⟨S16640x256, .f32⟩
  | 33 => ⟨S16640x256, .f32⟩
  | 34 => ⟨S16640x256, .f32⟩
  | 35 => ⟨S256x16640, .bf16⟩
  | 36 => ⟨S8x16640x32, .bf16⟩
  | 37 => ⟨S4x80x16640, .bf16⟩
  | 38 => ⟨S16640x256, .f32⟩
  | 39 => ⟨S16640x256, .f32⟩
  | 40 => ⟨S16640x256, .f32⟩
  | 41 => ⟨S16640x128, .f32⟩
  | 42 => ⟨S16640x4096, .bf16⟩
  | 43 => ⟨S8x256, .f32⟩
  | 44 => ⟨S8x256, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x768, .bf16⟩
  | .local _ .vmem, ⟨6, _⟩ => ⟨S1024x1536, .bf16⟩
  | .local _ .vmem, ⟨7, _⟩ => ⟨S1024x128, .bf16⟩
  | .local _ .vmem, ⟨8, _⟩ => ⟨S1024x4096, .bf16⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S1x256, .f32⟩
  | .local _ .vmem, ⟨14, _⟩ => ⟨S1x256, .f32⟩
  | .local _ .vmem, ⟨15, _⟩ => ⟨S256x256, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .bf16⟩
  | .local _ .vmem, ⟨23, _⟩ => ⟨S256x256, .bf16⟩
  | .local _ .vmem, ⟨24, _⟩ => ⟨S8x256x32, .bf16⟩
  | .local _ .vmem, ⟨25, _⟩ => ⟨S8x256x32, .bf16⟩
  | .local _ .vmem, ⟨26, _⟩ => ⟨S4x80x256, .bf16⟩
  | .local _ .vmem, ⟨27, _⟩ => ⟨S4x80x256, .bf16⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x128, .f32⟩
  | .local _ .vmem, ⟨35, _⟩ => ⟨S256x128, .f32⟩
  | .local _ .vmem, ⟨36, _⟩ => ⟨S256x4096, .bf16⟩
  | .local _ .vmem, ⟨37, _⟩ => ⟨S256x4096, .bf16⟩
  | .local _ .vmem, ⟨38, _⟩ => ⟨S8x256, .f32⟩
  | .local _ .vmem, ⟨39, _⟩ => ⟨S8x256, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v6 : Ref sig .tc := ⟨.hbm, 32, rfl⟩
abbrev main_v7 : Ref sig .tc := ⟨.hbm, 33, rfl⟩
abbrev main_c_1 : Ref sig .tc := ⟨.hbm, 34, rfl⟩
abbrev main_call2_v0 : Ref sig .tc := ⟨.hbm, 35, rfl⟩
abbrev main_call2_c : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_c_1 : Ref sig .tc := ⟨.hbm, 42, rfl⟩
abbrev main_call2_v5 : Ref sig .tc := ⟨.hbm, 43, rfl⟩
abbrev main_call2_v6 : Ref sig .tc := ⟨.hbm, 44, rfl⟩
abbrev main_call2_c_2 : Ref sig .tc := ⟨.hbm, 45, rfl⟩
abbrev main_call2_v7 : Ref sig .tc := ⟨.hbm, 46, rfl⟩
abbrev main_call2_v8 : Ref sig .tc := ⟨.hbm, 47, rfl⟩
abbrev main_call2_c_3 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst : Ref sig .tc := ⟨.hbm, 58, rfl⟩
abbrev main_v11 : Ref sig .tc := ⟨.hbm, 59, rfl⟩
abbrev main_v12 : Ref sig .tc := ⟨.hbm, 60, rfl⟩
abbrev main_cst_2 : Ref sig .tc := ⟨.hbm, 61, rfl⟩
abbrev main_v13 : Ref sig .tc := ⟨.hbm, 62, rfl⟩
abbrev main_v14 : Ref sig .tc := ⟨.hbm, 63, rfl⟩
abbrev main_cst_3 : Ref sig .tc := ⟨.hbm, 64, rfl⟩
abbrev main_v15 : Ref sig .tc := ⟨.hbm, 65, rfl⟩
abbrev main_v16 : Ref sig .tc := ⟨.hbm, 66, rfl⟩
abbrev main_cst_4 : Ref sig .tc := ⟨.hbm, 67, rfl⟩
abbrev main_v17 : Ref sig .tc := ⟨.hbm, 68, rfl⟩
abbrev main_v18 : Ref sig .tc := ⟨.hbm, 69, rfl⟩
abbrev main_cst_5 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_6 : Ref sig .tc := ⟨.hbm, 97, rfl⟩
abbrev main_v45 : Ref sig .tc := ⟨.hbm, 98, rfl⟩
abbrev main_v46 : Ref sig .tc := ⟨.hbm, 99, rfl⟩
abbrev main_cst_7 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_c_8 : Ref sig .tc := ⟨.hbm, 116, rfl⟩
abbrev main_call3_v0 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_c_9 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_c : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_c_0 : Ref sig .tc := ⟨.hbm, 146, rfl⟩
abbrev main_call4_v12 : Ref sig .tc := ⟨.hbm, 147, rfl⟩
abbrev main_call4_v13 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_cst_10 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86_0 : Ref sig .tc := ⟨.hbm, 160, rfl⟩
abbrev main_v86_1 : Ref sig .tc := ⟨.hbm, 161, rfl⟩
abbrev main_v86_2 : Ref sig .tc := ⟨.hbm, 162, rfl⟩
abbrev main_v86_3 : Ref sig .tc := ⟨.hbm, 163, rfl⟩
abbrev main_v86_4 : Ref sig .tc := ⟨.hbm, 164, rfl⟩
abbrev main_v86_5 : Ref sig .tc := ⟨.hbm, 165, rfl⟩
abbrev main_v86_6 : Ref sig .tc := ⟨.hbm, 166, rfl⟩
abbrev main_v86_7 : Ref sig .tc := ⟨.hbm, 167, rfl⟩
abbrev main_v86_8 : Ref sig .tc := ⟨.hbm, 168, rfl⟩
abbrev main_v86_9 : Ref sig .tc := ⟨.hbm, 169, rfl⟩
abbrev main_v86_10 : Ref sig .tc := ⟨.hbm, 170, rfl⟩
abbrev main_v86_11 : Ref sig .tc := ⟨.hbm, 171, rfl⟩
abbrev main_v86_12 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg24_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem24_0 : DmaSem sig := 39

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256x32 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x80x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x4096 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S8x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference3Ideal.lean ====
abbrev S1x16384x1024 : Shape := ⟨3, ![1, 16384, 1024]⟩
abbrev S1x256x1024 : Shape := ⟨3, ![1, 256, 1024]⟩
abbrev S2x6144 : Shape := ⟨2, ![2, 6144]⟩
abbrev S1024 : Shape := ⟨1, ![1024]⟩
abbrev S1024x6432 : Shape := ⟨2, ![1024, 6432]⟩
abbrev S32 : Shape := ⟨1, ![32]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S16384x1024 : Shape := ⟨2, ![16384, 1024]⟩
abbrev S16384 : Shape := ⟨1, ![16384]⟩
abbrev S16384x1 : Shape := ⟨2, ![16384, 1]⟩
abbrev S16640x1024 : Shape := ⟨2, ![16640, 1024]⟩
abbrev S16640x6432 : Shape := ⟨2, ![16640, 6432]⟩
abbrev S16640x256 : Shape := ⟨2, ![16640, 256]⟩
abbrev S16640x4x64 : Shape := ⟨3, ![16640, 4, 64]⟩
abbrev S4x64x16640 : Shape := ⟨3, ![4, 64, 16640]⟩
abbrev S4x1x16640 : Shape := ⟨3, ![4, 1, 16640]⟩
abbrev S4x15x16640 : Shape := ⟨3, ![4, 15, 16640]⟩
abbrev S4x80x16640 : Shape := ⟨3, ![4, 80, 16640]⟩
abbrev S16640x32 : Shape := ⟨2, ![16640, 32]⟩
abbrev S16640x128 : Shape := ⟨2, ![16640, 128]⟩
abbrev S16640x4096 : Shape := ⟨2, ![16640, 4096]⟩

abbrev nBuf : Space → Nat
  | .hbm => 90
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x256x1024, .f32⟩
  | .hbm, ⟨2, _⟩ => ⟨S2x6144, .f32⟩
  | .hbm, ⟨3, _⟩ => ⟨S1024, .f32⟩
  | .hbm, ⟨4, _⟩ => ⟨S1024x6432, .f32⟩
  | .hbm, ⟨5, _⟩ => ⟨S32, .f32⟩
  | .hbm, ⟨6, _⟩ => ⟨S32, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S256x1024, .f32⟩
  | .hbm, ⟨36, _⟩ => ⟨S256x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16640x1024, .f32⟩
  | .hbm, ⟨68, _⟩ => ⟨S16640x6432, .f32⟩
  | .hbm, ⟨69, _⟩ => ⟨S16640x256, .f32⟩
  | .hbm, ⟨70, _⟩ => ⟨S16640x4x64, .f32⟩
  | .hbm, ⟨71, _⟩ => ⟨S4x64x16640, .f32⟩
  | .hbm, ⟨72, _⟩ => ⟨S_, .f32⟩
  | .hbm, ⟨73, _⟩ => ⟨S4x1x16640, .f32⟩
  | .hbm, ⟨74, _⟩ => ⟨S_, .f32⟩
  | .hbm, ⟨75, _⟩ => ⟨S4x15x16640, .f32⟩
  | .hbm, ⟨76, _⟩ => ⟨S4x80x16640, .f32⟩
  | .hbm, ⟨77, _⟩ => ⟨S16640x256, .f32⟩
  | .hbm, ⟨78, _⟩ => ⟨S16640x256, .f32⟩
  | .hbm, ⟨79, _⟩ => ⟨S16640x256, .f32⟩
  | .hbm, ⟨80, _⟩ => ⟨S4x80x16640, .bf16⟩
  | .hbm, ⟨81, _⟩ => ⟨S16640x256, .f32⟩
  | .hbm, ⟨82, _⟩ => ⟨S16640x256, .f32⟩
  | .hbm, ⟨83, _⟩ => ⟨S16640x256, .f32⟩
  | .hbm, ⟨84, _⟩ => ⟨S16640x32, .f32⟩
  | .hbm, ⟨85, _⟩ => ⟨S_, .i32⟩
  | .hbm, ⟨86, _⟩ => ⟨S_, .f32⟩
  | .hbm, ⟨87, _⟩ => ⟨S16640x128, .f32⟩
  | .hbm, ⟨88, _⟩ => ⟨S16640x4096, .f32⟩
  | .hbm, ⟨89, _⟩ => ⟨S16640x4096, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c : Ref sig .tc := ⟨.hbm, 85, rfl⟩
abbrev main_call0_v0 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Kernel4.lean ====
abbrev S1x16384x1024 : Shape := ⟨3, ![1, 16384, 1024]⟩
abbrev S1x256x1024 : Shape := ⟨3, ![1, 256, 1024]⟩
abbrev S2x6144 : Shape := ⟨2, ![2, 6144]⟩
abbrev S16640x256 : Shape := ⟨2, ![16640, 256]⟩
abbrev S256 : Shape := ⟨1, ![256]⟩
abbrev S256x256 : Shape := ⟨2, ![256, 256]⟩
abbrev S64 : Shape := ⟨1, ![64]⟩
abbrev S16640x4096 : Shape := ⟨2, ![16640, 4096]⟩
abbrev S4x256x1024 : Shape := ⟨3, ![4, 256, 1024]⟩
abbrev S1024x1024 : Shape := ⟨2, ![1024, 1024]⟩
abbrev S256x1024 : Shape := ⟨2, ![256, 1024]⟩
abbrev S16384x1024 : Shape := ⟨2, ![16384, 1024]⟩
abbrev S16640x1024 : Shape := ⟨2, ![16640, 1024]⟩
abbrev S2x6x1024 : Shape := ⟨3, ![2, 6, 1024]⟩
abbrev S_ : Shape := ⟨0, ![]⟩
abbrev S2x8x1024 : Shape := ⟨3, ![2, 8, 1024]⟩
abbrev S1x256 : Shape := ⟨2, ![1, 256]⟩
abbrev S1x64 : Shape := ⟨2, ![1, 64]⟩
abbrev S4x64 : Shape := ⟨2, ![4, 64]⟩
abbrev S256x1 : Shape := ⟨2, ![256, 1]⟩
abbrev S1x8x1024 : Shape := ⟨3, ![1, 8, 1024]⟩
abbrev S256x4096 : Shape := ⟨2, ![256, 4096]⟩
abbrev S1x1x1024 : Shape := ⟨3, ![1, 1, 1024]⟩
abbrev S1x1024 : Shape := ⟨2, ![1, 1024]⟩

abbrev nBuf : Space → Nat
  | .hbm => 70
  | .vmem => 35
  | .smem => 0
  | _ => 0

abbrev bufTy : (tb : Table) → Fin (tcTables nBuf tb) → BufTy
  | .hbm, ⟨0, _⟩ => ⟨S1x16384x1024, .f32⟩
  | .hbm, ⟨1, _⟩ => ⟨S1x256x1024, .f32⟩
  | .hbm, ⟨2, _⟩ => ⟨S2x6144, .f32⟩
  | .hbm, ⟨3, _⟩ => ⟨S16640x256, .f32⟩
  | .hbm, ⟨4, _⟩ => ⟨S16640x256, .f32⟩
  | .hbm, ⟨5, _⟩ => ⟨S16640x256, .f32⟩
  | .hbm, ⟨6, _⟩ => ⟨S256, .f32⟩
  | .hbm, ⟨7, _⟩ => ⟨S256x256, .f32⟩
  | .hbm, ⟨8, _⟩ => ⟨S16640x256, .f32⟩
  | .hbm, ⟨9, _⟩ => ⟨S16640x256, .f32⟩
  | .hbm, ⟨10, _⟩ => ⟨S16640x256, .f32⟩
  | .hbm, ⟨11, _⟩ => ⟨S16640x256, .f32⟩
  | .hbm, ⟨12, _⟩ => ⟨S64, .f32⟩
  | .hbm, ⟨13, _⟩ => ⟨S16640x256, .f32⟩
  | .hbm, ⟨14, _⟩ => ⟨S16640x256, .f32⟩
  | .hbm, ⟨15, _⟩ => ⟨S16640x256, .f32⟩
  | .hbm, ⟨16, _⟩ => ⟨S64, .f32⟩
  | .hbm, ⟨17, _⟩ => ⟨S16640x4096, .f32⟩
  | .hbm, ⟨18, _⟩ => ⟨S4x256x1024, .f32⟩
  | .hbm, ⟨19, _⟩ => ⟨S1024x1024, .f32⟩
  | .hbm, ⟨20, _⟩ => ⟨S256x1024, .f32⟩
  | .hbm, ⟨21, _⟩ => ⟨S16384x1024, .f32⟩
  | .hbm, ⟨22, _⟩ => ⟨S16640x1024, .f32⟩
  | .hbm, ⟨23, _⟩ => ⟨S2x6x1024, .f32⟩
  | .hbm, ⟨24, _⟩ => ⟨S_, .i32⟩
  | .hbm, ⟨25, _⟩ => ⟨S_, .f32⟩
  | .hbm, ⟨26, _⟩ => ⟨S2x8x1024, .f32⟩
  | .hbm, ⟨27, _⟩ => ⟨S1x256, .f32⟩
  | .hbm, ⟨28, _⟩ => ⟨S256x256, .bf16⟩
  | .hbm, ⟨29, _⟩ => ⟨S1x64, .f32⟩
  | .hbm, ⟨30, _⟩ => ⟨S4x64, .f32⟩
  | .hbm, ⟨31, _⟩ => ⟨S256, .f32⟩
  | .hbm, ⟨32, _⟩ => ⟨S1x256, .f32⟩
  | .hbm, ⟨33, _⟩ => ⟨S1x64, .f32⟩
  | .hbm, ⟨34, _⟩ => ⟨S4x64, .f32⟩
  | .hbm, ⟨35, _⟩ => ⟨S256, .f32⟩
  | .hbm, ⟨36, _⟩ => ⟨S1x256, .f32⟩
  | .hbm, ⟨37, _⟩ => ⟨S256, .i32⟩
  | .hbm, ⟨38, _⟩ => ⟨S_, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S256, .i1⟩
  | .hbm, ⟨52, _⟩ => ⟨S_, .i32⟩
  | .hbm, ⟨53, _⟩ => ⟨S256, .i32⟩
  | .hbm, ⟨54, _⟩ => ⟨S256, .i32⟩
  | .hbm, ⟨55, _⟩ => ⟨S256, .i32⟩
  | .hbm, ⟨56, _⟩ => ⟨S256x1, .i32⟩
  | .hbm, ⟨57, _⟩ => ⟨S1x256, .i32⟩
  | .hbm, ⟨58, _⟩ => ⟨S256x256, .i32⟩
  | .hbm, ⟨59, _⟩ => ⟨S256x256, .i32⟩
  | .hbm, ⟨60, _⟩ => ⟨S256x256, .i1⟩
  | .hbm, ⟨61, _⟩ => ⟨S256x256, .f32⟩
  | .hbm, ⟨62, _⟩ => ⟨S_, .f32⟩
  | .hbm, ⟨63, _⟩ => ⟨S256x256, .f32⟩
  | .hbm, ⟨64, _⟩ => ⟨S256x256, .f32⟩
  | .hbm, ⟨65, _⟩ => ⟨S256x256, .bf16⟩
  | .hbm, ⟨66, _⟩ => ⟨S16640x4096, .bf16⟩
  | .hbm, ⟨67, _⟩ => ⟨S4x256x1024, .bf16⟩
  | .hbm, ⟨68, _⟩ => ⟨S1024x1024, .bf16⟩
  | .hbm, ⟨69, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x256, .f32⟩
  | .local _ .vmem, ⟨11, _⟩ => ⟨S256x256, .bf16⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S1x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S1x256, .f32⟩
  | .local _ .vmem, ⟨28, _⟩ => ⟨S256x256, .bf16⟩
  | .local _ .vmem, ⟨29, _⟩ => ⟨S256x4096, .bf16⟩
  | .local _ .vmem, ⟨30, _⟩ => ⟨S256x4096, .bf16⟩
  | .local _ .vmem, ⟨31, _⟩ => ⟨S4x256x1024, .bf16⟩
  | .local _ .vmem, ⟨32, _⟩ => ⟨S1024x1024, .bf16⟩
  | .local _ .vmem, ⟨33, _⟩ => ⟨S256x1024, .f32⟩
  | .local _ .vmem, ⟨34, _⟩ => ⟨S256x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S4x256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S1x16384x1024 : Shape := ⟨3, ![1, 16384, 1024]⟩
abbrev S1x256x1024 : Shape := ⟨3, ![1, 256, 1024]⟩
abbrev S2x6144 : Shape := ⟨2, ![2, 6144]⟩
abbrev S16640x256 : Shape := ⟨2, ![16640, 256]⟩
abbrev S256 : Shape := ⟨1, ![256]⟩
abbrev S256x256 : Shape := ⟨2, ![256, 256]⟩
abbrev S64 : Shape := ⟨1, ![64]⟩
abbrev S16640x4096 : Shape := ⟨2, ![16640, 4096]⟩
abbrev S4x256x1024 : Shape := ⟨3, ![4, 256, 1024]⟩
abbrev S1024x1024 : Shape := ⟨2, ![1024, 1024]⟩
abbrev S1x256 : Shape := ⟨2, ![1, 256]⟩
abbrev S_ : Shape := ⟨0, ![]⟩
abbrev S16640x4x64 : Shape := ⟨3, ![16640, 4, 64]⟩
abbrev S16640x4 : Shape := ⟨2, ![16640, 4]⟩
abbrev S16640x4x1 : Shape := ⟨3, ![16640, 4, 1]⟩
abbrev S1x1x64 : Shape := ⟨3, ![1, 1, 64]⟩
abbrev S16640x4x1024 : Shape := ⟨3, ![16640, 4, 1024]⟩
abbrev S16640x1x1024 : Shape := ⟨3, ![16640, 1, 1024]⟩
abbrev S16640x1024 : Shape := ⟨2, ![16640, 1024]⟩
abbrev S256x1024 : Shape := ⟨2, ![256, 1024]⟩
abbrev S1x1024 : Shape := ⟨2, ![1, 1024]⟩
abbrev S1024 : Shape := ⟨1, ![1024]⟩
abbrev S16384x1024 : Shape := ⟨2, ![16384, 1024]⟩

abbrev nBuf : Space → Nat
  | .hbm => 178
  | .vmem => 0
  | .smem => 0
  | _ => 0

abbrev hbmTy0_0 (i : Nat) : BufTy := match i % 128 with
  | 0 => ⟨S1x16384x1024, .f32⟩
  | 1 => ⟨S1x256x1024, .f32⟩
  | 2 => ⟨S2x6144, .f32⟩
  | 3 => ⟨S16640x256, .f32⟩
  | 4 => ⟨S16640x256, .f32⟩
  | 5 => ⟨S16640x256, .f32⟩
  | 6 => ⟨S256, .f32⟩
  | 7 => ⟨S256x256, .f32⟩
  | 8 => ⟨S16640x256, .f32⟩
  | 9 => ⟨S16640x256, .f32⟩
  | 10 => ⟨S16640x256, .f32⟩
  | 11 => ⟨S16640x256, .f32⟩
  | 12 => ⟨S64, .f32⟩
  | 13 => ⟨S16640x256, .f32⟩
  | 14 => ⟨S16640x256, .f32⟩
  | 15 => ⟨S16640x256, .f32⟩
  | 16 => ⟨S64, .f32⟩
  | 17 => ⟨S16640x4096, .f32⟩
  | 18 => ⟨S4x256x1024, .f32⟩
  | 19 => ⟨S1024x1024, .f32⟩
  | 20 => ⟨S1x256, .f32⟩
  | 21 => ⟨S16640x256, .f32⟩
  | 22 => ⟨S16640x256, .f32⟩
  | 23 => ⟨S16640x256, .f32⟩
  | 24 => ⟨S16640x256, .f32⟩
  | 25 => ⟨S16640x256, .f32⟩
  | 26 => ⟨S16640x256, .f32⟩
  | 27 => ⟨S_, .f32⟩
  | 28 => ⟨S16640x256, .f32⟩
  | 29 => ⟨S16640x256, .f32⟩
  | 30 => ⟨S16640x256, .f32⟩
  | 31 => ⟨S_, .f32⟩
  | 32 => ⟨S16640x256, .f32⟩
  | 33 => ⟨S16640x256, .f32⟩
  | 34 => ⟨S16640x256, .f32⟩
  | 35 => ⟨S_, .f32⟩
  | 36 => ⟨S16640x256, .f32⟩
  | 37 => ⟨S16640x256, .f32⟩
  | 38 => ⟨S_, .f32⟩
  | 39 => ⟨S16640x256, .f32⟩
  | 40 => ⟨S16640x256, .f32⟩
  | 41 => ⟨S16640x256, .f32⟩
  | 42 => ⟨S16640x256, .f32⟩
  | 43 => ⟨S16640x256, .f32⟩
  | 44 => ⟨S16640x256, .f32⟩
  | 45 => ⟨S_, .f32⟩
  | 46 => ⟨S16640x256, .f32⟩
  | 47 => ⟨S16640x256, .f32⟩
  | 48 => ⟨S_, .f32⟩
  | 49 => ⟨S16640x256, .f32⟩
  | 50 => ⟨S16640x256, .f32⟩
  | 51 => ⟨S16640x256, .f32⟩
  | 52 => ⟨S16640x256, .f32⟩
  | 53 => ⟨S16640x256, .f32⟩
  | 54 => ⟨S16640x256, .f32⟩
  | 55 => ⟨S_, .f32⟩
  | 56 => ⟨S16640x256, .f32⟩
  | 57 => ⟨S16640x256, .f32⟩
  | 58 => ⟨S16640x256, .f32⟩
  | 59 => ⟨S_, .f32⟩
  | 60 => ⟨S16640x256, .f32⟩
  | 61 => ⟨S16640x256, .f32⟩
  | 62 => ⟨S16640x256, .f32⟩
  | 63 => ⟨S_, .f32⟩
  | 64 => ⟨S16640x256, .f32⟩
  | 65 => ⟨S16640x256, .f32⟩
  | 66 => ⟨S_, .f32⟩
  | 67 => ⟨S16640x256, .f32⟩
  | 68 => ⟨S16640x256, .f32⟩
  | 69 => ⟨S16640x256, .f32⟩
  | 70 => ⟨S16640x256, .f32⟩
  | 71 => ⟨S16640x4x64, .f32⟩
  | 72 => ⟨S16640x4x64, .f32⟩
  | 73 => ⟨S_, .f32⟩
  | 74 => ⟨S16640x4, .f32⟩
  | 75 => ⟨S16640x4x1, .f32⟩
  | 76 => ⟨S_, .f32⟩
  | 77 => ⟨S16640x4x1, .f32⟩
  | 78 => ⟨S16640x4x1, .f32⟩
  | 79 => ⟨S_, .f32⟩
  | 80 => ⟨S16640x4x1, .f32⟩
  | 81 => ⟨S16640x4x1, .f32⟩
  | 82 => ⟨S16640x4x1, .f32⟩
  | 83 => ⟨S16640x4x64, .f32⟩
  | 84 => ⟨S16640x4x64, .f32⟩
  | 85 => ⟨S1x1x64, .f32⟩
  | 86 => ⟨S16640x4x64, .f32⟩
  | 87 => ⟨S16640x4x64, .f32⟩
  | 88 => ⟨S_, .f32⟩
  | 89 => ⟨S16640x4x64, .f32⟩
  | 90 => ⟨S16640x4x64, .f32⟩
  | 91 => ⟨S16640x256, .f32⟩
  | 92 => ⟨S16640x256, .f32⟩
  | 93 => ⟨S16640x4x64, .f32⟩
  | 94 => ⟨S16640x4x64, .f32⟩
  | 95 => ⟨S_, .f32⟩
  | 96 => ⟨S16640x4, .f32⟩
  | 97 => ⟨S16640x4x1, .f32⟩
  | 98 => ⟨S_, .f32⟩
  | 99 => ⟨S16640x4x1, .f32⟩
  | 100 => ⟨S16640x4x1, .f32⟩
  | 101 => ⟨S_, .f32⟩
  | 102 => ⟨S16640x4x1, .f32⟩
  | 103 => ⟨S16640x4x1, .f32⟩
  | 104 => ⟨S16640x4x1, .f32⟩
  | 105 => ⟨S16640x4x64, .f32⟩
  | 106 => ⟨S16640x4x64, .f32⟩
  | 107 => ⟨S1x1x64, .f32⟩
  | 108 => ⟨S16640x4x64, .f32⟩
  | 109 => ⟨S16640x4x64, .f32⟩
  | 110 => ⟨S16640x256, .f32⟩
  | 111 => ⟨S16640x256, .f32⟩
  | 112 => ⟨S16640x256, .f32⟩
  | 113 => ⟨S_, .f32⟩
  | 114 => ⟨S16640x256, .f32⟩
  | 115 => ⟨S16640x256, .f32⟩
  | 116 => ⟨S_, .f32⟩
  | 117 => ⟨S16640x256, .f32⟩
  | 118 => ⟨S16640x256, .f32⟩
  | 119 => ⟨S16640x256, .f32⟩
  | 120 => ⟨S16640x256, .f32⟩
  | 121 => ⟨S16640x4x1024, .f32⟩
  | 122 => ⟨S16640x4x1024, .f32⟩
  | 123 => ⟨S16640x4x1024, .f32⟩
  | 124 => ⟨S_, .f32⟩
  | 125 => ⟨S16640x4x1024, .f32⟩
  | 126 => ⟨S16640x4x1024, .f32⟩
  | 127 => ⟨S_, .f32⟩
  | _ => ⟨S1x16384x1024, .f32⟩

abbrev hbmTy0_1 (i : Nat) : BufTy := match i % 128 with
  | 0 => ⟨S16640x4x1024, .f32⟩
  | 1 => ⟨S16640x4x1024, .f32⟩
  | 2 => ⟨S16640x1x1024, .f32⟩
  | 3 => ⟨S16640x1024, .f32⟩
  | 4 => ⟨S1x256x1024, .f32⟩
  | 5 => ⟨S256x1024, .f32⟩
  | 6 => ⟨S16640x1024, .f32⟩
  | 7 => ⟨S16640x1024, .f32⟩
  | 8 => ⟨S_, .f32⟩
  | 9 => ⟨S16640x1024, .f32⟩
  | 10 => ⟨S16640x1024, .f32⟩
  | 11 => ⟨S16640x1x1024, .f32⟩
  | 12 => ⟨S16640x1024, .f32⟩
  | 13 => ⟨S1x256x1024, .f32⟩
  | 14 => ⟨S256x1024, .f32⟩
  | 15 => ⟨S16640x1024, .f32⟩
  | 16 => ⟨S16640x1024, .f32⟩
  | 17 => ⟨S16640x1024, .f32⟩
  | 18 => ⟨S16640x1x1024, .f32⟩
  | 19 => ⟨S16640x1024, .f32⟩
  | 20 => ⟨S1x256x1024, .f32⟩
  | 21 => ⟨S256x1024, .f32⟩
  | 22 => ⟨S16640x1024, .f32⟩
  | 23 => ⟨S16640x1024, .f32⟩
  | 24 => ⟨S16640x1024, .f32⟩
  | 25 => ⟨S16640x1x1024, .f32⟩
  | 26 => ⟨S16640x1024, .f32⟩
  | 27 => ⟨S1x256x1024, .f32⟩
  | 28 => ⟨S256x1024, .f32⟩
  | 29 => ⟨S16640x1024, .f32⟩
  | 30 => ⟨S16640x1024, .f32⟩
  | 31 => ⟨S16640x1024, .f32⟩
  | 32 => ⟨S16640x1024, .f32⟩
  | 33 => ⟨S256x1024, .f32⟩
  | 34 => ⟨S1x1024, .f32⟩
  | 35 => ⟨S1024, .f32⟩
  | 36 => ⟨S256x1024, .f32⟩
  | 37 => ⟨S1x1024, .f32⟩
  | 38 => ⟨S256x1024, .f32⟩
  | 39 => ⟨S256x1024, .f32⟩
  | 40 => ⟨S256x1024, .f32⟩
  | 41 => ⟨S16384x1024, .f32⟩
  | 42 => ⟨S1x1024, .f32⟩
  | 43 => ⟨S1024, .f32⟩
  | 44 => ⟨S16384x1024, .f32⟩
  | 45 => ⟨S1x1024, .f32⟩
  | 46 => ⟨S16384x1024, .f32⟩
  | 47 => ⟨S16384x1024, .f32⟩
  | 48 => ⟨S16384x1024, .f32⟩
  | 49 => ⟨S16640x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_cst_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_cst_15 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_call0_v5 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_16 : Ref sig .tc := ⟨.hbm, 124, rfl⟩
abbrev main_v79 : Ref sig .tc := ⟨.hbm, 125, rfl⟩
abbrev main_v80 : Ref sig .tc := ⟨.hbm, 126, rfl⟩
abbrev main_cst_17 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_18 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩

abbrev nD : Nat := 1
abbrev τ : Topo := Topo.v7x

variable {F : FTy → Type} [FloatOps F]
-- ==== Kernel5.lean ====
abbrev S1x1024 : Shape := ⟨2, ![1, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 15
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S1024, .f32⟩
  | .hbm, ⟨10, _⟩ => ⟨S_, .i32⟩
  | .hbm, ⟨11, _⟩ => ⟨S1, .i32⟩
  | .hbm, ⟨12, _⟩ => ⟨S8x1024, .f32⟩
  | .hbm, ⟨13, _⟩ => ⟨S2x1x6144, .f32⟩
  | .hbm, ⟨14, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S1x1024 : Shape := ⟨2, ![1, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S6x1024 : Shape := ⟨2, ![6, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S6x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.FfnRef.lean ====
module

public import proofs.«01_k».proof.Proof.Gen.Reference2Ideal.Read
public import proofs.«01_k».proof.Proof.Gen.Reference2Ideal.Run
public import Idealize.ShloMosaic.Lib.Pipeline.ValueKit
public import Idealize.ShloMosaic.Lib.Pointwise

/-! The conv-FFN as a formula over the extended reals, row by row, and the reference read as that formula. -/

@[expose] public section

set_option maxRecDepth 16384

noncomputable section
open Idealize.ShloMosaic Idealize.ShloMosaic.TcCoe Idealize.SL.Sem

namespace Cert.Ffn

/-- Root-mean-square normalisation of one row, its gain, and the conditioning's scale and shift. -/
def modNorm (x g sc sh : Fin 1024 → EReal) (k : Fin 1024) : EReal :=
  x k * Ideal.rsqrt (Ideal.div (∑ l, x l * x l) (Ideal.ofBits .f32 0x44800000#32) + Ideal.ofBits .f32 0x358637BD#32)
    * g k * (1 + sc k) + sh k

/-- The row before row `R`, zero before the first. -/
def before (g : Fin 16384 → EReal) (R : Fin 16384) : EReal := if h : 1 ≤ R.val then g ⟨R.val - 1, by omega⟩ else 0

/-- The row after row `R`, zero after the last. -/
def after (g : Fin 16384 → EReal) (R : Fin 16384) : EReal := if h : R.val + 1 < 16384 then g ⟨R.val + 1, h⟩ else 0

/-- The depthwise convolution of width three of one channel at row `R`. -/
def conv3 (g : Fin 16384 → EReal) (w : Fin 3 → EReal) (b : EReal) (R : Fin 16384) : EReal :=
  w 0 * before g R + w 1 * g R + w 2 * after g R + b

/-- The tanh form of GELU. -/
def gelu (y : EReal) : EReal :=
  y * (Ideal.ofBits .f32 0x3F000000#32 * (1 + Ideal.tanh (Ideal.ofBits .f32 0x3F4C422A#32 * (y + Ideal.ofBits .f32 0x3D372713#32 * (y * (y * y))))))

/-- One entry of the layer: residual plus gated feed-forward, `x` the latent rows, `h` their normalised form. -/
def ffn (x h : Fin 16384 → Fin 1024 → EReal) (g2 : Fin 1024 → EReal) (wa wg : Fin 1024 → Fin 2816 → EReal)
    (cw : Fin 3 → Fin 2816 → EReal) (cb : Fin 2816 → EReal) (wd : Fin 2816 → Fin 1024 → EReal) (R : Fin 16384) (k : Fin 1024) : EReal :=
  x R k + g2 k * ∑ f, gelu (conv3 (fun R => ∑ c, h R c * wg c f) (fun d => cw d f) (cb f) R) * (∑ c, h R c * wa c f) * wd f k

end Cert.Ffn

namespace Cert.Reference2Ideal.Ffn
open Cert.Reference2Ideal Cert.Reference2Ideal.Read Cert.Ffn

variable (x0 : FVec Ideal S1x16384x1024 .f32) (x2 : FVec Ideal S2x6144 .f32) (x3 : FVec Ideal S1024 .f32)
  (x4 : FVec Ideal S1024x5632 .f32) (x5 : FVec Ideal S3x2816 .f32) (x6 : FVec Ideal S2816 .f32) (x7 : FVec Ideal S2816x1024 .f32)

/-- The latents, as rows. -/
def X (R : Fin 16384) (k : Fin 1024) : EReal := x0 (ix3 0 R k)
/-- The normalised and modulated latents, as rows. -/
def H (R : Fin 16384) (k : Fin 1024) : EReal :=
  modNorm (X x0 R) (fun k => x3 (ix1 k)) (fun k => x2 (ix2 1 ⟨4096 + k.val, by omega⟩)) (fun k => x2 (ix2 1 ⟨3072 + k.val, by omega⟩)) k

/-- The whole call's result at one entry, over the argument arrays. -/
def out (R : Fin 16384) (k : Fin 1024) : EReal :=
  ffn (X x0) (H x0 x2 x3) (fun k => x2 (ix2 1 ⟨5120 + k.val, by omega⟩)) (fun c f => x4 (ix2 c ⟨f.val, by omega⟩))
    (fun c f => x4 (ix2 c ⟨2816 + f.val, by omega⟩)) (fun d f => x5 (ix2 d f)) (fun f => x6 (ix1 f)) (fun f k => x7 (ix2 f k)) R k

theorem v27_at (R : Fin 16384) (k : Fin 1024) : val_main_v27 (F := Ideal) x0 x2 x3 (ix2 R k) = H x0 x2 x3 R k := by
  pointwise [val_main_v0, val_main_v1, val_main_v2, val_main_v3, val_main_v4, val_main_v5, val_main_v6, val_main_v7, val_main_cst, val_main_v8, val_main_v9,
    val_main_cst_0, val_main_v10, val_main_v11, val_main_cst_1, val_main_v12, val_main_v13, val_main_v14, val_main_v15, val_main_v16, val_main_v17,
    val_main_v18, val_main_v19, val_main_cst_2, val_main_v20, val_main_v21, val_main_v22, val_main_v23, val_main_v24, val_main_v25, val_main_v26,
    val_main_v27]
  rfl

theorem v28_at (R : Fin 16384) (f : Fin 5632) : val_main_v28 (F := Ideal) x0 x2 x3 x4 (ix2 R f) = ∑ c, H x0 x2 x3 R c * x4 (ix2 c f) := by
  pointwise [val_main_v28]
  exact Finset.sum_congr rfl fun c _ => by rw [v27_at]

/-- The gate's pre-activation at a row. -/
def G (f : Fin 2816) (R : Fin 16384) : EReal := ∑ c, H x0 x2 x3 R c * x4 (ix2 c ⟨2816 + f.val, by omega⟩)

theorem v31_at (R : Fin 16386) (f : Fin 2816) : val_main_v31 (F := Ideal) x0 x2 x3 x4 (ix2 R f)
    = if h : 1 ≤ R.val ∧ R.val - 1 < 16384 then G x0 x2 x3 x4 f ⟨R.val - 1, h.2⟩ else 0 := by
  pointwise [val_main_v31, val_main_v30]
  split
  · rw [v28_at]; rfl
  · pointwise [val_main_call0_v0, val_main_c]
    show (((0#32).toInt : ℝ) : EReal) = 0
    simp

theorem pad0 (R : Fin 16384) (f : Fin 2816) (h) : val_main_v31 (F := Ideal) x0 x2 x3 x4 (ix2 ⟨R.val, h⟩ f) = before (G x0 x2 x3 x4 f) R := by
  rw [v31_at, before]
  by_cases h1 : 1 ≤ R.val
  · rw [dif_pos ⟨h1, by show R.val - 1 < 16384; omega⟩, dif_pos h1]
  · rw [dif_neg (fun h => h1 h.1), dif_neg h1]

theorem pad1 (R : Fin 16384) (f : Fin 2816) (h) : val_main_v31 (F := Ideal) x0 x2 x3 x4 (ix2 ⟨1 + R.val, h⟩ f) = G x0 x2 x3 x4 f R := by
  rw [v31_at, dif_pos ⟨by simp, by simp⟩]
  congr 1
  exact Fin.ext (by simp)

theorem pad2 (R : Fin 16384) (f : Fin 2816) (h) : val_main_v31 (F := Ideal) x0 x2 x3 x4 (ix2 ⟨2 + R.val, h⟩ f) = after (G x0 x2 x3 x4 f) R := by
  rw [v31_at, after]
  have e : 2 + R.val - 1 = R.val + 1 := by omega
  by_cases h1 : R.val + 1 < 16384
  · rw [dif_pos ⟨by show 1 ≤ 2 + R.val; omega, by show 2 + R.val - 1 < 16384; omega⟩, dif_pos h1]
    congr 1
    exact Fin.ext e
  · rw [dif_neg (fun h => h1 (by have := h.2; simp only at this; omega)), dif_neg h1]

theorem v73_at (R : Fin 16384) (k : Fin 1024) : val_main_v73 (F := Ideal) x0 x2 x3 x4 x5 x6 x7 (ix2 R k) = out x0 x2 x3 x4 x5 x6 x7 R k := by
  pointwise [val_main_v0, val_main_v1, val_main_v2, val_main_v3, val_main_v4, val_main_v5, val_main_v6, val_main_v7, val_main_cst, val_main_v8, val_main_v9,
    val_main_cst_0, val_main_v10, val_main_v11, val_main_cst_1, val_main_v12, val_main_v13, val_main_v14, val_main_v15, val_main_v16, val_main_v17,
    val_main_v18, val_main_v19, val_main_cst_2, val_main_v20, val_main_v21, val_main_v22, val_main_v23, val_main_v24, val_main_v25, val_main_v26,
    val_main_v29, val_main_v30, val_main_c, val_main_call0_v0, val_main_v32, val_main_v33, val_main_v34, val_main_v35, val_main_v36, val_main_v37,
    val_main_v38, val_main_v39, val_main_v40, val_main_v41, val_main_v42, val_main_v43, val_main_v44, val_main_v45, val_main_v46, val_main_v47,
    val_main_v48, val_main_v49, val_main_v50, val_main_v51, val_main_v52, val_main_v53, val_main_v54, val_main_v55, val_main_v56, val_main_cst_3,
    val_main_v57, val_main_v58, val_main_v59, val_main_cst_4, val_main_v60, val_main_v61, val_main_v62, val_main_cst_5, val_main_v63, val_main_v64,
    val_main_cst_6, val_main_v65, val_main_v66, val_main_v67, val_main_v68, val_main_v69, val_main_v70, val_main_v71, val_main_v72, val_main_v73]
  have cube (y : EReal) : y * y * y = y * (y * y) := mul_assoc y y y
  simp only [pad0, pad1, pad2, v28_at, cube]
  rfl

end Cert.Reference2Ideal.Ffn
end
-- ==== Proof.FfnPoint.lean ====
module

public import proofs.«01_k».proof.Proof.Gen.Kernel2Ideal.Value
public import proofs.«01_k».proof.Proof.FfnRef
public import Idealize.ShloMosaic.Lib.Pipeline.ValueKit
public import Idealize.ShloMosaic.Lib.Pointwise
public import Idealize.ShloMosaic.Lib.Claim

/-! The conv-FFN kernel: what one grid point leaves in its output block, as the formula of `FfnRef`. -/

@[expose] public section

set_option maxRecDepth 16384

noncomputable section
open Idealize.ShloMosaic Idealize.ShloMosaic.TcCoe Idealize.SL.Sem
open Idealize.ShloMosaic.Pipeline (Dat)

namespace Cert.Kernel2Ideal.Ffn
open Cert.Kernel2Ideal Cert.Kernel2Ideal.Gen Cert.Ffn

/-- The staged rows: eight of the tile before, the tile, eight of the tile after. -/
def stage (A : FVec Ideal S8x1024 .f32) (B : FVec Ideal S256x1024 .f32) (C : FVec Ideal S8x1024 .f32) : FVec Ideal S272x1024 .f32 := fun y =>
  if h : (y 0).val < 8 then A (ix2 ⟨(y 0).val, h⟩ (y 1))
  else if h' : (y 0).val - 8 < 256 then B (ix2 ⟨(y 0).val - 8, h'⟩ (y 1))
  else C (ix2 ⟨(y 0).val - 264, by have : (y 0).val < 272 := (y 0).isLt; omega⟩ (y 1))

/-- The scratch's three stores, newest first. -/
abbrev pieces (A : FVec Ideal S8x1024 .f32) (B : FVec Ideal S256x1024 .f32) (C : FVec Ideal S8x1024 .f32) : List (View.Piece (Elt Ideal) S272x1024 .f32) :=
  [⟨Rect.unit ![264, 0] ![8, 1024] inb_S272x1024_S8x1024_264_0, C⟩, ⟨Rect.unit ![8, 0] ![256, 1024] inb_S272x1024_S256x1024_8_0, B⟩,
    ⟨Rect.unit ![0, 0] ![8, 1024] inb_S272x1024_S8x1024_0_0, A⟩]

theorem cover (A : FVec Ideal S8x1024 .f32) (B : FVec Ideal S256x1024 .f32) (C : FVec Ideal S8x1024 .f32) (y : S272x1024.Idx) :
    ∃ p ∈ pieces A B C, y ∈ p.1.set := by
  have h0 : (y 0).val < 272 := (y 0).isLt
  have h1 : (y 1).val < 1024 := (y 1).isLt
  by_cases h : (y 0).val < 8
  · exact ⟨_, .tail _ (.tail _ (.head _)), (Rect.mem_set_unit (inb := inb_S272x1024_S8x1024_0_0)).mpr
      (Fin.forall_fin_two.mpr ⟨⟨Nat.zero_le _, by simpa using h⟩, ⟨Nat.zero_le _, by simpa using h1⟩⟩)⟩
  by_cases h' : (y 0).val < 264
  · exact ⟨_, .tail _ (.head _), (Rect.mem_set_unit (inb := inb_S272x1024_S256x1024_8_0)).mpr
      (Fin.forall_fin_two.mpr ⟨⟨by simpa using h, by simpa using h'⟩, ⟨Nat.zero_le _, by simpa using h1⟩⟩)⟩
  · exact ⟨_, .head _, (Rect.mem_set_unit (inb := inb_S272x1024_S8x1024_264_0)).mpr
      (Fin.forall_fin_two.mpr ⟨⟨by simpa using h', by simpa using h0⟩, ⟨Nat.zero_le _, by simpa using h1⟩⟩)⟩

theorem stage_canon (A : FVec Ideal S8x1024 .f32) (B : FVec Ideal S256x1024 .f32) (C : FVec Ideal S8x1024 .f32) (y : S272x1024.Idx) :
    View.canon (pieces A B C) y = stage A B C y := by
  canon_tiles x h using (cover A B C y)
  · show C x = _
    rw [stage, dif_neg (by omega), dif_neg (by omega)]
    blk_ext
  · show B x = _
    rw [stage, dif_neg (by omega), dif_pos (by omega)]
    blk_ext
  · show A x = _
    rw [stage, dif_pos (by omega)]
    blk_ext

/-- Loading the whole of the scratch after the three stores reads the staged rows. -/
theorem stage_load (A : FVec Ideal S8x1024 .f32) (B : FVec Ideal S256x1024 .f32) (C : FVec Ideal S8x1024 .f32) :
    (View.whole cc0_scratch0).readCov (Val := Elt Ideal) (pieces A B C)
      (Rect.unit ![0, 0] ![272, 1024] inb_S272x1024_S272x1024_0_0).toLoadRect = stage A B C :=
  (View.readCov_eq_canon_ld (Val := Elt Ideal) (View.whole cc0_scratch0) (pieces A B C) _ (cover A B C)).trans
    ((View.ld_unit_zero (by decide) _ _).trans (funext (stage_canon A B C)))

/-- The gate scratch's one store. -/
abbrev gatePieces (Z : FVec Ideal S272x2816 .f32) : List (View.Piece (Elt Ideal) S272x2816 .f32) :=
  [⟨Rect.unit ![0, 0] ![272, 2816] inb_S272x2816_S272x2816_0_0, Z⟩]

theorem gate_cover (Z : FVec Ideal S272x2816 .f32) (y : S272x2816.Idx) : ∃ p ∈ gatePieces Z, y ∈ p.1.set := by
  have h0 : (y 0).val < 272 := (y 0).isLt
  have h1 : (y 1).val < 2816 := (y 1).isLt
  exact ⟨_, .head _, (Rect.mem_set_unit (inb := inb_S272x2816_S272x2816_0_0)).mpr
    (Fin.forall_fin_two.mpr ⟨⟨Nat.zero_le _, by simpa using h0⟩, ⟨Nat.zero_le _, by simpa using h1⟩⟩)⟩

theorem gate_canon (Z : FVec Ideal S272x2816 .f32) : View.canon (gatePieces Z) = Z := by
  funext y
  canon_tiles x h using (gate_cover Z y)
  show Z x = _
  blk_ext

/-- A load of the gate's scratch after its one store. -/
theorem gate_load (Z : FVec Ideal S272x2816 .f32) (r : Rect S272x2816) :
    (View.whole cc0_scratch1).readCov (Val := Elt Ideal) (gatePieces Z) r.toLoadRect = View.ld Z r := by
  rw [View.readCov_eq_canon_ld (Val := Elt Ideal) (View.whole cc0_scratch1) (gatePieces Z) r (gate_cover Z), gate_canon]
  rfl

theorem pay7_at (v0 : FVec Ideal S1x8x1024 .f32) (v2 : FVec Ideal S1x1024 .f32) (v12 : FVec Ideal S256x1024 .f32) (r : Fin 256) (k : Fin 1024) :
    k0_pay7 (F := Ideal) v0 v2 v12 (ix2 r k) = modNorm (fun k => v12 (ix2 r k)) (fun k => v2 (ix2 0 k)) (fun k => v0 (ix3 0 4 k)) (fun k => v0 (ix3 0 3 k)) k := by
  pointwise [k0_pay7, k0_pay6, k0_pay3, k0_pay2]
  rfl

/-- One entry of the staged rows times the gate's weights. -/
def rowDot (Z : FVec Ideal S272x1024 .f32) (W : FVec Ideal S1024x2816 .bf16) (e : Fin 272) (f : Fin 2816) : EReal :=
  ∑ k, (Z (ix2 e k) : EReal) * (W (ix2 k f) : EReal)

theorem pay15_at (Z : FVec Ideal S272x1024 .f32) (W : FVec Ideal S1024x2816 .bf16) (e : Fin 272) (f : Fin 2816) :
    k0_pay15 (F := Ideal) Z W (ix2 e f) = rowDot Z W e f := by
  pointwise [k0_pay15]
  rfl

theorem pay11 (v : FVec Ideal S256x1024 .f32) : k0_pay11 (F := Ideal) v = v := by
  funext y
  idx_vars y
  pointwise [k0_pay11]

theorem prev_at (v0 : FVec Ideal S1x8x1024 .f32) (v2 : FVec Ideal S1x1024 .f32) (z : Ideal .f32) (v : FVec Ideal S8x1024 .f32) (r : Fin 8) (k : Fin 1024) :
    k0_pay10 (k0_pay2 v0) (k0_pay3 v2) z (k0_pay8 v) (k0_pay9 v) (ix2 r k)
      = modNorm (fun k => v (ix2 r k)) (fun k => v2 (ix2 0 k)) (fun k => v0 (ix3 0 4 k)) (fun k => v0 (ix3 0 3 k)) k * z := by
  pointwise [k0_pay10, k0_pay8, k0_pay9, k0_pay3, k0_pay2]
  rfl

theorem next_at (v0 : FVec Ideal S1x8x1024 .f32) (v2 : FVec Ideal S1x1024 .f32) (z : Ideal .f32) (v : FVec Ideal S8x1024 .f32) (r : Fin 8) (k : Fin 1024) :
    k0_pay14 (k0_pay12 (k0_pay2 v0) (k0_pay3 v2) v) (k0_pay13 z) (ix2 r k)
      = modNorm (fun k => v (ix2 r k)) (fun k => v2 (ix2 0 k)) (fun k => v0 (ix3 0 4 k)) (fun k => v0 (ix3 0 3 k)) k * z := by
  pointwise [k0_pay14, k0_pay13, k0_pay12, k0_pay3, k0_pay2]
  rfl

/-- The point's stores, over its blocks, the normalised tile `hn` and the gate's staged rows `Z`. -/
theorem core (b0 : FVec Ideal S256x1024 .f32) (b3 : FVec Ideal S1x8x1024 .f32) (b5 : FVec Ideal S1024x2816 .bf16) (b7 : FVec Ideal S3x2816 .f32)
    (b8 : FVec Ideal S1x2816 .f32) (b9 : FVec Ideal S2816x1024 .bf16) (Z : FVec Ideal S272x2816 .f32) (hn : FVec Ideal S256x1024 .f32) (r : Fin 256) (k : Fin 1024) :
    k0_pay1 (k0_pay2 b3) (k0_pay6 b0) (k0_pay16 b8 (View.ld b7 (Rect.unit (s := S3x2816) ![0, 0] ![1, 2816] inb_S3x2816_S1x2816_0_0))
        (View.ld Z (Rect.unit (s := S272x2816) ![7, 0] ![256, 2816] inb_S272x2816_S256x2816_7_0))
        (View.ld b7 (Rect.unit (s := S3x2816) ![1, 0] ![1, 2816] inb_S3x2816_S1x2816_1_0))
        (View.ld Z (Rect.unit (s := S272x2816) ![8, 0] ![256, 2816] inb_S272x2816_S256x2816_8_0))
        (View.ld b7 (Rect.unit (s := S3x2816) ![2, 0] ![1, 2816] inb_S3x2816_S1x2816_2_0))
        (View.ld Z (Rect.unit (s := S272x2816) ![9, 0] ![256, 2816] inb_S272x2816_S256x2816_9_0))) (k0_pay17 hn) b5 b9 (ix2 r k)
    = b0 (ix2 r k) + b3 (ix3 0 5 k) * ∑ f, gelu (b7 (ix2 0 f) * Z (ix2 ⟨7 + r.val, by omega⟩ f)
        + b7 (ix2 1 f) * Z (ix2 ⟨8 + r.val, by omega⟩ f) + b7 (ix2 2 f) * Z (ix2 ⟨9 + r.val, by omega⟩ f) + b8 (ix2 0 f))
        * (∑ c, hn (ix2 r c) * b5 (ix2 c f)) * b9 (ix2 f k) := by
  pointwise [k0_pay1, k0_pay2, k0_pay6, k0_pay16, k0_pay17]
  simp only [gelu, add_comm (b8 (ix2 0 _) : EReal)]

variable (m : (ℓ : Loc nD τ sig) → Buf (Elt Ideal) ℓ) (c : Dev nD)

theorem idx : ∀ t : Fin cfg0.N, 1 ≤ t.val →
    win0_0.index t = ![t.val, 0] ∧ win0_1.index t = ![32 * t.val - 1, 0] ∧ win0_2.index t = ![min (32 * (t.val + 1)) 2079, 0]
    ∧ win0_3.index t = ![1, 0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val - 1, 0] :=
  (by decide +kernel : ∀ t : Fin grid0.N, _)

theorem flush_pos : ∀ t : Fin cfg0.N, (cfg0.win 10).flush t = true → 1 ≤ t.val := (by decide +kernel : ∀ t : Fin grid0.N, _)

abbrev arg0 := m ((c.tc : Thread nD τ).loc main_arg0)
abbrev arg2 := m ((c.tc : Thread nD τ).loc main_arg2)
abbrev arg3 := m ((c.tc : Thread nD τ).loc main_arg3)
abbrev arg4 := m ((c.tc : Thread nD τ).loc main_arg4)
abbrev arg5 := m ((c.tc : Thread nD τ).loc main_arg5)
abbrev arg6 := m ((c.tc : Thread nD τ).loc main_arg6)
abbrev arg7 := m ((c.tc : Thread nD τ).loc main_arg7)

theorem V2 (R : Fin 16384) (k : Fin 1024) : (V m c main_v2 : FVec Ideal S16640x1024 .f32) (ix2 ⟨256 + R.val, by omega⟩ k) = arg0 m c (ix3 0 R k) := by
  simp only [V, hostOps0, hostOps0_1, hostOps0_2, List.flatten_cons, List.flatten_nil, List.append_nil, List.cons_append, List.nil_append]
  entry_read
  pointwise

theorem V4 (d : Fin 6) (k : Fin 1024) : (V m c main_v4 : FVec Ideal S2x8x1024 .f32) (ix3 1 ⟨d.val, by omega⟩ k) = arg2 m c (ix2 1 ⟨d.val * 1024 + k.val, by omega⟩) := by
  simp only [V, hostOps0, hostOps0_1, hostOps0_2, List.flatten_cons, List.flatten_nil, List.append_nil, List.cons_append, List.nil_append]
  entry_read
  simp only [StableHlo.TRef.ofBuf_toBuf]
  change pad S2x8x1024 ![0, 0, 0] ![0, 2, 0] ![0, 0, 0] (shapeCast S2x6x1024 (arg2 m c : FVec Ideal S2x6144 .f32) shapeCasts_S2x6144_S2x6x1024) _ pads_S2x6x1024_S2x8x1024_000_020_000 h_S_ (ix3 1 ⟨d.val, by omega⟩ k) = _
  pointwise

theorem V5 (k : Fin 1024) : (V m c main_v5 : FVec Ideal S1x1024 .f32) (ix2 0 k) = arg3 m c (ix1 k) := by
  simp only [V, hostOps0, hostOps0_1, hostOps0_2, List.flatten_cons, List.flatten_nil, List.append_nil, List.cons_append, List.nil_append]
  entry_read
  pointwise

theorem V7 (k : Fin 1024) (f : Fin 2816) : (V m c main_v7 : FVec Ideal S1024x2816 .bf16) (ix2 k f) = arg4 m c (ix2 k ⟨f.val, by omega⟩) := by
  simp only [V, hostOps0, hostOps0_1, hostOps0_2, List.flatten_cons, List.flatten_nil, List.append_nil, List.cons_append, List.nil_append]
  entry_read
  pointwise

theorem V9 (k : Fin 1024) (f : Fin 2816) : (V m c main_v9 : FVec Ideal S1024x2816 .bf16) (ix2 k f) = arg4 m c (ix2 k ⟨2816 + f.val, by omega⟩) := by
  simp only [V, hostOps0, hostOps0_1, hostOps0_2, List.flatten_cons, List.flatten_nil, List.append_nil, List.cons_append, List.nil_append]
  entry_read
  pointwise

theorem V10 (k : Fin 2816) : (V m c main_v10 : FVec Ideal S1x2816 .f32) (ix2 0 k) = arg6 m c (ix1 k) := by
  simp only [V, hostOps0, hostOps0_1, hostOps0_2, List.flatten_cons, List.flatten_nil, List.append_nil, List.cons_append, List.nil_append]
  entry_read
  pointwise

theorem V11 (k : Fin 1024) (f : Fin 2816) : (V m c main_v11 : FVec Ideal S2816x1024 .bf16) (ix2 f k) = arg7 m c (ix2 f k) := by
  simp only [V, hostOps0, hostOps0_1, hostOps0_2, List.flatten_cons, List.flatten_nil, List.append_nil, List.cons_append, List.nil_append]
  entry_read
  pointwise

variable (t : Fin cfg0.N) (ht : 1 ≤ t.val)
include ht

theorem blk0 (r : Fin 256) (k : Fin 1024) :
    iblk m c 0 t (ix2 r k) = arg0 m c (ix3 0 ⟨256 * (t.val - 1) + r.val, by have := lt_of_lt_of_eq t.isLt N_0; omega⟩ k) := by
  rw [← V2]
  blk_ext [iblk, idx t ht]

theorem blk1 (h2 : 2 ≤ t.val) (k : Fin 1024) :
    iblk m c 1 t (ix2 7 k) = arg0 m c (ix3 0 ⟨256 * (t.val - 1) - 1, by have := lt_of_lt_of_eq t.isLt N_0; omega⟩ k) := by
  rw [← V2]
  blk_ext [iblk, idx t ht]

theorem blk2 (h2 : t.val < 64) (k : Fin 1024) :
    iblk m c 2 t (ix2 0 k) = arg0 m c (ix3 0 ⟨256 * (t.val - 1) + 256, by omega⟩ k) := by
  rw [← V2]
  blk_ext [iblk, idx t ht]

theorem blk3 (d : Fin 6) (k : Fin 1024) :
    iblk m c 3 t (ix3 0 ⟨d.val, by omega⟩ k) = arg2 m c (ix2 1 ⟨d.val * 1024 + k.val, by omega⟩) := by
  rw [← V4]
  blk_ext [iblk, idx t ht]

theorem blk4 (k : Fin 1024) : iblk m c 4 t (ix2 0 k) = arg3 m c (ix1 k) := by
  rw [← V5]
  blk_ext [iblk, idx t ht]

theorem blk5 (k : Fin 1024) (f : Fin 2816) : iblk m c 5 t (ix2 k f) = arg4 m c (ix2 k ⟨f.val, by omega⟩) := by
  rw [← V7]
  blk_ext [iblk, idx t ht]

theorem blk6 (k : Fin 1024) (f : Fin 2816) : iblk m c 6 t (ix2 k f) = arg4 m c (ix2 k ⟨2816 + f.val, by omega⟩) := by
  rw [← V9]
  blk_ext [iblk, idx t ht]

theorem blk7 (d : Fin 3) (f : Fin 2816) : iblk m c 7 t (ix2 d f) = arg5 m c (ix2 d f) := by
  rw [arg5, ← V_main_arg5 m c]
  blk_ext [iblk, idx t ht]

theorem blk8 (f : Fin 2816) : iblk m c 8 t (ix2 0 f) = arg6 m c (ix1 f) := by
  rw [← V10]
  blk_ext [iblk, idx t ht]

theorem blk9 (k : Fin 1024) (f : Fin 2816) : iblk m c 9 t (ix2 f k) = arg7 m c (ix2 f k) := by
  rw [← V11]
  blk_ext [iblk, idx t ht]

theorem ok4 : k0_pay4 (F := Ideal) (grid0.coords t) = if 2 ≤ t.val then 1 else 0 := by
  pointwise [k0_pay4]
  have h : ∀ t : Fin grid0.N, (Scalar.extui (Scalar.cmpi CmpIPredicate.sge (BitVec.ofNat 32 (grid0.coords t 0).val) 2#32) : BitVec 32).toInt = if 2 ≤ t.val then 1 else 0 := by decide +kernel
  rw [h t]
  split <;> simp

theorem ok5 : k0_pay5 (F := Ideal) (grid0.coords t) = if t.val < 64 then 1 else 0 := by
  pointwise [k0_pay5]
  have h : ∀ t : Fin grid0.N, 1 ≤ t.val → (Scalar.extui (Scalar.andi (Scalar.cmpi CmpIPredicate.ne (BitVec.ofNat 32 (grid0.coords t 0).val) 0#32)
    (Scalar.cmpi CmpIPredicate.ne (BitVec.ofNat 32 (grid0.coords t 0).val) 64#32)) : BitVec 32).toInt = if t.val < 64 then 1 else 0 := by decide +kernel
  rw [h t ht]
  split <;> simp

theorem mods3 (k : Fin 1024) : iblk m c 3 t (ix3 0 3 k) = arg2 m c (ix2 1 ⟨3072 + k.val, by omega⟩) := blk3 m c t ht 3 k
theorem mods4 (k : Fin 1024) : iblk m c 3 t (ix3 0 4 k) = arg2 m c (ix2 1 ⟨4096 + k.val, by omega⟩) := blk3 m c t ht 4 k
theorem mods5 (k : Fin 1024) : iblk m c 3 t (ix3 0 5 k) = arg2 m c (ix2 1 ⟨5120 + k.val, by omega⟩) := blk3 m c t ht 5 k

/-- The normalised latents and the gate, as the reference's formula names them, over this program's arguments. -/
abbrev Hk := Cert.Reference2Ideal.Ffn.H (arg0 m c) (arg2 m c) (arg3 m c)
abbrev Gk := Cert.Reference2Ideal.Ffn.G (arg0 m c) (arg2 m c) (arg3 m c) (arg4 m c)

/-- The tile's normalised rows. -/
theorem tile_at (r : Fin 256) (k : Fin 1024) :
    k0_pay7 (F := Ideal) (iblk m c 3 t) (iblk m c 4 t) (iblk m c 0 t) (ix2 r k) = Hk m c ⟨256 * (t.val - 1) + r.val, by have := lt_of_lt_of_eq t.isLt N_0; omega⟩ k := by
  rw [pay7_at]
  simp only [mods3 m c t ht, mods4 m c t ht, blk4 m c t ht, blk0 m c t ht]
  rfl

section Gate
variable (A C : FVec Ideal S8x1024 .f32) (r : Fin 256) (f : Fin 2816)

theorem gate1 : rowDot (stage A (k0_pay7 (iblk m c 3 t) (iblk m c 4 t) (iblk m c 0 t)) C) (iblk m c 6 t) ⟨8 + r.val, by omega⟩ f
    = Gk m c f ⟨256 * (t.val - 1) + r.val, by have := lt_of_lt_of_eq t.isLt N_0; omega⟩ := by
  unfold rowDot
  refine Finset.sum_congr rfl fun k _ => ?_
  rw [blk6 m c t ht]
  refine congrArg (· * _) ((?_ : _ = _).trans (tile_at m c t ht r k))
  rw [stage, dif_neg (by show ¬ 8 + r.val < 8; omega), dif_pos (by show 8 + r.val - 8 < 256; omega)]
  blk_ext

theorem gate0 (hA : ∀ k, A (ix2 7 k) = modNorm (fun k => iblk m c 1 t (ix2 7 k)) (fun k => iblk m c 4 t (ix2 0 k)) (fun k => iblk m c 3 t (ix3 0 4 k))
      (fun k => iblk m c 3 t (ix3 0 3 k)) k * k0_pay4 (F := Ideal) (grid0.coords t)) :
    rowDot (stage A (k0_pay7 (iblk m c 3 t) (iblk m c 4 t) (iblk m c 0 t)) C) (iblk m c 6 t) ⟨7 + r.val, by omega⟩ f
    = before (Gk m c f) ⟨256 * (t.val - 1) + r.val, by have := lt_of_lt_of_eq t.isLt N_0; omega⟩ := by
  have hN := lt_of_lt_of_eq t.isLt N_0
  rw [before]
  by_cases hr : 1 ≤ r.val
  · rw [dif_pos (by show 1 ≤ 256 * (t.val - 1) + r.val; omega)]
    refine (Finset.sum_congr rfl fun k _ => ?_).trans ((gate1 m c t ht A C ⟨r.val - 1, by omega⟩ f).trans (congrArg (Gk m c f) (Fin.ext ?_)))
    · refine congrArg (· * _) (congrArg (stage A _ C) ?_)
      exact congrArg (ix2 · k) (Fin.ext (by show 7 + r.val = 8 + (r.val - 1); omega))
    · show 256 * (t.val - 1) + (r.val - 1) = 256 * (t.val - 1) + r.val - 1
      omega
  · have hs (k : Fin 1024) : stage A (k0_pay7 (iblk m c 3 t) (iblk m c 4 t) (iblk m c 0 t)) C (ix2 ⟨7 + r.val, by omega⟩ k) = A (ix2 7 k) := by
      rw [stage, dif_pos (by show 7 + r.val < 8; omega)]
      exact congrArg A (congrArg (ix2 · k) (Fin.ext (by show 7 + r.val = 7; omega)))
    simp only [rowDot, hs, hA, ok4 t ht]
    by_cases h2 : 2 ≤ t.val
    · rw [dif_pos (by show 1 ≤ 256 * (t.val - 1) + r.val; omega)]
      refine Finset.sum_congr rfl fun k _ => ?_
      rw [if_pos h2, mul_one, blk6 m c t ht]
      simp only [mods3 m c t ht, mods4 m c t ht, blk4 m c t ht, blk1 m c t ht h2]
      have e : (⟨256 * (t.val - 1) + r.val - 1, by omega⟩ : Fin 16384) = ⟨256 * (t.val - 1) - 1, by omega⟩ := Fin.ext (by show 256 * (t.val - 1) + r.val - 1 = 256 * (t.val - 1) - 1; omega)
      rw [e]
      rfl
    · rw [dif_neg (by show ¬ 1 ≤ 256 * (t.val - 1) + r.val; omega)]
      simp [h2]

theorem gate2 (hC : ∀ k, C (ix2 0 k) = modNorm (fun k => iblk m c 2 t (ix2 0 k)) (fun k => iblk m c 4 t (ix2 0 k)) (fun k => iblk m c 3 t (ix3 0 4 k))
      (fun k => iblk m c 3 t (ix3 0 3 k)) k * k0_pay5 (F := Ideal) (grid0.coords t)) :
    rowDot (stage A (k0_pay7 (iblk m c 3 t) (iblk m c 4 t) (iblk m c 0 t)) C) (iblk m c 6 t) ⟨9 + r.val, by omega⟩ f
    = after (Gk m c f) ⟨256 * (t.val - 1) + r.val, by have := lt_of_lt_of_eq t.isLt N_0; omega⟩ := by
  have hN := lt_of_lt_of_eq t.isLt N_0
  rw [after]
  by_cases hr : r.val < 255
  · rw [dif_pos (by show 256 * (t.val - 1) + r.val + 1 < 16384; omega)]
    refine (Finset.sum_congr rfl fun k _ => ?_).trans ((gate1 m c t ht A C ⟨r.val + 1, by omega⟩ f).trans (congrArg (Gk m c f) (Fin.ext rfl)))
    refine congrArg (· * _) (congrArg (stage A _ C) ?_)
    exact congrArg (ix2 · k) (Fin.ext (by show 9 + r.val = 8 + (r.val + 1); omega))
  · have hs (k : Fin 1024) : stage A (k0_pay7 (iblk m c 3 t) (iblk m c 4 t) (iblk m c 0 t)) C (ix2 ⟨9 + r.val, by omega⟩ k) = C (ix2 0 k) := by
      rw [stage, dif_neg (by show ¬ 9 + r.val < 8; omega), dif_neg (by show ¬ 9 + r.val - 8 < 256; omega)]
      exact congrArg C (congrArg (ix2 · k) (Fin.ext (by show 9 + r.val - 264 = 0; omega)))
    simp only [rowDot, hs, hC, ok5 t ht]
    by_cases h2 : t.val < 64
    · rw [dif_pos (by show 256 * (t.val - 1) + r.val + 1 < 16384; omega)]
      refine Finset.sum_congr rfl fun k _ => ?_
      rw [if_pos h2, mul_one, blk6 m c t ht]
      simp only [mods3 m c t ht, mods4 m c t ht, blk4 m c t ht, blk2 m c t ht h2]
      have e : (⟨256 * (t.val - 1) + r.val + 1, by omega⟩ : Fin 16384) = ⟨256 * (t.val - 1) + 256, by omega⟩ := Fin.ext (by show 256 * (t.val - 1) + r.val + 1 = 256 * (t.val - 1) + 256; omega)
      rw [e]
      rfl
    · rw [dif_neg (by show ¬ 256 * (t.val - 1) + r.val + 1 < 16384; omega)]
      simp [h2]

end Gate

/-- One grid point past the first leaves its 256 latent rows of the layer's result. -/
theorem point (r : Fin 256) (k : Fin 1024) : outsAt0 m c t (ix2 r k) = Cert.Reference2Ideal.Ffn.out (arg0 m c) (arg2 m c) (arg3 m c) (arg4 m c) (arg5 m c) (arg6 m c) (arg7 m c)
    ⟨256 * (t.val - 1) + r.val, by have := lt_of_lt_of_eq t.isLt N_0; omega⟩ k := by
  have hN := lt_of_lt_of_eq t.isLt N_0
  unfold outsAt0
  frame_out
  rw [stage_load, gate_load, gate_load, gate_load]
  have hA := prev_at (iblk m c 3 t) (iblk m c 4 t) (k0_pay4 (F := Ideal) (grid0.coords t)) (iblk m c 1 t) 7
  have hC := next_at (iblk m c 3 t) (iblk m c 4 t) (k0_pay5 (F := Ideal) (grid0.coords t)) (iblk m c 2 t) 0
  generalize k0_pay10 (F := Ideal) _ _ _ _ _ = A, k0_pay14 (F := Ideal) _ _ = C at hA hC ⊢
  rw [pay11]
  refine (core (iblk m c 0 t) (iblk m c 3 t) (iblk m c 5 t) (iblk m c 7 t) (iblk m c 8 t) (iblk m c 9 t) _ _ r k).trans ?_
  simp only [pay15_at, gate0 m c t ht A C r _ hA, gate1 m c t ht A C r, gate2 m c t ht A C r _ hC, mods5 m c t ht, blk0 m c t ht, blk5 m c t ht, blk7 m c t ht,
    blk8 m c t ht, blk9 m c t ht, tile_at m c t ht]
  rfl

omit t ht in
/-- The whole result array after the run. -/
theorem final : (dats m 0 c).arrAt 10 cfg0.N = (fun y => Cert.Reference2Ideal.Ffn.out (arg0 m c) (arg2 m c) (arg3 m c) (arg4 m c) (arg5 m c) (arg6 m c) (arg7 m c) (y 0) (y 1)
    : FVec Ideal S16384x1024 .f32) := by
  refine (dats m 0 c).arrAt_eq_of_covers 10 _ (by decide +kernel) fun t hf y => ?_
  have ht := flush_pos t hf
  blk_simp
  rw [after0_10]
  idx_vars y
  rw [point m c t ht]
  refine congrArg₂ (Cert.Reference2Ideal.Ffn.out _ _ _ _ _ _ _) (Fin.ext ?_) (Fin.ext ?_)
  · blk_simp [idx t ht]
    show 256 * (t.val - 1) + y0.val = (t.val - 1) * 256 + y0.val
    omega
  · blk_simp [idx t ht]

end Cert.Kernel2Ideal.Ffn
end
-- ==== Proof.AttHost.lean ====
module

public import proofs.«01_k».proof.Proof.Gen.KernelIdeal.Value
public import proofs.«01_k».proof.Proof.Gen.KernelIdeal.Frame
public import Idealize.ShloMosaic.Lib.Pipeline.ValueKit
public import Idealize.ShloMosaic.Lib.StableHlo.RunRead
public import Idealize.ShloMosaic.Lib.Pointwise

/-! The attention kernel's operands: what the host code hands the launch, and each grid point's blocks of it. -/

@[expose] public section

set_option maxRecDepth 16384

noncomputable section
open Idealize.ShloMosaic Idealize.ShloMosaic.TcCoe Idealize.SL.Sem
open Idealize.ShloMosaic.Pipeline (Dat)

namespace Cert.KernelIdeal.Att
open Cert.KernelIdeal Cert.KernelIdeal.Gen

variable (m : (ℓ : Loc nD τ sig) → Buf (Elt Ideal) ℓ) (c : Dev nD)

/-- The queries, keys, values and lambda vectors of the call. -/
abbrev arg0 : FVec Ideal S1x4x2x16384x32 .f32 := m ((c.tc : Thread nD τ).loc main_arg0)
abbrev arg1 : FVec Ideal S1x4x2x16640x32 .f32 := m ((c.tc : Thread nD τ).loc main_arg1)
abbrev arg2 : FVec Ideal S1x4x16640x64 .f32 := m ((c.tc : Thread nD τ).loc main_arg2)
abbrev arg3 : FVec Ideal S4x32 .f32 := m ((c.tc : Thread nD τ).loc main_arg3)

/-- The contents after the first `i` host operations, of a buffer the later ones leave alone. -/
theorem upto_eq (i : ℕ) (W : List (Ref sig .tc)) (r : Ref sig .tc)
    (hW : ((hostOps0 : List (HloOp τ sig (Elt Ideal))).drop i).map HloOp.writes = W.map fun w => {Proc.devRef (τ := τ) .tc w}) (hr : r ∉ W) :
    StableHlo.upto (hostOps0 : List (HloOp τ sig (Elt Ideal))) (fun b => m (c, b)) i (Proc.devRef .tc r) = V m c r := by
  have h := StableHlo.after_unwritten W hW hr (StableHlo.upto (hostOps0 : List (HloOp τ sig (Elt Ideal))) (fun b => m (c, b)) i)
  refine h.symm.trans ?_
  have e : StableHlo.after ((hostOps0 : List (HloOp τ sig (Elt Ideal))).take i ++ hostOps0.drop i) (fun b => m (c, b))
      = StableHlo.after (hostOps0.drop i) (StableHlo.upto hostOps0 (fun b => m (c, b)) i) := by
    have g : ∀ (l₁ l₂ : List (HloOp τ sig (Elt Ideal))) (X : Valuation τ sig (Elt Ideal)),
        StableHlo.after (l₁ ++ l₂) X = StableHlo.after l₂ (StableHlo.after l₁ X) := by
      intro l₁ l₂
      induction l₁ with
      | nil => exact fun _ => rfl
      | cons o l ih => exact fun X => ih _
    exact g _ _ _
  rw [List.take_append_drop] at e
  exact (congrFun e _).symm

theorem V21_eq : @Eq (FVec Ideal S4x80x16640 .bf16) (V m c main_v21) <|
    truncf (F := Ideal) (φ := .f32) .bf16 (concatenate S4x80x16640 1 [⟨S4x64x16640, (V m c main_v17 : FVec Ideal S4x64x16640 .f32)⟩, ⟨S4x1x16640, (V m c main_v18 : FVec Ideal S4x1x16640 .f32)⟩,
      ⟨S4x15x16640, (V m c main_v19 : FVec Ideal S4x15x16640 .f32)⟩] concatenates_S4x64x16640_S4x1x16640_S4x15x16640_S4x80x16640_d1) bitsLt_bf16_f32 := by
  refine (StableHlo.after_last_write (ops := hostOps0) (i := 27) [main_v22, main_v23, main_v24, main_v25, main_v26, main_cst_5, main_v27, main_v28, main_v29, main_v30, main_v31, main_v32, main_v33, main_cst_6, main_v34, main_v35, main_v36, main_cst_7, main_v37, main_v38, main_cst_8, main_v39, main_v40, main_v41] rfl rfl (by decide) _).trans ((StableHlo.unary_result _ _ _ _ _ _).trans ?_)
  refine congrArg (fun x : FVec Ideal S4x80x16640 .f32 => truncf .bf16 x bitsLt_bf16_f32) ?_
  refine (StableHlo.upto_last_write (ops := hostOps0) (n := 27) (i := 26) [] rfl rfl (by decide) _).trans ((StableHlo.nary_result _ _ _ _ _ _).trans ?_)
  have h17 := upto_eq m c 26 [main_v20, main_v21, main_v22, main_v23, main_v24, main_v25, main_v26, main_cst_5, main_v27, main_v28, main_v29, main_v30, main_v31, main_v32, main_v33, main_cst_6, main_v34, main_v35, main_v36, main_cst_7, main_v37, main_v38, main_cst_8, main_v39, main_v40, main_v41] main_v17 rfl (by decide)
  have h18 := upto_eq m c 26 [main_v20, main_v21, main_v22, main_v23, main_v24, main_v25, main_v26, main_cst_5, main_v27, main_v28, main_v29, main_v30, main_v31, main_v32, main_v33, main_cst_6, main_v34, main_v35, main_v36, main_cst_7, main_v37, main_v38, main_cst_8, main_v39, main_v40, main_v41] main_v18 rfl (by decide)
  have h19 := upto_eq m c 26 [main_v20, main_v21, main_v22, main_v23, main_v24, main_v25, main_v26, main_cst_5, main_v27, main_v28, main_v29, main_v30, main_v31, main_v32, main_v33, main_cst_6, main_v34, main_v35, main_v36, main_cst_7, main_v37, main_v38, main_cst_8, main_v39, main_v40, main_v41] main_v19 rfl (by decide)
  rw [← h17, ← h18, ← h19]
  rfl

theorem V41_eq : @Eq (FVec Ideal S1x16 .f32) (V m c main_v41) <|
    shapeCast S1x16 (concatenate S16 0 [⟨S1, (V m c main_v38 : FVec Ideal S1 .f32)⟩, ⟨S8, (V m c main_v14 : FVec Ideal S8 .f32)⟩,
      ⟨S7, (V m c main_v39 : FVec Ideal S7 .f32)⟩] concatenates_S1_S8_S7_S16_d0) shapeCasts_S16_S1x16 := by
  refine (StableHlo.after_last_write (ops := hostOps0) (i := 51) [] rfl rfl (by decide) _).trans ((StableHlo.reshape_result _ _ _ _ _ _ _).trans ?_)
  refine congrArg (fun x : FVec Ideal S16 .f32 => shapeCast S1x16 x shapeCasts_S16_S1x16) ?_
  refine (StableHlo.upto_last_write (ops := hostOps0) (n := 51) (i := 50) [] rfl rfl (by decide) _).trans ((StableHlo.nary_result _ _ _ _ _ _).trans ?_)
  have h1 := upto_eq m c 50 [main_v40, main_v41] main_v38 rfl (by decide)
  have h2 := upto_eq m c 50 [main_v40, main_v41] main_v14 rfl (by decide)
  have h3 := upto_eq m c 50 [main_v40, main_v41] main_v39 rfl (by decide)
  rw [← h1, ← h2, ← h3]
  rfl

/-- The factor the host folds into the queries. -/
abbrev fac : EReal := Ideal.div (FloatOps.ofBits (F := Ideal) .f32 0x3E3504F3#32) (Ideal.log (FloatOps.ofBits (F := Ideal) .f32 0x40000000#32))

theorem V8 (p : Fin 8) (d : Fin 32) (n : Fin 16384) :
    (V m c main_v8 : FVec Ideal S256x16384 .bf16) (ix2 ⟨32 * p.val + d.val, by omega⟩ n)
      = arg0 m c (ix5 0 ⟨p.val / 2, by omega⟩ ⟨p.val % 2, by omega⟩ n d) * fac := by
  simp only [V, hostOps0, List.flatten_cons, List.flatten_nil, List.append_nil, List.cons_append, List.nil_append]
  entry_read
  pointwise
  refine congrArg₂ (· * ·) ?_ rfl
  refine congrArg (arg0 m c) ?_
  have e1 : (⟨(32 * p.val + d.val) / 64, by omega⟩ : Fin 4) = ⟨p.val / 2, by omega⟩ := Fin.ext (by simp only []; omega)
  have e2 : (⟨(32 * p.val + d.val) / 32 % 2, by omega⟩ : Fin 2) = ⟨p.val % 2, by omega⟩ := Fin.ext (by simp only []; omega)
  have e3 : (⟨(32 * p.val + d.val) % 32, by omega⟩ : Fin 32) = d := Fin.ext (by simp only []; omega)
  exact (congrArg (fun a : Fin 4 => ix5 (0 : Fin 1) a _ n _) e1).trans ((congrArg (fun a : Fin 2 => ix5 (0 : Fin 1) _ a n _) e2).trans (congrArg (fun a : Fin 32 => ix5 (0 : Fin 1) _ _ n a) e3))

theorem V15 (p : Fin 8) (k : Fin 16640) (d : Fin 32) :
    (V m c main_v15 : FVec Ideal S8x16640x32 .bf16) (ix3 p k d)
      = arg1 m c (ix5 0 ⟨p.val / 2, by omega⟩ ⟨p.val % 2, by omega⟩ k d) := by
  simp only [V, hostOps0, List.flatten_cons, List.flatten_nil, List.append_nil, List.cons_append, List.nil_append]
  entry_read
  pointwise

theorem V17 (h : Fin 4) (r : Fin 64) (k : Fin 16640) :
    (V m c main_v17 : FVec Ideal S4x64x16640 .f32) (ix3 h r k) = arg2 m c (ix4 0 h k r) := by
  simp only [V, hostOps0, List.flatten_cons, List.flatten_nil, List.append_nil, List.cons_append, List.nil_append]
  entry_read
  pointwise

theorem V18 (h : Fin 4) (k : Fin 16640) : (V m c main_v18 : FVec Ideal S4x1x16640 .f32) (ix3 h 0 k) = (1 : EReal) := by
  simp only [V, hostOps0, List.flatten_cons, List.flatten_nil, List.append_nil, List.cons_append, List.nil_append]
  entry_read
  pointwise

theorem V21 (h : Fin 4) (r : Fin 80) (k : Fin 16640) (hr : r.val ≤ 64) : @Eq EReal
    ((V m c main_v21 : FVec Ideal S4x80x16640 .bf16) (ix3 h r k))
      (if hr : r.val < 64 then arg2 m c (ix4 0 h k ⟨r.val, hr⟩) else 1) := by
  rw [V21_eq]
  pointwise
  by_cases h1 : r.val < 64
  · rw [dif_pos h1, dif_pos h1, V17]
  · rw [dif_neg h1, dif_neg h1, dif_pos (by omega)]
    refine Eq.trans (congrArg (fun a : Fin 1 => (V m c main_v18 : FVec Ideal S4x1x16640 .f32) (ix3 h a k)) (Fin.ext ?_)) (V18 m c h k)
    show r.val - 64 = 0
    omega

theorem V38 : (V m c main_v38 : FVec Ideal S1 .f32) (ix1 0)
      = Ideal.exp (∑ d : Fin 32, arg3 m c (ix2 0 d) * arg3 m c (ix2 1 d)) - Ideal.exp (∑ d : Fin 32, arg3 m c (ix2 2 d) * arg3 m c (ix2 3 d))
        + FloatOps.ofBits (F := Ideal) .f32 0x3EB60549#32 := by
  simp only [V, hostOps0, List.flatten_cons, List.flatten_nil, List.append_nil, List.cons_append, List.nil_append]
  entry_read
  pointwise

theorem neg_inf : Ideal.ofBits .f32 0xFF800000#32 = (⊥ : EReal) := by simp [Ideal.ofBits, Ideal.ieee]

theorem V14 (p : Fin 8) : (V m c main_v14 : FVec Ideal S8 .f32) (ix1 p)
      = Ideal.sqrt (Finset.univ.fold max ⊥ fun k : Fin 16640 => ∑ d : Fin 32,
          arg1 m c (ix5 0 ⟨p.val / 2, by omega⟩ ⟨p.val % 2, by omega⟩ k d) * arg1 m c (ix5 0 ⟨p.val / 2, by omega⟩ ⟨p.val % 2, by omega⟩ k d)) := by
  simp only [V, hostOps0, List.flatten_cons, List.flatten_nil, List.append_nil, List.cons_append, List.nil_append]
  entry_read
  pointwise
  rw [neg_inf]

theorem V41_zero : (V m c main_v41 : FVec Ideal S1x16 .f32) (ix2 0 0) = (V m c main_v38 : FVec Ideal S1 .f32) (ix1 0) := by
  rw [V41_eq]
  pointwise

theorem V41_succ (p : Fin 8) :
    (V m c main_v41 : FVec Ideal S1x16 .f32) (ix2 0 ⟨1 + p.val, by omega⟩) = (V m c main_v14 : FVec Ideal S8 .f32) (ix1 p) := by
  rw [V41_eq]
  pointwise

/-- Which block of each operand a grid point sees. -/
theorem idx : ∀ t : Fin cfg0.N, win0_1.index t = ![0, t.val / 5] ∧ win0_2.index t = ![0, t.val % 5, 0] ∧ win0_3.index t = ![0, 0, t.val % 5]
    ∧ win0_4.index t = ![t.val / 5, 0] ∧ win0_0.index t = ![0, 0] :=
  (by decide +kernel : ∀ t : Fin grid0.N, _)

variable (t : Fin cfg0.N)

theorem blk0 (s : Fin 16) : (iblk m c 0 t : FVec Ideal S1x16 .f32) (ix2 0 s) = (V m c main_v41 : FVec Ideal S1x16 .f32) (ix2 0 s) := by
  blk_ext [iblk, idx t]

theorem blk1 (a : Fin 256) (i : Fin 1024) : (iblk m c 1 t : FVec Ideal S256x1024 .bf16) (ix2 a i)
    = (V m c main_v8 : FVec Ideal S256x16384 .bf16) (ix2 a ⟨1024 * (t.val / 5) + i.val, by have := lt_of_lt_of_eq t.isLt N_0; omega⟩) := by
  blk_ext [iblk, idx t]

theorem blk2 (p : Fin 8) (k : Fin 3328) (d : Fin 32) : (iblk m c 2 t : FVec Ideal S8x3328x32 .bf16) (ix3 p k d)
    = (V m c main_v15 : FVec Ideal S8x16640x32 .bf16) (ix3 p ⟨t.val % 5 * 3328 + k.val, by omega⟩ d) := by
  blk_ext [iblk, idx t]

theorem blk3 (h : Fin 4) (r : Fin 80) (k : Fin 3328) : (iblk m c 3 t : FVec Ideal S4x80x3328 .bf16) (ix3 h r k)
    = (V m c main_v21 : FVec Ideal S4x80x16640 .bf16) (ix3 h r ⟨t.val % 5 * 3328 + k.val, by omega⟩) := by
  blk_ext [iblk, idx t]

end Cert.KernelIdeal.Att
end
-- ==== Proof.AttStep.lean ====
module

public import proofs.«01_k».proof.Proof.Gen.KernelIdeal.Value
public import proofs.«01_k».proof.Proof.Gen.KernelIdeal.Frame
public import Idealize.ShloMosaic.Lib.Pipeline.ValueKit
public import Idealize.ShloMosaic.Lib.Pipeline.ReadBack
public import Idealize.ShloMosaic.Lib.Pointwise

/-! The differential attention kernel: the values one grid point stores, over its blocks. -/

@[expose] public section

set_option maxRecDepth 16384

noncomputable section
open Idealize.ShloMosaic Idealize.ShloMosaic.TcCoe Idealize.SL.Sem
open Idealize.ShloMosaic.Pipeline (Dat)

namespace Cert.KernelIdeal.Att
open Cert.KernelIdeal Cert.KernelIdeal.Gen

section Payloads
variable (K0 : FVec Ideal S1x3328x32 .bf16) (Q0 : FVec Ideal S32x1024 .bf16) (A0 : FVec Ideal S1x80x1024 .f32) (V0 : FVec Ideal S1x80x3328 .bf16)
  (M0 : FVec Ideal S1x1x1024 .f32) (x : S1x80x1024.Idx) (r : Fin 80) (i : Fin 1024)

/-- One key tile added into one slab of the accumulator, at one entry. -/
def addAt : EReal :=
  (A0 (ix3 0 r i) : EReal) + ∑ κ : Fin 3328, (V0 (ix3 0 r κ) : EReal) * Ideal.exp2 ((∑ d : Fin 32, (K0 (ix3 0 κ d) : EReal) * (Q0 (ix2 d i) : EReal)) - (M0 (ix3 0 0 i) : EReal))

theorem slab0 : k0_pay19 (F := Ideal) K0 Q0 A0 V0 M0 (ix3 0 r i) = addAt K0 Q0 A0 V0 M0 r i := by
  pointwise [k0_pay19]
  rfl
theorem slab1 : k0_pay21 (F := Ideal) (k0_pay20 K0 Q0) A0 V0 M0 (ix3 0 r i) = addAt K0 Q0 A0 V0 M0 r i := by
  pointwise [k0_pay21, k0_pay20]
  rfl
theorem slab2 : k0_pay24 (F := Ideal) (k0_pay22 A0) (k0_pay23 K0 Q0 V0 M0) (ix3 0 r i) = addAt K0 Q0 A0 V0 M0 r i := by
  pointwise [k0_pay24, k0_pay23, k0_pay22]
  rfl
theorem slab3 : k0_pay25 (F := Ideal) K0 Q0 A0 V0 M0 (ix3 0 r i) = addAt K0 Q0 A0 V0 M0 r i := by
  pointwise [k0_pay25]
  rfl
theorem slab4 : k0_pay27 (F := Ideal) (k0_pay26 K0 Q0) A0 V0 M0 (ix3 0 r i) = addAt K0 Q0 A0 V0 M0 r i := by
  pointwise [k0_pay27, k0_pay26]
  rfl
theorem slab5 : k0_pay30 (F := Ideal) (k0_pay28 A0) (k0_pay29 K0 Q0 V0 M0) (ix3 0 r i) = addAt K0 Q0 A0 V0 M0 r i := by
  pointwise [k0_pay30, k0_pay28, k0_pay29]
  rfl
theorem slab6 : k0_pay31 (F := Ideal) K0 Q0 A0 V0 M0 (ix3 0 r i) = addAt K0 Q0 A0 V0 M0 r i := by
  pointwise [k0_pay31]
  rfl
theorem slab7 : k0_pay1 (F := Ideal) (k0_pay32 K0 Q0) A0 V0 M0 (ix3 0 r i) = addAt K0 Q0 A0 V0 M0 r i := by
  pointwise [k0_pay1, k0_pay32]
  rfl

/-- One pair's shift at one query: the query's norm times the largest key's. -/
def shiftAt (z : EReal) : EReal := Ideal.sqrt (∑ d : Fin 32, (Q0 (ix2 d i) : EReal) * (Q0 (ix2 d i) : EReal)) * z

theorem shift0 (z : Ideal .f32) : k0_pay4 (F := Ideal) Q0 z (ix3 0 0 i) = shiftAt Q0 i z := by
  pointwise [k0_pay4]
  rfl
theorem shift1 (z : Ideal .f32) : k0_pay5 (F := Ideal) Q0 z (ix3 0 0 i) = shiftAt Q0 i z := by
  pointwise [k0_pay5]
  rfl
theorem shift2 (z : Ideal .f32) : k0_pay7 (F := Ideal) (k0_pay6 Q0) z (ix3 0 0 i) = shiftAt Q0 i z := by
  pointwise [k0_pay7, k0_pay6]
  rfl
theorem shift3 (z : Ideal .f32) : k0_pay8 (F := Ideal) Q0 z (ix3 0 0 i) = shiftAt Q0 i z := by
  pointwise [k0_pay8]
  rfl
theorem shift4 (z : Ideal .f32) : k0_pay9 (F := Ideal) Q0 z (ix3 0 0 i) = shiftAt Q0 i z := by
  pointwise [k0_pay9]
  rfl
theorem shift5 (z : Ideal .f32) : k0_pay10 (F := Ideal) Q0 z (ix3 0 0 i) = shiftAt Q0 i z := by
  pointwise [k0_pay10]
  rfl
theorem shift6 (z : Ideal .f32) : k0_pay11 (F := Ideal) Q0 z (ix3 0 0 i) = shiftAt Q0 i z := by
  pointwise [k0_pay11]
  rfl
theorem shift7 (z : Ideal .f32) : k0_pay18 (F := Ideal) (k0_pay12 Q0 z) (ix3 0 0 i) = shiftAt Q0 i z := by
  pointwise [k0_pay18, k0_pay12]
  rfl

theorem zero_at (p : Fin 8) : k0_pay3 (F := Ideal) (ix3 p r i) = 0 := by
  pointwise [k0_pay3]

end Payloads

section Heads
variable (z : Ideal .f32) (L0 L1 L2 L3 L4 L5 L6 L7 : FVec Ideal S1x80x1024 .f32) (i : Fin 1024) (v : Fin 64)

/-- The difference of a pair's two normalised sums. -/
def headAt (A B : FVec Ideal S1x80x1024 .f32) : EReal :=
  Ideal.div (A (ix3 0 ⟨v.val, by omega⟩ i)) (A (ix3 0 64 i)) - (z : EReal) * Ideal.div (B (ix3 0 ⟨v.val, by omega⟩ i)) (B (ix3 0 64 i))

theorem head0 : k0_pay2 (F := Ideal) z (k0_pay13 z L0 L1) (k0_pay14 z L2 L3) (k0_pay15 L5) (k0_pay16 L4) (k0_pay17 L5) L6 L7 (ix2 i ⟨v.val, by omega⟩)
    = headAt z i v L0 L1 := by
  pointwise [k0_pay2, k0_pay13, k0_pay14, k0_pay15, k0_pay16, k0_pay17]
  rfl

theorem head1 : k0_pay2 (F := Ideal) z (k0_pay13 z L0 L1) (k0_pay14 z L2 L3) (k0_pay15 L5) (k0_pay16 L4) (k0_pay17 L5) L6 L7 (ix2 i ⟨64 + v.val, by omega⟩)
    = headAt z i v L2 L3 := by
  pointwise [k0_pay2, k0_pay13, k0_pay14, k0_pay15, k0_pay16, k0_pay17]
  rfl

theorem head2 : k0_pay2 (F := Ideal) z (k0_pay13 z L0 L1) (k0_pay14 z L2 L3) (k0_pay15 L5) (k0_pay16 L4) (k0_pay17 L5) L6 L7 (ix2 i ⟨128 + v.val, by omega⟩)
    = headAt z i v L4 L5 := by
  pointwise [k0_pay2, k0_pay13, k0_pay14, k0_pay15, k0_pay16, k0_pay17]
  rw [dif_neg (by omega), dif_neg (by omega), dif_pos (by omega)]
  simp only [show 128 + v.val - 64 - 64 = v.val by omega]
  rfl

theorem head3 : k0_pay2 (F := Ideal) z (k0_pay13 z L0 L1) (k0_pay14 z L2 L3) (k0_pay15 L5) (k0_pay16 L4) (k0_pay17 L5) L6 L7 (ix2 i ⟨192 + v.val, by omega⟩)
    = headAt z i v L6 L7 := by
  pointwise [k0_pay2, k0_pay13, k0_pay14, k0_pay15, k0_pay16, k0_pay17]
  rw [dif_neg (by omega), dif_neg (by omega), dif_neg (by omega)]
  simp only [show 192 + v.val - 64 - 64 - 64 = v.val by omega]
  rfl

end Heads

section Stores
variable (K : FVec Ideal S8x3328x32 .bf16) (Q : FVec Ideal S256x1024 .bf16) (V : FVec Ideal S4x80x3328 .bf16) (M : FVec Ideal S8x1x1024 .f32) (A : FVec Ideal S8x80x1024 .f32)

/-- The accumulator with one key tile added, at one entry. -/
def stepAt (p : Fin 8) (r : Fin 80) (i : Fin 1024) : EReal :=
  (A (ix3 p r i) : EReal) + ∑ κ : Fin 3328, (V (ix3 ⟨p.val / 2, by omega⟩ r κ) : EReal)
    * Ideal.exp2 ((∑ d : Fin 32, (K (ix3 p κ d) : EReal) * (Q (ix2 ⟨32 * p.val + d.val, by omega⟩ i) : EReal)) - (M (ix3 p 0 i) : EReal))

/-- The accumulator's eight stores, newest first, over earlier ones. -/
abbrev slabs (L : List (View.Piece (Elt Ideal) S8x80x1024 .f32)) : List (View.Piece (Elt Ideal) S8x80x1024 .f32) :=
  ⟨Rect.unit (s := S8x80x1024) ![7, 0, 0] ![1, 80, 1024] inb_S8x80x1024_S1x80x1024_7_0_0,
      k0_pay1 (F := Ideal) (k0_pay32 (F := Ideal) (View.ld (Val := Elt Ideal) (e' := .bf16) K (Rect.unit (s := S8x3328x32) ![7, 0, 0] ![1, 3328, 32] inb_S8x3328x32_S1x3328x32_7_0_0)) (View.ld (Val := Elt Ideal) (e' := .bf16) Q (Rect.unit (s := S256x1024) ![224, 0] ![32, 1024] inb_S256x1024_S32x1024_224_0))) (View.ld (Val := Elt Ideal) (e' := .f32) A (Rect.unit (s := S8x80x1024) ![7, 0, 0] ![1, 80, 1024] inb_S8x80x1024_S1x80x1024_7_0_0)) (View.ld (Val := Elt Ideal) (e' := .bf16) V (Rect.unit (s := S4x80x3328) ![3, 0, 0] ![1, 80, 3328] inb_S4x80x3328_S1x80x3328_3_0_0)) (View.ld (Val := Elt Ideal) (e' := .f32) M (Rect.unit (s := S8x1x1024) ![7, 0, 0] ![1, 1, 1024] inb_S8x1x1024_S1x1x1024_7_0_0))⟩ ::
    ⟨Rect.unit (s := S8x80x1024) ![6, 0, 0] ![1, 80, 1024] inb_S8x80x1024_S1x80x1024_6_0_0,
      k0_pay31 (F := Ideal) (View.ld (Val := Elt Ideal) (e' := .bf16) K (Rect.unit (s := S8x3328x32) ![6, 0, 0] ![1, 3328, 32] inb_S8x3328x32_S1x3328x32_6_0_0)) (View.ld (Val := Elt Ideal) (e' := .bf16) Q (Rect.unit (s := S256x1024) ![192, 0] ![32, 1024] inb_S256x1024_S32x1024_192_0)) (View.ld (Val := Elt Ideal) (e' := .f32) A (Rect.unit (s := S8x80x1024) ![6, 0, 0] ![1, 80, 1024] inb_S8x80x1024_S1x80x1024_6_0_0)) (View.ld (Val := Elt Ideal) (e' := .bf16) V (Rect.unit (s := S4x80x3328) ![3, 0, 0] ![1, 80, 3328] inb_S4x80x3328_S1x80x3328_3_0_0)) (View.ld (Val := Elt Ideal) (e' := .f32) M (Rect.unit (s := S8x1x1024) ![6, 0, 0] ![1, 1, 1024] inb_S8x1x1024_S1x1x1024_6_0_0))⟩ ::
    ⟨Rect.unit (s := S8x80x1024) ![5, 0, 0] ![1, 80, 1024] inb_S8x80x1024_S1x80x1024_5_0_0,
      k0_pay30 (F := Ideal) (k0_pay28 (F := Ideal) (View.ld (Val := Elt Ideal) (e' := .f32) A (Rect.unit (s := S8x80x1024) ![5, 0, 0] ![1, 80, 1024] inb_S8x80x1024_S1x80x1024_5_0_0))) (k0_pay29 (F := Ideal) (View.ld (Val := Elt Ideal) (e' := .bf16) K (Rect.unit (s := S8x3328x32) ![5, 0, 0] ![1, 3328, 32] inb_S8x3328x32_S1x3328x32_5_0_0)) (View.ld (Val := Elt Ideal) (e' := .bf16) Q (Rect.unit (s := S256x1024) ![160, 0] ![32, 1024] inb_S256x1024_S32x1024_160_0)) (View.ld (Val := Elt Ideal) (e' := .bf16) V (Rect.unit (s := S4x80x3328) ![2, 0, 0] ![1, 80, 3328] inb_S4x80x3328_S1x80x3328_2_0_0)) (View.ld (Val := Elt Ideal) (e' := .f32) M (Rect.unit (s := S8x1x1024) ![5, 0, 0] ![1, 1, 1024] inb_S8x1x1024_S1x1x1024_5_0_0)))⟩ ::
    ⟨Rect.unit (s := S8x80x1024) ![4, 0, 0] ![1, 80, 1024] inb_S8x80x1024_S1x80x1024_4_0_0,
      k0_pay27 (F := Ideal) (k0_pay26 (F := Ideal) (View.ld (Val := Elt Ideal) (e' := .bf16) K (Rect.unit (s := S8x3328x32) ![4, 0, 0] ![1, 3328, 32] inb_S8x3328x32_S1x3328x32_4_0_0)) (View.ld (Val := Elt Ideal) (e' := .bf16) Q (Rect.unit (s := S256x1024) ![128, 0] ![32, 1024] inb_S256x1024_S32x1024_128_0))) (View.ld (Val := Elt Ideal) (e' := .f32) A (Rect.unit (s := S8x80x1024) ![4, 0, 0] ![1, 80, 1024] inb_S8x80x1024_S1x80x1024_4_0_0)) (View.ld (Val := Elt Ideal) (e' := .bf16) V (Rect.unit (s := S4x80x3328) ![2, 0, 0] ![1, 80, 3328] inb_S4x80x3328_S1x80x3328_2_0_0)) (View.ld (Val := Elt Ideal) (e' := .f32) M (Rect.unit (s := S8x1x1024) ![4, 0, 0] ![1, 1, 1024] inb_S8x1x1024_S1x1x1024_4_0_0))⟩ ::
    ⟨Rect.unit (s := S8x80x1024) ![3, 0, 0] ![1, 80, 1024] inb_S8x80x1024_S1x80x1024_3_0_0,
      k0_pay25 (F := Ideal) (View.ld (Val := Elt Ideal) (e' := .bf16) K (Rect.unit (s := S8x3328x32) ![3, 0, 0] ![1, 3328, 32] inb_S8x3328x32_S1x3328x32_3_0_0)) (View.ld (Val := Elt Ideal) (e' := .bf16) Q (Rect.unit (s := S256x1024) ![96, 0] ![32, 1024] inb_S256x1024_S32x1024_96_0)) (View.ld (Val := Elt Ideal) (e' := .f32) A (Rect.unit (s := S8x80x1024) ![3, 0, 0] ![1, 80, 1024] inb_S8x80x1024_S1x80x1024_3_0_0)) (View.ld (Val := Elt Ideal) (e' := .bf16) V (Rect.unit (s := S4x80x3328) ![1, 0, 0] ![1, 80, 3328] inb_S4x80x3328_S1x80x3328_1_0_0)) (View.ld (Val := Elt Ideal) (e' := .f32) M (Rect.unit (s := S8x1x1024) ![3, 0, 0] ![1, 1, 1024] inb_S8x1x1024_S1x1x1024_3_0_0))⟩ ::
    ⟨Rect.unit (s := S8x80x1024) ![2, 0, 0] ![1, 80, 1024] inb_S8x80x1024_S1x80x1024_2_0_0,
      k0_pay24 (F := Ideal) (k0_pay22 (F := Ideal) (View.ld (Val := Elt Ideal) (e' := .f32) A (Rect.unit (s := S8x80x1024) ![2, 0, 0] ![1, 80, 1024] inb_S8x80x1024_S1x80x1024_2_0_0))) (k0_pay23 (F := Ideal) (View.ld (Val := Elt Ideal) (e' := .bf16) K (Rect.unit (s := S8x3328x32) ![2, 0, 0] ![1, 3328, 32] inb_S8x3328x32_S1x3328x32_2_0_0)) (View.ld (Val := Elt Ideal) (e' := .bf16) Q (Rect.unit (s := S256x1024) ![64, 0] ![32, 1024] inb_S256x1024_S32x1024_64_0)) (View.ld (Val := Elt Ideal) (e' := .bf16) V (Rect.unit (s := S4x80x3328) ![1, 0, 0] ![1, 80, 3328] inb_S4x80x3328_S1x80x3328_1_0_0)) (View.ld (Val := Elt Ideal) (e' := .f32) M (Rect.unit (s := S8x1x1024) ![2, 0, 0] ![1, 1, 1024] inb_S8x1x1024_S1x1x1024_2_0_0)))⟩ ::
    ⟨Rect.unit (s := S8x80x1024) ![1, 0, 0] ![1, 80, 1024] inb_S8x80x1024_S1x80x1024_1_0_0,
      k0_pay21 (F := Ideal) (k0_pay20 (F := Ideal) (View.ld (Val := Elt Ideal) (e' := .bf16) K (Rect.unit (s := S8x3328x32) ![1, 0, 0] ![1, 3328, 32] inb_S8x3328x32_S1x3328x32_1_0_0)) (View.ld (Val := Elt Ideal) (e' := .bf16) Q (Rect.unit (s := S256x1024) ![32, 0] ![32, 1024] inb_S256x1024_S32x1024_32_0))) (View.ld (Val := Elt Ideal) (e' := .f32) A (Rect.unit (s := S8x80x1024) ![1, 0, 0] ![1, 80, 1024] inb_S8x80x1024_S1x80x1024_1_0_0)) (View.ld (Val := Elt Ideal) (e' := .bf16) V (Rect.unit (s := S4x80x3328) ![0, 0, 0] ![1, 80, 3328] inb_S4x80x3328_S1x80x3328_0_0_0)) (View.ld (Val := Elt Ideal) (e' := .f32) M (Rect.unit (s := S8x1x1024) ![1, 0, 0] ![1, 1, 1024] inb_S8x1x1024_S1x1x1024_1_0_0))⟩ ::
    ⟨Rect.unit (s := S8x80x1024) ![0, 0, 0] ![1, 80, 1024] inb_S8x80x1024_S1x80x1024_0_0_0,
      k0_pay19 (F := Ideal) (View.ld (Val := Elt Ideal) (e' := .bf16) K (Rect.unit (s := S8x3328x32) ![0, 0, 0] ![1, 3328, 32] inb_S8x3328x32_S1x3328x32_0_0_0)) (View.ld (Val := Elt Ideal) (e' := .bf16) Q (Rect.unit (s := S256x1024) ![0, 0] ![32, 1024] inb_S256x1024_S32x1024_0_0)) (View.ld (Val := Elt Ideal) (e' := .f32) A (Rect.unit (s := S8x80x1024) ![0, 0, 0] ![1, 80, 1024] inb_S8x80x1024_S1x80x1024_0_0_0)) (View.ld (Val := Elt Ideal) (e' := .bf16) V (Rect.unit (s := S4x80x3328) ![0, 0, 0] ![1, 80, 3328] inb_S4x80x3328_S1x80x3328_0_0_0)) (View.ld (Val := Elt Ideal) (e' := .f32) M (Rect.unit (s := S8x1x1024) ![0, 0, 0] ![1, 1, 1024] inb_S8x1x1024_S1x1x1024_0_0_0))⟩ :: L

theorem slab0_at (r : Fin 80) (i : Fin 1024) : k0_pay19 (F := Ideal) (View.ld (Val := Elt Ideal) (e' := .bf16) K (Rect.unit (s := S8x3328x32) ![0, 0, 0] ![1, 3328, 32] inb_S8x3328x32_S1x3328x32_0_0_0)) (View.ld (Val := Elt Ideal) (e' := .bf16) Q (Rect.unit (s := S256x1024) ![0, 0] ![32, 1024] inb_S256x1024_S32x1024_0_0)) (View.ld (Val := Elt Ideal) (e' := .f32) A (Rect.unit (s := S8x80x1024) ![0, 0, 0] ![1, 80, 1024] inb_S8x80x1024_S1x80x1024_0_0_0)) (View.ld (Val := Elt Ideal) (e' := .bf16) V (Rect.unit (s := S4x80x3328) ![0, 0, 0] ![1, 80, 3328] inb_S4x80x3328_S1x80x3328_0_0_0)) (View.ld (Val := Elt Ideal) (e' := .f32) M (Rect.unit (s := S8x1x1024) ![0, 0, 0] ![1, 1, 1024] inb_S8x1x1024_S1x1x1024_0_0_0)) (ix3 0 r i)
    = stepAt K Q V M A 0 r i := by
  rw [slab0, addAt, stepAt]
  refine congrArg₂ (· + ·) (View.ld_unit_apply_of _ _ _ _ _ _ (by intro a; fin_cases a <;> first | rfl | exact (Nat.zero_add _).symm)) (Finset.sum_congr rfl fun κ _ => congrArg₂ (· * ·) (View.ld_unit_apply_of _ _ _ _ _ _ (by intro a; fin_cases a <;> first | rfl | exact (Nat.zero_add _).symm)) (congrArg Ideal.exp2 (congrArg₂ (· - ·) (Finset.sum_congr rfl fun d _ => congrArg₂ (· * ·) (View.ld_unit_apply_of _ _ _ _ _ _ (by intro a; fin_cases a <;> first | rfl | exact (Nat.zero_add _).symm)) (View.ld_unit_apply_of _ _ _ _ _ _ (by intro a; fin_cases a <;> first | rfl | exact (Nat.zero_add _).symm))) (View.ld_unit_apply_of _ _ _ _ _ _ (by intro a; fin_cases a <;> first | rfl | exact (Nat.zero_add _).symm)))))

theorem slab1_at (r : Fin 80) (i : Fin 1024) : k0_pay21 (F := Ideal) (k0_pay20 (F := Ideal) (View.ld (Val := Elt Ideal) (e' := .bf16) K (Rect.unit (s := S8x3328x32) ![1, 0, 0] ![1, 3328, 32] inb_S8x3328x32_S1x3328x32_1_0_0)) (View.ld (Val := Elt Ideal) (e' := .bf16) Q (Rect.unit (s := S256x1024) ![32, 0] ![32, 1024] inb_S256x1024_S32x1024_32_0))) (View.ld (Val := Elt Ideal) (e' := .f32) A (Rect.unit (s := S8x80x1024) ![1, 0, 0] ![1, 80, 1024] inb_S8x80x1024_S1x80x1024_1_0_0)) (View.ld (Val := Elt Ideal) (e' := .bf16) V (Rect.unit (s := S4x80x3328) ![0, 0, 0] ![1, 80, 3328] inb_S4x80x3328_S1x80x3328_0_0_0)) (View.ld (Val := Elt Ideal) (e' := .f32) M (Rect.unit (s := S8x1x1024) ![1, 0, 0] ![1, 1, 1024] inb_S8x1x1024_S1x1x1024_1_0_0)) (ix3 0 r i)
    = stepAt K Q V M A 1 r i := by
  rw [slab1, addAt, stepAt]
  refine congrArg₂ (· + ·) (View.ld_unit_apply_of _ _ _ _ _ _ (by intro a; fin_cases a <;> first | rfl | exact (Nat.zero_add _).symm)) (Finset.sum_congr rfl fun κ _ => congrArg₂ (· * ·) (View.ld_unit_apply_of _ _ _ _ _ _ (by intro a; fin_cases a <;> first | rfl | exact (Nat.zero_add _).symm)) (congrArg Ideal.exp2 (congrArg₂ (· - ·) (Finset.sum_congr rfl fun d _ => congrArg₂ (· * ·) (View.ld_unit_apply_of _ _ _ _ _ _ (by intro a; fin_cases a <;> first | rfl | exact (Nat.zero_add _).symm)) (View.ld_unit_apply_of _ _ _ _ _ _ (by intro a; fin_cases a <;> first | rfl | exact (Nat.zero_add _).symm))) (View.ld_unit_apply_of _ _ _ _ _ _ (by intro a; fin_cases a <;> first | rfl | exact (Nat.zero_add _).symm)))))

theorem slab2_at (r : Fin 80) (i : Fin 1024) : k0_pay24 (F := Ideal) (k0_pay22 (F := Ideal) (View.ld (Val := Elt Ideal) (e' := .f32) A (Rect.unit (s := S8x80x1024) ![2, 0, 0] ![1, 80, 1024] inb_S8x80x1024_S1x80x1024_2_0_0))) (k0_pay23 (F := Ideal) (View.ld (Val := Elt Ideal) (e' := .bf16) K (Rect.unit (s := S8x3328x32) ![2, 0, 0] ![1, 3328, 32] inb_S8x3328x32_S1x3328x32_2_0_0)) (View.ld (Val := Elt Ideal) (e' := .bf16) Q (Rect.unit (s := S256x1024) ![64, 0] ![32, 1024] inb_S256x1024_S32x1024_64_0)) (View.ld (Val := Elt Ideal) (e' := .bf16) V (Rect.unit (s := S4x80x3328) ![1, 0, 0] ![1, 80, 3328] inb_S4x80x3328_S1x80x3328_1_0_0)) (View.ld (Val := Elt Ideal) (e' := .f32) M (Rect.unit (s := S8x1x1024) ![2, 0, 0] ![1, 1, 1024] inb_S8x1x1024_S1x1x1024_2_0_0))) (ix3 0 r i)
    = stepAt K Q V M A 2 r i := by
  rw [slab2, addAt, stepAt]
  refine congrArg₂ (· + ·) (View.ld_unit_apply_of _ _ _ _ _ _ (by intro a; fin_cases a <;> first | rfl | exact (Nat.zero_add _).symm)) (Finset.sum_congr rfl fun κ _ => congrArg₂ (· * ·) (View.ld_unit_apply_of _ _ _ _ _ _ (by intro a; fin_cases a <;> first | rfl | exact (Nat.zero_add _).symm)) (congrArg Ideal.exp2 (congrArg₂ (· - ·) (Finset.sum_congr rfl fun d _ => congrArg₂ (· * ·) (View.ld_unit_apply_of _ _ _ _ _ _ (by intro a; fin_cases a <;> first | rfl | exact (Nat.zero_add _).symm)) (View.ld_unit_apply_of _ _ _ _ _ _ (by intro a; fin_cases a <;> first | rfl | exact (Nat.zero_add _).symm))) (View.ld_unit_apply_of _ _ _ _ _ _ (by intro a; fin_cases a <;> first | rfl | exact (Nat.zero_add _).symm)))))

theorem slab3_at (r : Fin 80) (i : Fin 1024) : k0_pay25 (F := Ideal) (View.ld (Val := Elt Ideal) (e' := .bf16) K (Rect.unit (s := S8x3328x32) ![3, 0, 0] ![1, 3328, 32] inb_S8x3328x32_S1x3328x32_3_0_0)) (View.ld (Val := Elt Ideal) (e' := .bf16) Q (Rect.unit (s := S256x1024) ![96, 0] ![32, 1024] inb_S256x1024_S32x1024_96_0)) (View.ld (Val := Elt Ideal) (e' := .f32) A (Rect.unit (s := S8x80x1024) ![3, 0, 0] ![1, 80, 1024] inb_S8x80x1024_S1x80x1024_3_0_0)) (View.ld (Val := Elt Ideal) (e' := .bf16) V (Rect.unit (s := S4x80x3328) ![1, 0, 0] ![1, 80, 3328] inb_S4x80x3328_S1x80x3328_1_0_0)) (View.ld (Val := Elt Ideal) (e' := .f32) M (Rect.unit (s := S8x1x1024) ![3, 0, 0] ![1, 1, 1024] inb_S8x1x1024_S1x1x1024_3_0_0)) (ix3 0 r i)
    = stepAt K Q V M A 3 r i := by
  rw [slab3, addAt, stepAt]
  refine congrArg₂ (· + ·) (View.ld_unit_apply_of _ _ _ _ _ _ (by intro a; fin_cases a <;> first | rfl | exact (Nat.zero_add _).symm)) (Finset.sum_congr rfl fun κ _ => congrArg₂ (· * ·) (View.ld_unit_apply_of _ _ _ _ _ _ (by intro a; fin_cases a <;> first | rfl | exact (Nat.zero_add _).symm)) (congrArg Ideal.exp2 (congrArg₂ (· - ·) (Finset.sum_congr rfl fun d _ => congrArg₂ (· * ·) (View.ld_unit_apply_of _ _ _ _ _ _ (by intro a; fin_cases a <;> first | rfl | exact (Nat.zero_add _).symm)) (View.ld_unit_apply_of _ _ _ _ _ _ (by intro a; fin_cases a <;> first | rfl | exact (Nat.zero_add _).symm))) (View.ld_unit_apply_of _ _ _ _ _ _ (by intro a; fin_cases a <;> first | rfl | exact (Nat.zero_add _).symm)))))

theorem slab4_at (r : Fin 80) (i : Fin 1024) : k0_pay27 (F := Ideal) (k0_pay26 (F := Ideal) (View.ld (Val := Elt Ideal) (e' := .bf16) K (Rect.unit (s := S8x3328x32) ![4, 0, 0] ![1, 3328, 32] inb_S8x3328x32_S1x3328x32_4_0_0)) (View.ld (Val := Elt Ideal) (e' := .bf16) Q (Rect.unit (s := S256x1024) ![128, 0] ![32, 1024] inb_S256x1024_S32x1024_128_0))) (View.ld (Val := Elt Ideal) (e' := .f32) A (Rect.unit (s := S8x80x1024) ![4, 0, 0] ![1, 80, 1024] inb_S8x80x1024_S1x80x1024_4_0_0)) (View.ld (Val := Elt Ideal) (e' := .bf16) V (Rect.unit (s := S4x80x3328) ![2, 0, 0] ![1, 80, 3328] inb_S4x80x3328_S1x80x3328_2_0_0)) (View.ld (Val := Elt Ideal) (e' := .f32) M (Rect.unit (s := S8x1x1024) ![4, 0, 0] ![1, 1, 1024] inb_S8x1x1024_S1x1x1024_4_0_0)) (ix3 0 r i)
    = stepAt K Q V M A 4 r i := by
  rw [slab4, addAt, stepAt]
  refine congrArg₂ (· + ·) (View.ld_unit_apply_of _ _ _ _ _ _ (by intro a; fin_cases a <;> first | rfl | exact (Nat.zero_add _).symm)) (Finset.sum_congr rfl fun κ _ => congrArg₂ (· * ·) (View.ld_unit_apply_of _ _ _ _ _ _ (by intro a; fin_cases a <;> first | rfl | exact (Nat.zero_add _).symm)) (congrArg Ideal.exp2 (congrArg₂ (· - ·) (Finset.sum_congr rfl fun d _ => congrArg₂ (· * ·) (View.ld_unit_apply_of _ _ _ _ _ _ (by intro a; fin_cases a <;> first | rfl | exact (Nat.zero_add _).symm)) (View.ld_unit_apply_of _ _ _ _ _ _ (by intro a; fin_cases a <;> first | rfl | exact (Nat.zero_add _).symm))) (View.ld_unit_apply_of _ _ _ _ _ _ (by intro a; fin_cases a <;> first | rfl | exact (Nat.zero_add _).symm)))))

theorem slab5_at (r : Fin 80) (i : Fin 1024) : k0_pay30 (F := Ideal) (k0_pay28 (F := Ideal) (View.ld (Val := Elt Ideal) (e' := .f32) A (Rect.unit (s := S8x80x1024) ![5, 0, 0] ![1, 80, 1024] inb_S8x80x1024_S1x80x1024_5_0_0))) (k0_pay29 (F := Ideal) (View.ld (Val := Elt Ideal) (e' := .bf16) K (Rect.unit (s := S8x3328x32) ![5, 0, 0] ![1, 3328, 32] inb_S8x3328x32_S1x3328x32_5_0_0)) (View.ld (Val := Elt Ideal) (e' := .bf16) Q (Rect.unit (s := S256x1024) ![160, 0] ![32, 1024] inb_S256x1024_S32x1024_160_0)) (View.ld (Val := Elt Ideal) (e' := .bf16) V (Rect.unit (s := S4x80x3328) ![2, 0, 0] ![1, 80, 3328] inb_S4x80x3328_S1x80x3328_2_0_0)) (View.ld (Val := Elt Ideal) (e' := .f32) M (Rect.unit (s := S8x1x1024) ![5, 0, 0] ![1, 1, 1024] inb_S8x1x1024_S1x1x1024_5_0_0))) (ix3 0 r i)
    = stepAt K Q V M A 5 r i := by
  rw [slab5, addAt, stepAt]
  refine congrArg₂ (· + ·) (View.ld_unit_apply_of _ _ _ _ _ _ (by intro a; fin_cases a <;> first | rfl | exact (Nat.zero_add _).symm)) (Finset.sum_congr rfl fun κ _ => congrArg₂ (· * ·) (View.ld_unit_apply_of _ _ _ _ _ _ (by intro a; fin_cases a <;> first | rfl | exact (Nat.zero_add _).symm)) (congrArg Ideal.exp2 (congrArg₂ (· - ·) (Finset.sum_congr rfl fun d _ => congrArg₂ (· * ·) (View.ld_unit_apply_of _ _ _ _ _ _ (by intro a; fin_cases a <;> first | rfl | exact (Nat.zero_add _).symm)) (View.ld_unit_apply_of _ _ _ _ _ _ (by intro a; fin_cases a <;> first | rfl | exact (Nat.zero_add _).symm))) (View.ld_unit_apply_of _ _ _ _ _ _ (by intro a; fin_cases a <;> first | rfl | exact (Nat.zero_add _).symm)))))

theorem slab6_at (r : Fin 80) (i : Fin 1024) : k0_pay31 (F := Ideal) (View.ld (Val := Elt Ideal) (e' := .bf16) K (Rect.unit (s := S8x3328x32) ![6, 0, 0] ![1, 3328, 32] inb_S8x3328x32_S1x3328x32_6_0_0)) (View.ld (Val := Elt Ideal) (e' := .bf16) Q (Rect.unit (s := S256x1024) ![192, 0] ![32, 1024] inb_S256x1024_S32x1024_192_0)) (View.ld (Val := Elt Ideal) (e' := .f32) A (Rect.unit (s := S8x80x1024) ![6, 0, 0] ![1, 80, 1024] inb_S8x80x1024_S1x80x1024_6_0_0)) (View.ld (Val := Elt Ideal) (e' := .bf16) V (Rect.unit (s := S4x80x3328) ![3, 0, 0] ![1, 80, 3328] inb_S4x80x3328_S1x80x3328_3_0_0)) (View.ld (Val := Elt Ideal) (e' := .f32) M (Rect.unit (s := S8x1x1024) ![6, 0, 0] ![1, 1, 1024] inb_S8x1x1024_S1x1x1024_6_0_0)) (ix3 0 r i)
    = stepAt K Q V M A 6 r i := by
  rw [slab6, addAt, stepAt]
  refine congrArg₂ (· + ·) (View.ld_unit_apply_of _ _ _ _ _ _ (by intro a; fin_cases a <;> first | rfl | exact (Nat.zero_add _).symm)) (Finset.sum_congr rfl fun κ _ => congrArg₂ (· * ·) (View.ld_unit_apply_of _ _ _ _ _ _ (by intro a; fin_cases a <;> first | rfl | exact (Nat.zero_add _).symm)) (congrArg Ideal.exp2 (congrArg₂ (· - ·) (Finset.sum_congr rfl fun d _ => congrArg₂ (· * ·) (View.ld_unit_apply_of _ _ _ _ _ _ (by intro a; fin_cases a <;> first | rfl | exact (Nat.zero_add _).symm)) (View.ld_unit_apply_of _ _ _ _ _ _ (by intro a; fin_cases a <;> first | rfl | exact (Nat.zero_add _).symm))) (View.ld_unit_apply_of _ _ _ _ _ _ (by intro a; fin_cases a <;> first | rfl | exact (Nat.zero_add _).symm)))))

theorem slab7_at (r : Fin 80) (i : Fin 1024) : k0_pay1 (F := Ideal) (k0_pay32 (F := Ideal) (View.ld (Val := Elt Ideal) (e' := .bf16) K (Rect.unit (s := S8x3328x32) ![7, 0, 0] ![1, 3328, 32] inb_S8x3328x32_S1x3328x32_7_0_0)) (View.ld (Val := Elt Ideal) (e' := .bf16) Q (Rect.unit (s := S256x1024) ![224, 0] ![32, 1024] inb_S256x1024_S32x1024_224_0))) (View.ld (Val := Elt Ideal) (e' := .f32) A (Rect.unit (s := S8x80x1024) ![7, 0, 0] ![1, 80, 1024] inb_S8x80x1024_S1x80x1024_7_0_0)) (View.ld (Val := Elt Ideal) (e' := .bf16) V (Rect.unit (s := S4x80x3328) ![3, 0, 0] ![1, 80, 3328] inb_S4x80x3328_S1x80x3328_3_0_0)) (View.ld (Val := Elt Ideal) (e' := .f32) M (Rect.unit (s := S8x1x1024) ![7, 0, 0] ![1, 1, 1024] inb_S8x1x1024_S1x1x1024_7_0_0)) (ix3 0 r i)
    = stepAt K Q V M A 7 r i := by
  rw [slab7, addAt, stepAt]
  refine congrArg₂ (· + ·) (View.ld_unit_apply_of _ _ _ _ _ _ (by intro a; fin_cases a <;> first | rfl | exact (Nat.zero_add _).symm)) (Finset.sum_congr rfl fun κ _ => congrArg₂ (· * ·) (View.ld_unit_apply_of _ _ _ _ _ _ (by intro a; fin_cases a <;> first | rfl | exact (Nat.zero_add _).symm)) (congrArg Ideal.exp2 (congrArg₂ (· - ·) (Finset.sum_congr rfl fun d _ => congrArg₂ (· * ·) (View.ld_unit_apply_of _ _ _ _ _ _ (by intro a; fin_cases a <;> first | rfl | exact (Nat.zero_add _).symm)) (View.ld_unit_apply_of _ _ _ _ _ _ (by intro a; fin_cases a <;> first | rfl | exact (Nat.zero_add _).symm))) (View.ld_unit_apply_of _ _ _ _ _ _ (by intro a; fin_cases a <;> first | rfl | exact (Nat.zero_add _).symm)))))

theorem stepAt_congr {p p' : Fin 8} {r r' : Fin 80} {i i' : Fin 1024} (hp : p'.val = p.val) (hr : r'.val = r.val) (hi : i'.val = i.val) :
    stepAt K Q V M A p r i = stepAt K Q V M A p' r' i' := by
  rw [Fin.ext hp, Fin.ext hr, Fin.ext hi]

theorem slabs_cover (y : S8x80x1024.Idx) : ∃ q ∈ slabs K Q V M A [], y ∈ q.1.set :=
  View.cover_of_tiled (slabs K Q V M A []) ![1, 80, 1024] (by rfl) y

theorem slabs_canon (L : List (View.Piece (Elt Ideal) S8x80x1024 .f32)) (y : S8x80x1024.Idx) :
    View.canon (slabs K Q V M A L) y = stepAt K Q V M A (y 0) (y 1) (y 2) := by
  refine View.canon_append_of_piecesOf (fun y => stepAt K Q V M A (y 0) (y 1) (y 2)) L (slabs K Q V M A [])
    ⟨?_, ?_, ?_, ?_, ?_, ?_, ?_, ?_, trivial⟩ y (slabs_cover K Q V M A y)
  all_goals
    intro x
    idx_vars x
    obtain rfl : x0 = 0 := Subsingleton.elim _ _
  · exact (slab7_at K Q V M A x1 x2).trans (stepAt_congr K Q V M A (Rect.idx_unit_val _ _ _ _ _) ((Rect.idx_unit_val _ _ _ _ _).trans (Nat.zero_add _)) ((Rect.idx_unit_val _ _ _ _ _).trans (Nat.zero_add _)))
  · exact (slab6_at K Q V M A x1 x2).trans (stepAt_congr K Q V M A (Rect.idx_unit_val _ _ _ _ _) ((Rect.idx_unit_val _ _ _ _ _).trans (Nat.zero_add _)) ((Rect.idx_unit_val _ _ _ _ _).trans (Nat.zero_add _)))
  · exact (slab5_at K Q V M A x1 x2).trans (stepAt_congr K Q V M A (Rect.idx_unit_val _ _ _ _ _) ((Rect.idx_unit_val _ _ _ _ _).trans (Nat.zero_add _)) ((Rect.idx_unit_val _ _ _ _ _).trans (Nat.zero_add _)))
  · exact (slab4_at K Q V M A x1 x2).trans (stepAt_congr K Q V M A (Rect.idx_unit_val _ _ _ _ _) ((Rect.idx_unit_val _ _ _ _ _).trans (Nat.zero_add _)) ((Rect.idx_unit_val _ _ _ _ _).trans (Nat.zero_add _)))
  · exact (slab3_at K Q V M A x1 x2).trans (stepAt_congr K Q V M A (Rect.idx_unit_val _ _ _ _ _) ((Rect.idx_unit_val _ _ _ _ _).trans (Nat.zero_add _)) ((Rect.idx_unit_val _ _ _ _ _).trans (Nat.zero_add _)))
  · exact (slab2_at K Q V M A x1 x2).trans (stepAt_congr K Q V M A (Rect.idx_unit_val _ _ _ _ _) ((Rect.idx_unit_val _ _ _ _ _).trans (Nat.zero_add _)) ((Rect.idx_unit_val _ _ _ _ _).trans (Nat.zero_add _)))
  · exact (slab1_at K Q V M A x1 x2).trans (stepAt_congr K Q V M A (Rect.idx_unit_val _ _ _ _ _) ((Rect.idx_unit_val _ _ _ _ _).trans (Nat.zero_add _)) ((Rect.idx_unit_val _ _ _ _ _).trans (Nat.zero_add _)))
  · exact (slab0_at K Q V M A x1 x2).trans (stepAt_congr K Q V M A (Rect.idx_unit_val _ _ _ _ _) ((Rect.idx_unit_val _ _ _ _ _).trans (Nat.zero_add _)) ((Rect.idx_unit_val _ _ _ _ _).trans (Nat.zero_add _)))

/-- A load of the accumulator after the eight stores. -/
theorem slabs_load (L : List (View.Piece (Elt Ideal) S8x80x1024 .f32)) (r : Rect S8x80x1024) :
    (View.whole cc0_scratch1).readCov (Val := Elt Ideal) (slabs K Q V M A L) r.toLoadRect
      = View.ld (Val := Elt Ideal) (e' := .f32) (fun y : S8x80x1024.Idx => stepAt K Q V M A (y 0) (y 1) (y 2)) r := by
  rw [View.readCov_eq_canon']
  exact funext fun j => slabs_canon K Q V M A L _

end Stores

section Shifts
variable (Q : FVec Ideal S256x1024 .bf16) (z0 z1 z2 z3 z4 z5 z6 z7 : Ideal .f32)

/-- The shift of each pair and query. -/
def shifts : FVec Ideal S8x1x1024 .f32 := fun y =>
  Ideal.sqrt (∑ d : Fin 32, (Q (ix2 ⟨32 * (y 0).val + d.val, by have : (y 0).val < 8 := (y 0).isLt; omega⟩ (y 2)) : EReal) * (Q (ix2 ⟨32 * (y 0).val + d.val, by have : (y 0).val < 8 := (y 0).isLt; omega⟩ (y 2)) : EReal))
    * (![z0, z1, z2, z3, z4, z5, z6, z7] (y 0) : EReal)

/-- The shifts' eight stores, newest first. -/
abbrev shiftPieces : List (View.Piece (Elt Ideal) S8x1x1024 .f32) :=
  [⟨Rect.unit (s := S8x1x1024) ![7, 0, 0] ![1, 1, 1024] inb_S8x1x1024_S1x1x1024_7_0_0, k0_pay18 (F := Ideal) (k0_pay12 (F := Ideal) (View.ld (Val := Elt Ideal) (e' := .bf16) Q (Rect.unit (s := S256x1024) ![224, 0] ![32, 1024] inb_S256x1024_S32x1024_224_0)) z7)⟩,
    ⟨Rect.unit (s := S8x1x1024) ![6, 0, 0] ![1, 1, 1024] inb_S8x1x1024_S1x1x1024_6_0_0, k0_pay11 (F := Ideal) (View.ld (Val := Elt Ideal) (e' := .bf16) Q (Rect.unit (s := S256x1024) ![192, 0] ![32, 1024] inb_S256x1024_S32x1024_192_0)) z6⟩,
    ⟨Rect.unit (s := S8x1x1024) ![5, 0, 0] ![1, 1, 1024] inb_S8x1x1024_S1x1x1024_5_0_0, k0_pay10 (F := Ideal) (View.ld (Val := Elt Ideal) (e' := .bf16) Q (Rect.unit (s := S256x1024) ![160, 0] ![32, 1024] inb_S256x1024_S32x1024_160_0)) z5⟩,
    ⟨Rect.unit (s := S8x1x1024) ![4, 0, 0] ![1, 1, 1024] inb_S8x1x1024_S1x1x1024_4_0_0, k0_pay9 (F := Ideal) (View.ld (Val := Elt Ideal) (e' := .bf16) Q (Rect.unit (s := S256x1024) ![128, 0] ![32, 1024] inb_S256x1024_S32x1024_128_0)) z4⟩,
    ⟨Rect.unit (s := S8x1x1024) ![3, 0, 0] ![1, 1, 1024] inb_S8x1x1024_S1x1x1024_3_0_0, k0_pay8 (F := Ideal) (View.ld (Val := Elt Ideal) (e' := .bf16) Q (Rect.unit (s := S256x1024) ![96, 0] ![32, 1024] inb_S256x1024_S32x1024_96_0)) z3⟩,
    ⟨Rect.unit (s := S8x1x1024) ![2, 0, 0] ![1, 1, 1024] inb_S8x1x1024_S1x1x1024_2_0_0, k0_pay7 (F := Ideal) (k0_pay6 (F := Ideal) (View.ld (Val := Elt Ideal) (e' := .bf16) Q (Rect.unit (s := S256x1024) ![64, 0] ![32, 1024] inb_S256x1024_S32x1024_64_0))) z2⟩,
    ⟨Rect.unit (s := S8x1x1024) ![1, 0, 0] ![1, 1, 1024] inb_S8x1x1024_S1x1x1024_1_0_0, k0_pay5 (F := Ideal) (View.ld (Val := Elt Ideal) (e' := .bf16) Q (Rect.unit (s := S256x1024) ![32, 0] ![32, 1024] inb_S256x1024_S32x1024_32_0)) z1⟩,
    ⟨Rect.unit (s := S8x1x1024) ![0, 0, 0] ![1, 1, 1024] inb_S8x1x1024_S1x1x1024_0_0_0, k0_pay4 (F := Ideal) (View.ld (Val := Elt Ideal) (e' := .bf16) Q (Rect.unit (s := S256x1024) ![0, 0] ![32, 1024] inb_S256x1024_S32x1024_0_0)) z0⟩]

theorem shift0_at (i : Fin 1024) (y : S8x1x1024.Idx) (h0 : (y 0).val = 0) (h2 : (y 2).val = i.val) : k0_pay4 (F := Ideal) (View.ld (Val := Elt Ideal) (e' := .bf16) Q (Rect.unit (s := S256x1024) ![0, 0] ![32, 1024] inb_S256x1024_S32x1024_0_0)) z0 (ix3 0 0 i) = shifts Q z0 z1 z2 z3 z4 z5 z6 z7 y := by
  rw [shift0, shiftAt, shifts]
  obtain rfl : y 2 = i := Fin.ext h2
  refine congrArg₂ (fun a b : EReal => Ideal.sqrt a * b) (Finset.sum_congr rfl fun d _ => ?_) ?_
  · have h : View.ld (Val := Elt Ideal) (e' := .bf16) Q (Rect.unit (s := S256x1024) ![0, 0] ![32, 1024] inb_S256x1024_S32x1024_0_0) (ix2 d (y 2)) = Q (ix2 ⟨32 * (y 0).val + d.val, by omega⟩ (y 2)) :=
      View.ld_unit_apply_of _ _ _ _ _ _ (by intro a; fin_cases a; exact congrArg (fun n => 32 * n + d.val) h0; exact (Nat.zero_add _).symm)
    exact congrArg₂ (· * ·) h h
  · rw [show y 0 = (0 : Fin 8) from Fin.ext h0]
    rfl

theorem shift1_at (i : Fin 1024) (y : S8x1x1024.Idx) (h0 : (y 0).val = 1) (h2 : (y 2).val = i.val) : k0_pay5 (F := Ideal) (View.ld (Val := Elt Ideal) (e' := .bf16) Q (Rect.unit (s := S256x1024) ![32, 0] ![32, 1024] inb_S256x1024_S32x1024_32_0)) z1 (ix3 0 0 i) = shifts Q z0 z1 z2 z3 z4 z5 z6 z7 y := by
  rw [shift1, shiftAt, shifts]
  obtain rfl : y 2 = i := Fin.ext h2
  refine congrArg₂ (fun a b : EReal => Ideal.sqrt a * b) (Finset.sum_congr rfl fun d _ => ?_) ?_
  · have h : View.ld (Val := Elt Ideal) (e' := .bf16) Q (Rect.unit (s := S256x1024) ![32, 0] ![32, 1024] inb_S256x1024_S32x1024_32_0) (ix2 d (y 2)) = Q (ix2 ⟨32 * (y 0).val + d.val, by omega⟩ (y 2)) :=
      View.ld_unit_apply_of _ _ _ _ _ _ (by intro a; fin_cases a; exact congrArg (fun n => 32 * n + d.val) h0; exact (Nat.zero_add _).symm)
    exact congrArg₂ (· * ·) h h
  · rw [show y 0 = (1 : Fin 8) from Fin.ext h0]
    rfl

theorem shift2_at (i : Fin 1024) (y : S8x1x1024.Idx) (h0 : (y 0).val = 2) (h2 : (y 2).val = i.val) : k0_pay7 (F := Ideal) (k0_pay6 (F := Ideal) (View.ld (Val := Elt Ideal) (e' := .bf16) Q (Rect.unit (s := S256x1024) ![64, 0] ![32, 1024] inb_S256x1024_S32x1024_64_0))) z2 (ix3 0 0 i) = shifts Q z0 z1 z2 z3 z4 z5 z6 z7 y := by
  rw [shift2, shiftAt, shifts]
  obtain rfl : y 2 = i := Fin.ext h2
  refine congrArg₂ (fun a b : EReal => Ideal.sqrt a * b) (Finset.sum_congr rfl fun d _ => ?_) ?_
  · have h : View.ld (Val := Elt Ideal) (e' := .bf16) Q (Rect.unit (s := S256x1024) ![64, 0] ![32, 1024] inb_S256x1024_S32x1024_64_0) (ix2 d (y 2)) = Q (ix2 ⟨32 * (y 0).val + d.val, by omega⟩ (y 2)) :=
      View.ld_unit_apply_of _ _ _ _ _ _ (by intro a; fin_cases a; exact congrArg (fun n => 32 * n + d.val) h0; exact (Nat.zero_add _).symm)
    exact congrArg₂ (· * ·) h h
  · rw [show y 0 = (2 : Fin 8) from Fin.ext h0]
    rfl

theorem shift3_at (i : Fin 1024) (y : S8x1x1024.Idx) (h0 : (y 0).val = 3) (h2 : (y 2).val = i.val) : k0_pay8 (F := Ideal) (View.ld (Val := Elt Ideal) (e' := .bf16) Q (Rect.unit (s := S256x1024) ![96, 0] ![32, 1024] inb_S256x1024_S32x1024_96_0)) z3 (ix3 0 0 i) = shifts Q z0 z1 z2 z3 z4 z5 z6 z7 y := by
  rw [shift3, shiftAt, shifts]
  obtain rfl : y 2 = i := Fin.ext h2
  refine congrArg₂ (fun a b : EReal => Ideal.sqrt a * b) (Finset.sum_congr rfl fun d _ => ?_) ?_
  · have h : View.ld (Val := Elt Ideal) (e' := .bf16) Q (Rect.unit (s := S256x1024) ![96, 0] ![32, 1024] inb_S256x1024_S32x1024_96_0) (ix2 d (y 2)) = Q (ix2 ⟨32 * (y 0).val + d.val, by omega⟩ (y 2)) :=
      View.ld_unit_apply_of _ _ _ _ _ _ (by intro a; fin_cases a; exact congrArg (fun n => 32 * n + d.val) h0; exact (Nat.zero_add _).symm)
    exact congrArg₂ (· * ·) h h
  · rw [show y 0 = (3 : Fin 8) from Fin.ext h0]
    rfl

theorem shift4_at (i : Fin 1024) (y : S8x1x1024.Idx) (h0 : (y 0).val = 4) (h2 : (y 2).val = i.val) : k0_pay9 (F := Ideal) (View.ld (Val := Elt Ideal) (e' := .bf16) Q (Rect.unit (s := S256x1024) ![128, 0] ![32, 1024] inb_S256x1024_S32x1024_128_0)) z4 (ix3 0 0 i) = shifts Q z0 z1 z2 z3 z4 z5 z6 z7 y := by
  rw [shift4, shiftAt, shifts]
  obtain rfl : y 2 = i := Fin.ext h2
  refine congrArg₂ (fun a b : EReal => Ideal.sqrt a * b) (Finset.sum_congr rfl fun d _ => ?_) ?_
  · have h : View.ld (Val := Elt Ideal) (e' := .bf16) Q (Rect.unit (s := S256x1024) ![128, 0] ![32, 1024] inb_S256x1024_S32x1024_128_0) (ix2 d (y 2)) = Q (ix2 ⟨32 * (y 0).val + d.val, by omega⟩ (y 2)) :=
      View.ld_unit_apply_of _ _ _ _ _ _ (by intro a; fin_cases a; exact congrArg (fun n => 32 * n + d.val) h0; exact (Nat.zero_add _).symm)
    exact congrArg₂ (· * ·) h h
  · rw [show y 0 = (4 : Fin 8) from Fin.ext h0]
    rfl

theorem shift5_at (i : Fin 1024) (y : S8x1x1024.Idx) (h0 : (y 0).val = 5) (h2 : (y 2).val = i.val) : k0_pay10 (F := Ideal) (View.ld (Val := Elt Ideal) (e' := .bf16) Q (Rect.unit (s := S256x1024) ![160, 0] ![32, 1024] inb_S256x1024_S32x1024_160_0)) z5 (ix3 0 0 i) = shifts Q z0 z1 z2 z3 z4 z5 z6 z7 y := by
  rw [shift5, shiftAt, shifts]
  obtain rfl : y 2 = i := Fin.ext h2
  refine congrArg₂ (fun a b : EReal => Ideal.sqrt a * b) (Finset.sum_congr rfl fun d _ => ?_) ?_
  · have h : View.ld (Val := Elt Ideal) (e' := .bf16) Q (Rect.unit (s := S256x1024) ![160, 0] ![32, 1024] inb_S256x1024_S32x1024_160_0) (ix2 d (y 2)) = Q (ix2 ⟨32 * (y 0).val + d.val, by omega⟩ (y 2)) :=
      View.ld_unit_apply_of _ _ _ _ _ _ (by intro a; fin_cases a; exact congrArg (fun n => 32 * n + d.val) h0; exact (Nat.zero_add _).symm)
    exact congrArg₂ (· * ·) h h
  · rw [show y 0 = (5 : Fin 8) from Fin.ext h0]
    rfl

theorem shift6_at (i : Fin 1024) (y : S8x1x1024.Idx) (h0 : (y 0).val = 6) (h2 : (y 2).val = i.val) : k0_pay11 (F := Ideal) (View.ld (Val := Elt Ideal) (e' := .bf16) Q (Rect.unit (s := S256x1024) ![192, 0] ![32, 1024] inb_S256x1024_S32x1024_192_0)) z6 (ix3 0 0 i) = shifts Q z0 z1 z2 z3 z4 z5 z6 z7 y := by
  rw [shift6, shiftAt, shifts]
  obtain rfl : y 2 = i := Fin.ext h2
  refine congrArg₂ (fun a b : EReal => Ideal.sqrt a * b) (Finset.sum_congr rfl fun d _ => ?_) ?_
  · have h : View.ld (Val := Elt Ideal) (e' := .bf16) Q (Rect.unit (s := S256x1024) ![192, 0] ![32, 1024] inb_S256x1024_S32x1024_192_0) (ix2 d (y 2)) = Q (ix2 ⟨32 * (y 0).val + d.val, by omega⟩ (y 2)) :=
      View.ld_unit_apply_of _ _ _ _ _ _ (by intro a; fin_cases a; exact congrArg (fun n => 32 * n + d.val) h0; exact (Nat.zero_add _).symm)
    exact congrArg₂ (· * ·) h h
  · rw [show y 0 = (6 : Fin 8) from Fin.ext h0]
    rfl

theorem shift7_at (i : Fin 1024) (y : S8x1x1024.Idx) (h0 : (y 0).val = 7) (h2 : (y 2).val = i.val) : k0_pay18 (F := Ideal) (k0_pay12 (F := Ideal) (View.ld (Val := Elt Ideal) (e' := .bf16) Q (Rect.unit (s := S256x1024) ![224, 0] ![32, 1024] inb_S256x1024_S32x1024_224_0)) z7) (ix3 0 0 i) = shifts Q z0 z1 z2 z3 z4 z5 z6 z7 y := by
  rw [shift7, shiftAt, shifts]
  obtain rfl : y 2 = i := Fin.ext h2
  refine congrArg₂ (fun a b : EReal => Ideal.sqrt a * b) (Finset.sum_congr rfl fun d _ => ?_) ?_
  · have h : View.ld (Val := Elt Ideal) (e' := .bf16) Q (Rect.unit (s := S256x1024) ![224, 0] ![32, 1024] inb_S256x1024_S32x1024_224_0) (ix2 d (y 2)) = Q (ix2 ⟨32 * (y 0).val + d.val, by omega⟩ (y 2)) :=
      View.ld_unit_apply_of _ _ _ _ _ _ (by intro a; fin_cases a; exact congrArg (fun n => 32 * n + d.val) h0; exact (Nat.zero_add _).symm)
    exact congrArg₂ (· * ·) h h
  · rw [show y 0 = (7 : Fin 8) from Fin.ext h0]
    rfl

theorem shift_cover (y : S8x1x1024.Idx) : ∃ q ∈ shiftPieces Q z0 z1 z2 z3 z4 z5 z6 z7, y ∈ q.1.set :=
  View.cover_of_tiled (shiftPieces Q z0 z1 z2 z3 z4 z5 z6 z7) ![1, 1, 1024] (by rfl) y

theorem shift_canon (y : S8x1x1024.Idx) : View.canon (shiftPieces Q z0 z1 z2 z3 z4 z5 z6 z7) y = shifts Q z0 z1 z2 z3 z4 z5 z6 z7 y := by
  refine View.canon_append_of_piecesOf (shifts Q z0 z1 z2 z3 z4 z5 z6 z7) [] (shiftPieces Q z0 z1 z2 z3 z4 z5 z6 z7)
    ⟨?_, ?_, ?_, ?_, ?_, ?_, ?_, ?_, trivial⟩ y (shift_cover Q z0 z1 z2 z3 z4 z5 z6 z7 y)
  all_goals
    intro x
    idx_vars x
    obtain rfl : x0 = 0 := Subsingleton.elim _ _
    obtain rfl : x1 = 0 := Subsingleton.elim _ _
  · exact shift7_at Q z0 z1 z2 z3 z4 z5 z6 z7 x2 _ (Rect.idx_unit_val _ _ _ _ _) ((Rect.idx_unit_val _ _ _ _ _).trans (Nat.zero_add _))
  · exact shift6_at Q z0 z1 z2 z3 z4 z5 z6 z7 x2 _ (Rect.idx_unit_val _ _ _ _ _) ((Rect.idx_unit_val _ _ _ _ _).trans (Nat.zero_add _))
  · exact shift5_at Q z0 z1 z2 z3 z4 z5 z6 z7 x2 _ (Rect.idx_unit_val _ _ _ _ _) ((Rect.idx_unit_val _ _ _ _ _).trans (Nat.zero_add _))
  · exact shift4_at Q z0 z1 z2 z3 z4 z5 z6 z7 x2 _ (Rect.idx_unit_val _ _ _ _ _) ((Rect.idx_unit_val _ _ _ _ _).trans (Nat.zero_add _))
  · exact shift3_at Q z0 z1 z2 z3 z4 z5 z6 z7 x2 _ (Rect.idx_unit_val _ _ _ _ _) ((Rect.idx_unit_val _ _ _ _ _).trans (Nat.zero_add _))
  · exact shift2_at Q z0 z1 z2 z3 z4 z5 z6 z7 x2 _ (Rect.idx_unit_val _ _ _ _ _) ((Rect.idx_unit_val _ _ _ _ _).trans (Nat.zero_add _))
  · exact shift1_at Q z0 z1 z2 z3 z4 z5 z6 z7 x2 _ (Rect.idx_unit_val _ _ _ _ _) ((Rect.idx_unit_val _ _ _ _ _).trans (Nat.zero_add _))
  · exact shift0_at Q z0 z1 z2 z3 z4 z5 z6 z7 x2 _ (Rect.idx_unit_val _ _ _ _ _) ((Rect.idx_unit_val _ _ _ _ _).trans (Nat.zero_add _))

/-- A load of the shifts after their stores. -/
theorem shift_load (r : Rect S8x1x1024) :
    (View.whole cc0_scratch0).readCov (Val := Elt Ideal) (shiftPieces Q z0 z1 z2 z3 z4 z5 z6 z7) r.toLoadRect
      = View.ld (Val := Elt Ideal) (e' := .f32) (shifts Q z0 z1 z2 z3 z4 z5 z6 z7) r := by
  rw [View.readCov_eq_canon']
  exact funext fun j => shift_canon Q z0 z1 z2 z3 z4 z5 z6 z7 _

end Shifts

end Cert.KernelIdeal.Att
end
-- ==== Proof.AttPoint.lean ====
module

public import proofs.«01_k».proof.Proof.Gen.KernelIdeal.Value
public import proofs.«01_k».proof.Proof.Gen.KernelIdeal.Frame
public import proofs.«01_k».proof.Proof.AttStep
public import Idealize.ShloMosaic.Lib.Pipeline.ValueKit
public import Idealize.ShloMosaic.Lib.Pipeline.ReadBack
public import Idealize.ShloMosaic.Lib.Pointwise

/-! The differential attention kernel: what the points leave in the scratch and in the output block. -/

@[expose] public section

set_option maxRecDepth 16384

noncomputable section
open Idealize.ShloMosaic Idealize.ShloMosaic.TcCoe Idealize.SL.Sem
open Idealize.ShloMosaic.Pipeline (Dat)

namespace Cert.KernelIdeal.Att
open Cert.KernelIdeal Cert.KernelIdeal.Gen

/-! A load of one pair's slab, before its own store, of the accumulator filled with `Z` and stored to by the pairs before it. -/

section Fill
theorem fill_cover (Z : FVec Ideal S8x80x1024 .f32) (y : S8x80x1024.Idx) :
    ∃ q ∈ ([⟨Rect.unit (s := S8x80x1024) ![0, 0, 0] ![8, 80, 1024] inb_S8x80x1024_S8x80x1024_0_0_0, Z⟩] : List (View.Piece (Elt Ideal) S8x80x1024 .f32)), y ∈ q.1.set := by
  have h0 : (y 0).val < 8 := (y 0).isLt
  have h1 : (y 1).val < 80 := (y 1).isLt
  have h2 : (y 2).val < 1024 := (y 2).isLt
  refine ⟨_, .head _, (Rect.mem_set_unit (inb := inb_S8x80x1024_S8x80x1024_0_0_0)).mpr fun a => ?_⟩
  fin_cases a
  · exact ⟨Nat.zero_le _, by simpa using h0⟩
  · exact ⟨Nat.zero_le _, by simpa using h1⟩
  · exact ⟨Nat.zero_le _, by simpa using h2⟩

theorem fill_canon (Z : FVec Ideal S8x80x1024 .f32) :
    View.canon ([⟨Rect.unit (s := S8x80x1024) ![0, 0, 0] ![8, 80, 1024] inb_S8x80x1024_S8x80x1024_0_0_0, Z⟩] : List (View.Piece (Elt Ideal) S8x80x1024 .f32)) = Z := by
  funext y
  canon_tiles x h using (fill_cover Z y)
  show Z x = _
  blk_ext

variable (Z : FVec Ideal S8x80x1024 .f32) (w0 w1 w2 w3 w4 w5 w6 : FVec Ideal S1x80x1024 .f32)

theorem fill0 : (View.whole cc0_scratch1).readCov (Val := Elt Ideal) [⟨Rect.unit (s := S8x80x1024) ![0, 0, 0] ![8, 80, 1024] inb_S8x80x1024_S8x80x1024_0_0_0, Z⟩] (Rect.unit (s := S8x80x1024) ![0, 0, 0] ![1, 80, 1024] inb_S8x80x1024_S1x80x1024_0_0_0).toLoadRect
    = View.ld (Val := Elt Ideal) (e' := .f32) Z (Rect.unit (s := S8x80x1024) ![0, 0, 0] ![1, 80, 1024] inb_S8x80x1024_S1x80x1024_0_0_0) := by
  rw [View.readCov_eq_canon', fill_canon]
  rfl

theorem fill1 : (View.whole cc0_scratch1).readCov (Val := Elt Ideal) [⟨Rect.unit (s := S8x80x1024) ![0, 0, 0] ![1, 80, 1024] inb_S8x80x1024_S1x80x1024_0_0_0, w0⟩, ⟨Rect.unit (s := S8x80x1024) ![0, 0, 0] ![8, 80, 1024] inb_S8x80x1024_S8x80x1024_0_0_0, Z⟩] (Rect.unit (s := S8x80x1024) ![1, 0, 0] ![1, 80, 1024] inb_S8x80x1024_S1x80x1024_1_0_0).toLoadRect
    = View.ld (Val := Elt Ideal) (e' := .f32) Z (Rect.unit (s := S8x80x1024) ![1, 0, 0] ![1, 80, 1024] inb_S8x80x1024_S1x80x1024_1_0_0) := by
  rw [View.readCov_skip _ _ _ _ _ (by decide), View.readCov_eq_canon', fill_canon]
  rfl

theorem fill2 : (View.whole cc0_scratch1).readCov (Val := Elt Ideal) [⟨Rect.unit (s := S8x80x1024) ![1, 0, 0] ![1, 80, 1024] inb_S8x80x1024_S1x80x1024_1_0_0, w1⟩, ⟨Rect.unit (s := S8x80x1024) ![0, 0, 0] ![1, 80, 1024] inb_S8x80x1024_S1x80x1024_0_0_0, w0⟩, ⟨Rect.unit (s := S8x80x1024) ![0, 0, 0] ![8, 80, 1024] inb_S8x80x1024_S8x80x1024_0_0_0, Z⟩] (Rect.unit (s := S8x80x1024) ![2, 0, 0] ![1, 80, 1024] inb_S8x80x1024_S1x80x1024_2_0_0).toLoadRect
    = View.ld (Val := Elt Ideal) (e' := .f32) Z (Rect.unit (s := S8x80x1024) ![2, 0, 0] ![1, 80, 1024] inb_S8x80x1024_S1x80x1024_2_0_0) := by
  rw [View.readCov_skip _ _ _ _ _ (by decide), View.readCov_skip _ _ _ _ _ (by decide), View.readCov_eq_canon', fill_canon]
  rfl

theorem fill3 : (View.whole cc0_scratch1).readCov (Val := Elt Ideal) [⟨Rect.unit (s := S8x80x1024) ![2, 0, 0] ![1, 80, 1024] inb_S8x80x1024_S1x80x1024_2_0_0, w2⟩, ⟨Rect.unit (s := S8x80x1024) ![1, 0, 0] ![1, 80, 1024] inb_S8x80x1024_S1x80x1024_1_0_0, w1⟩, ⟨Rect.unit (s := S8x80x1024) ![0, 0, 0] ![1, 80, 1024] inb_S8x80x1024_S1x80x1024_0_0_0, w0⟩, ⟨Rect.unit (s := S8x80x1024) ![0, 0, 0] ![8, 80, 1024] inb_S8x80x1024_S8x80x1024_0_0_0, Z⟩] (Rect.unit (s := S8x80x1024) ![3, 0, 0] ![1, 80, 1024] inb_S8x80x1024_S1x80x1024_3_0_0).toLoadRect
    = View.ld (Val := Elt Ideal) (e' := .f32) Z (Rect.unit (s := S8x80x1024) ![3, 0, 0] ![1, 80, 1024] inb_S8x80x1024_S1x80x1024_3_0_0) := by
  rw [View.readCov_skip _ _ _ _ _ (by decide), View.readCov_skip _ _ _ _ _ (by decide), View.readCov_skip _ _ _ _ _ (by decide), View.readCov_eq_canon', fill_canon]
  rfl

theorem fill4 : (View.whole cc0_scratch1).readCov (Val := Elt Ideal) [⟨Rect.unit (s := S8x80x1024) ![3, 0, 0] ![1, 80, 1024] inb_S8x80x1024_S1x80x1024_3_0_0, w3⟩, ⟨Rect.unit (s := S8x80x1024) ![2, 0, 0] ![1, 80, 1024] inb_S8x80x1024_S1x80x1024_2_0_0, w2⟩, ⟨Rect.unit (s := S8x80x1024) ![1, 0, 0] ![1, 80, 1024] inb_S8x80x1024_S1x80x1024_1_0_0, w1⟩, ⟨Rect.unit (s := S8x80x1024) ![0, 0, 0] ![1, 80, 1024] inb_S8x80x1024_S1x80x1024_0_0_0, w0⟩, ⟨Rect.unit (s := S8x80x1024) ![0, 0, 0] ![8, 80, 1024] inb_S8x80x1024_S8x80x1024_0_0_0, Z⟩] (Rect.unit (s := S8x80x1024) ![4, 0, 0] ![1, 80, 1024] inb_S8x80x1024_S1x80x1024_4_0_0).toLoadRect
    = View.ld (Val := Elt Ideal) (e' := .f32) Z (Rect.unit (s := S8x80x1024) ![4, 0, 0] ![1, 80, 1024] inb_S8x80x1024_S1x80x1024_4_0_0) := by
  rw [View.readCov_skip _ _ _ _ _ (by decide), View.readCov_skip _ _ _ _ _ (by decide), View.readCov_skip _ _ _ _ _ (by decide), View.readCov_skip _ _ _ _ _ (by decide), View.readCov_eq_canon', fill_canon]
  rfl

theorem fill5 : (View.whole cc0_scratch1).readCov (Val := Elt Ideal) [⟨Rect.unit (s := S8x80x1024) ![4, 0, 0] ![1, 80, 1024] inb_S8x80x1024_S1x80x1024_4_0_0, w4⟩, ⟨Rect.unit (s := S8x80x1024) ![3, 0, 0] ![1, 80, 1024] inb_S8x80x1024_S1x80x1024_3_0_0, w3⟩, ⟨Rect.unit (s := S8x80x1024) ![2, 0, 0] ![1, 80, 1024] inb_S8x80x1024_S1x80x1024_2_0_0, w2⟩, ⟨Rect.unit (s := S8x80x1024) ![1, 0, 0] ![1, 80, 1024] inb_S8x80x1024_S1x80x1024_1_0_0, w1⟩, ⟨Rect.unit (s := S8x80x1024) ![0, 0, 0] ![1, 80, 1024] inb_S8x80x1024_S1x80x1024_0_0_0, w0⟩, ⟨Rect.unit (s := S8x80x1024) ![0, 0, 0] ![8, 80, 1024] inb_S8x80x1024_S8x80x1024_0_0_0, Z⟩] (Rect.unit (s := S8x80x1024) ![5, 0, 0] ![1, 80, 1024] inb_S8x80x1024_S1x80x1024_5_0_0).toLoadRect
    = View.ld (Val := Elt Ideal) (e' := .f32) Z (Rect.unit (s := S8x80x1024) ![5, 0, 0] ![1, 80, 1024] inb_S8x80x1024_S1x80x1024_5_0_0) := by
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_eq_canon', fill_canon]
  rfl

theorem fill6 : (View.whole cc0_scratch1).readCov (Val := Elt Ideal) [⟨Rect.unit (s := S8x80x1024) ![5, 0, 0] ![1, 80, 1024] inb_S8x80x1024_S1x80x1024_5_0_0, w5⟩, ⟨Rect.unit (s := S8x80x1024) ![4, 0, 0] ![1, 80, 1024] inb_S8x80x1024_S1x80x1024_4_0_0, w4⟩, ⟨Rect.unit (s := S8x80x1024) ![3, 0, 0] ![1, 80, 1024] inb_S8x80x1024_S1x80x1024_3_0_0, w3⟩, ⟨Rect.unit (s := S8x80x1024) ![2, 0, 0] ![1, 80, 1024] inb_S8x80x1024_S1x80x1024_2_0_0, w2⟩, ⟨Rect.unit (s := S8x80x1024) ![1, 0, 0] ![1, 80, 1024] inb_S8x80x1024_S1x80x1024_1_0_0, w1⟩, ⟨Rect.unit (s := S8x80x1024) ![0, 0, 0] ![1, 80, 1024] inb_S8x80x1024_S1x80x1024_0_0_0, w0⟩, ⟨Rect.unit (s := S8x80x1024) ![0, 0, 0] ![8, 80, 1024] inb_S8x80x1024_S8x80x1024_0_0_0, Z⟩] (Rect.unit (s := S8x80x1024) ![6, 0, 0] ![1, 80, 1024] inb_S8x80x1024_S1x80x1024_6_0_0).toLoadRect
    = View.ld (Val := Elt Ideal) (e' := .f32) Z (Rect.unit (s := S8x80x1024) ![6, 0, 0] ![1, 80, 1024] inb_S8x80x1024_S1x80x1024_6_0_0) := by
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_eq_canon', fill_canon]
  rfl

theorem fill7 : (View.whole cc0_scratch1).readCov (Val := Elt Ideal) [⟨Rect.unit (s := S8x80x1024) ![6, 0, 0] ![1, 80, 1024] inb_S8x80x1024_S1x80x1024_6_0_0, w6⟩, ⟨Rect.unit (s := S8x80x1024) ![5, 0, 0] ![1, 80, 1024] inb_S8x80x1024_S1x80x1024_5_0_0, w5⟩, ⟨Rect.unit (s := S8x80x1024) ![4, 0, 0] ![1, 80, 1024] inb_S8x80x1024_S1x80x1024_4_0_0, w4⟩, ⟨Rect.unit (s := S8x80x1024) ![3, 0, 0] ![1, 80, 1024] inb_S8x80x1024_S1x80x1024_3_0_0, w3⟩, ⟨Rect.unit (s := S8x80x1024) ![2, 0, 0] ![1, 80, 1024] inb_S8x80x1024_S1x80x1024_2_0_0, w2⟩, ⟨Rect.unit (s := S8x80x1024) ![1, 0, 0] ![1, 80, 1024] inb_S8x80x1024_S1x80x1024_1_0_0, w1⟩, ⟨Rect.unit (s := S8x80x1024) ![0, 0, 0] ![1, 80, 1024] inb_S8x80x1024_S1x80x1024_0_0_0, w0⟩, ⟨Rect.unit (s := S8x80x1024) ![0, 0, 0] ![8, 80, 1024] inb_S8x80x1024_S8x80x1024_0_0_0, Z⟩] (Rect.unit (s := S8x80x1024) ![7, 0, 0] ![1, 80, 1024] inb_S8x80x1024_S1x80x1024_7_0_0).toLoadRect
    = View.ld (Val := Elt Ideal) (e' := .f32) Z (Rect.unit (s := S8x80x1024) ![7, 0, 0] ![1, 80, 1024] inb_S8x80x1024_S1x80x1024_7_0_0) := by
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_eq_canon', fill_canon]
  rfl

end Fill

/-! The scalar loads. -/

section Scalars
variable (S : FVec Ideal S1x16 .f32)

theorem sc0 (h : 0 < (Rect.unit (s := S1x16) ![0, 0] ![1, 1] inb_S1x16_S1x1_0_0).shape.numel) :
    View.ld (Val := Elt Ideal) (e' := .f32) S (Rect.unit (s := S1x16) ![0, 0] ![1, 1] inb_S1x16_S1x1_0_0) (Shape.Idx.first h) = S (ix2 0 0) :=
  View.ld_unit_apply_of _ _ _ _ _ _ (by intro a; fin_cases a <;> rfl)
theorem sc1 (h : 0 < (Rect.unit (s := S1x16) ![0, 1] ![1, 1] inb_S1x16_S1x1_0_1).shape.numel) :
    View.ld (Val := Elt Ideal) (e' := .f32) S (Rect.unit (s := S1x16) ![0, 1] ![1, 1] inb_S1x16_S1x1_0_1) (Shape.Idx.first h) = S (ix2 0 1) :=
  View.ld_unit_apply_of _ _ _ _ _ _ (by intro a; fin_cases a <;> rfl)
theorem sc2 (h : 0 < (Rect.unit (s := S1x16) ![0, 2] ![1, 1] inb_S1x16_S1x1_0_2).shape.numel) :
    View.ld (Val := Elt Ideal) (e' := .f32) S (Rect.unit (s := S1x16) ![0, 2] ![1, 1] inb_S1x16_S1x1_0_2) (Shape.Idx.first h) = S (ix2 0 2) :=
  View.ld_unit_apply_of _ _ _ _ _ _ (by intro a; fin_cases a <;> rfl)
theorem sc3 (h : 0 < (Rect.unit (s := S1x16) ![0, 3] ![1, 1] inb_S1x16_S1x1_0_3).shape.numel) :
    View.ld (Val := Elt Ideal) (e' := .f32) S (Rect.unit (s := S1x16) ![0, 3] ![1, 1] inb_S1x16_S1x1_0_3) (Shape.Idx.first h) = S (ix2 0 3) :=
  View.ld_unit_apply_of _ _ _ _ _ _ (by intro a; fin_cases a <;> rfl)
theorem sc4 (h : 0 < (Rect.unit (s := S1x16) ![0, 4] ![1, 1] inb_S1x16_S1x1_0_4).shape.numel) :
    View.ld (Val := Elt Ideal) (e' := .f32) S (Rect.unit (s := S1x16) ![0, 4] ![1, 1] inb_S1x16_S1x1_0_4) (Shape.Idx.first h) = S (ix2 0 4) :=
  View.ld_unit_apply_of _ _ _ _ _ _ (by intro a; fin_cases a <;> rfl)
theorem sc5 (h : 0 < (Rect.unit (s := S1x16) ![0, 5] ![1, 1] inb_S1x16_S1x1_0_5).shape.numel) :
    View.ld (Val := Elt Ideal) (e' := .f32) S (Rect.unit (s := S1x16) ![0, 5] ![1, 1] inb_S1x16_S1x1_0_5) (Shape.Idx.first h) = S (ix2 0 5) :=
  View.ld_unit_apply_of _ _ _ _ _ _ (by intro a; fin_cases a <;> rfl)
theorem sc6 (h : 0 < (Rect.unit (s := S1x16) ![0, 6] ![1, 1] inb_S1x16_S1x1_0_6).shape.numel) :
    View.ld (Val := Elt Ideal) (e' := .f32) S (Rect.unit (s := S1x16) ![0, 6] ![1, 1] inb_S1x16_S1x1_0_6) (Shape.Idx.first h) = S (ix2 0 6) :=
  View.ld_unit_apply_of _ _ _ _ _ _ (by intro a; fin_cases a <;> rfl)
theorem sc7 (h : 0 < (Rect.unit (s := S1x16) ![0, 7] ![1, 1] inb_S1x16_S1x1_0_7).shape.numel) :
    View.ld (Val := Elt Ideal) (e' := .f32) S (Rect.unit (s := S1x16) ![0, 7] ![1, 1] inb_S1x16_S1x1_0_7) (Shape.Idx.first h) = S (ix2 0 7) :=
  View.ld_unit_apply_of _ _ _ _ _ _ (by intro a; fin_cases a <;> rfl)
theorem sc8 (h : 0 < (Rect.unit (s := S1x16) ![0, 8] ![1, 1] inb_S1x16_S1x1_0_8).shape.numel) :
    View.ld (Val := Elt Ideal) (e' := .f32) S (Rect.unit (s := S1x16) ![0, 8] ![1, 1] inb_S1x16_S1x1_0_8) (Shape.Idx.first h) = S (ix2 0 8) :=
  View.ld_unit_apply_of _ _ _ _ _ _ (by intro a; fin_cases a <;> rfl)

theorem shifts_sc (Q : FVec Ideal S256x1024 .bf16) (h1 : 0 < (Rect.unit (s := S1x16) ![0, 1] ![1, 1] inb_S1x16_S1x1_0_1).shape.numel) (h2 : 0 < (Rect.unit (s := S1x16) ![0, 2] ![1, 1] inb_S1x16_S1x1_0_2).shape.numel) (h3 : 0 < (Rect.unit (s := S1x16) ![0, 3] ![1, 1] inb_S1x16_S1x1_0_3).shape.numel) (h4 : 0 < (Rect.unit (s := S1x16) ![0, 4] ![1, 1] inb_S1x16_S1x1_0_4).shape.numel) (h5 : 0 < (Rect.unit (s := S1x16) ![0, 5] ![1, 1] inb_S1x16_S1x1_0_5).shape.numel) (h6 : 0 < (Rect.unit (s := S1x16) ![0, 6] ![1, 1] inb_S1x16_S1x1_0_6).shape.numel) (h7 : 0 < (Rect.unit (s := S1x16) ![0, 7] ![1, 1] inb_S1x16_S1x1_0_7).shape.numel) (h8 : 0 < (Rect.unit (s := S1x16) ![0, 8] ![1, 1] inb_S1x16_S1x1_0_8).shape.numel) :
    shifts Q (View.ld (Val := Elt Ideal) (e' := .f32) S (Rect.unit (s := S1x16) ![0, 1] ![1, 1] inb_S1x16_S1x1_0_1) (Shape.Idx.first h1)) (View.ld (Val := Elt Ideal) (e' := .f32) S (Rect.unit (s := S1x16) ![0, 2] ![1, 1] inb_S1x16_S1x1_0_2) (Shape.Idx.first h2)) (View.ld (Val := Elt Ideal) (e' := .f32) S (Rect.unit (s := S1x16) ![0, 3] ![1, 1] inb_S1x16_S1x1_0_3) (Shape.Idx.first h3)) (View.ld (Val := Elt Ideal) (e' := .f32) S (Rect.unit (s := S1x16) ![0, 4] ![1, 1] inb_S1x16_S1x1_0_4) (Shape.Idx.first h4)) (View.ld (Val := Elt Ideal) (e' := .f32) S (Rect.unit (s := S1x16) ![0, 5] ![1, 1] inb_S1x16_S1x1_0_5) (Shape.Idx.first h5)) (View.ld (Val := Elt Ideal) (e' := .f32) S (Rect.unit (s := S1x16) ![0, 6] ![1, 1] inb_S1x16_S1x1_0_6) (Shape.Idx.first h6)) (View.ld (Val := Elt Ideal) (e' := .f32) S (Rect.unit (s := S1x16) ![0, 7] ![1, 1] inb_S1x16_S1x1_0_7) (Shape.Idx.first h7)) (View.ld (Val := Elt Ideal) (e' := .f32) S (Rect.unit (s := S1x16) ![0, 8] ![1, 1] inb_S1x16_S1x1_0_8) (Shape.Idx.first h8))
      = shifts Q (S (ix2 0 1)) (S (ix2 0 2)) (S (ix2 0 3)) (S (ix2 0 4)) (S (ix2 0 5)) (S (ix2 0 6)) (S (ix2 0 7)) (S (ix2 0 8)) := by
  rw [sc1 S h1, sc2 S h2, sc3 S h3, sc4 S h4, sc5 S h5, sc6 S h6, sc7 S h7, sc8 S h8]

end Scalars

/-- A head's difference of quotients, over the accumulator `G`. -/
def quotAt (z : EReal) (G : Fin 8 → Fin 80 → Fin 1024 → EReal) (i : Fin 1024) (e : Fin 256) : EReal :=
  Ideal.div (G ⟨2 * (e.val / 64), by omega⟩ ⟨e.val % 64, by omega⟩ i) (G ⟨2 * (e.val / 64), by omega⟩ 64 i)
    - z * Ideal.div (G ⟨2 * (e.val / 64) + 1, by omega⟩ ⟨e.val % 64, by omega⟩ i) (G ⟨2 * (e.val / 64) + 1, by omega⟩ 64 i)

section Quotients
variable (z : Ideal .f32) (G : Fin 8 → Fin 80 → Fin 1024 → EReal) (i : Fin 1024) (v : Fin 64)

theorem acc0 (r : Fin 80) : (View.ld (Val := Elt Ideal) (e' := .f32) (fun y : S8x80x1024.Idx => G (y 0) (y 1) (y 2)) (Rect.unit (s := S8x80x1024) ![0, 0, 0] ![1, 80, 1024] inb_S8x80x1024_S1x80x1024_0_0_0)) (ix3 0 r i) = G 0 r i := by
  exact View.ld_unit_apply_of _ _ _ _ _ (ix3 0 r i) (by intro a; fin_cases a <;> first | rfl | exact (Nat.zero_add _).symm)
theorem acc1 (r : Fin 80) : (View.ld (Val := Elt Ideal) (e' := .f32) (fun y : S8x80x1024.Idx => G (y 0) (y 1) (y 2)) (Rect.unit (s := S8x80x1024) ![1, 0, 0] ![1, 80, 1024] inb_S8x80x1024_S1x80x1024_1_0_0)) (ix3 0 r i) = G 1 r i := by
  exact View.ld_unit_apply_of _ _ _ _ _ (ix3 1 r i) (by intro a; fin_cases a <;> first | rfl | exact (Nat.zero_add _).symm)
theorem acc2 (r : Fin 80) : (View.ld (Val := Elt Ideal) (e' := .f32) (fun y : S8x80x1024.Idx => G (y 0) (y 1) (y 2)) (Rect.unit (s := S8x80x1024) ![2, 0, 0] ![1, 80, 1024] inb_S8x80x1024_S1x80x1024_2_0_0)) (ix3 0 r i) = G 2 r i := by
  exact View.ld_unit_apply_of _ _ _ _ _ (ix3 2 r i) (by intro a; fin_cases a <;> first | rfl | exact (Nat.zero_add _).symm)
theorem acc3 (r : Fin 80) : (View.ld (Val := Elt Ideal) (e' := .f32) (fun y : S8x80x1024.Idx => G (y 0) (y 1) (y 2)) (Rect.unit (s := S8x80x1024) ![3, 0, 0] ![1, 80, 1024] inb_S8x80x1024_S1x80x1024_3_0_0)) (ix3 0 r i) = G 3 r i := by
  exact View.ld_unit_apply_of _ _ _ _ _ (ix3 3 r i) (by intro a; fin_cases a <;> first | rfl | exact (Nat.zero_add _).symm)
theorem acc4 (r : Fin 80) : (View.ld (Val := Elt Ideal) (e' := .f32) (fun y : S8x80x1024.Idx => G (y 0) (y 1) (y 2)) (Rect.unit (s := S8x80x1024) ![4, 0, 0] ![1, 80, 1024] inb_S8x80x1024_S1x80x1024_4_0_0)) (ix3 0 r i) = G 4 r i := by
  exact View.ld_unit_apply_of _ _ _ _ _ (ix3 4 r i) (by intro a; fin_cases a <;> first | rfl | exact (Nat.zero_add _).symm)
theorem acc5 (r : Fin 80) : (View.ld (Val := Elt Ideal) (e' := .f32) (fun y : S8x80x1024.Idx => G (y 0) (y 1) (y 2)) (Rect.unit (s := S8x80x1024) ![5, 0, 0] ![1, 80, 1024] inb_S8x80x1024_S1x80x1024_5_0_0)) (ix3 0 r i) = G 5 r i := by
  exact View.ld_unit_apply_of _ _ _ _ _ (ix3 5 r i) (by intro a; fin_cases a <;> first | rfl | exact (Nat.zero_add _).symm)
theorem acc6 (r : Fin 80) : (View.ld (Val := Elt Ideal) (e' := .f32) (fun y : S8x80x1024.Idx => G (y 0) (y 1) (y 2)) (Rect.unit (s := S8x80x1024) ![6, 0, 0] ![1, 80, 1024] inb_S8x80x1024_S1x80x1024_6_0_0)) (ix3 0 r i) = G 6 r i := by
  exact View.ld_unit_apply_of _ _ _ _ _ (ix3 6 r i) (by intro a; fin_cases a <;> first | rfl | exact (Nat.zero_add _).symm)
theorem acc7 (r : Fin 80) : (View.ld (Val := Elt Ideal) (e' := .f32) (fun y : S8x80x1024.Idx => G (y 0) (y 1) (y 2)) (Rect.unit (s := S8x80x1024) ![7, 0, 0] ![1, 80, 1024] inb_S8x80x1024_S1x80x1024_7_0_0)) (ix3 0 r i) = G 7 r i := by
  exact View.ld_unit_apply_of _ _ _ _ _ (ix3 7 r i) (by intro a; fin_cases a <;> first | rfl | exact (Nat.zero_add _).symm)

theorem quot_congr (e : Fin 256) (h : Fin 4) (p p' : Fin 8) (he : e.val = 64 * h.val + v.val) (hp : p.val = 2 * h.val) (hp' : p'.val = 2 * h.val + 1) :
    quotAt z G i e = Ideal.div (G p ⟨v.val, by omega⟩ i) (G p 64 i) - (z : EReal) * Ideal.div (G p' ⟨v.val, by omega⟩ i) (G p' 64 i) := by
  rw [quotAt]
  rw [show (⟨2 * (e.val / 64), by omega⟩ : Fin 8) = p from Fin.ext (by show 2 * (e.val / 64) = p.val; omega),
    show (⟨2 * (e.val / 64) + 1, by omega⟩ : Fin 8) = p' from Fin.ext (by show 2 * (e.val / 64) + 1 = p'.val; omega),
    show (⟨e.val % 64, by omega⟩ : Fin 80) = ⟨v.val, by omega⟩ from Fin.ext (by show e.val % 64 = v.val; omega)]

theorem quot_at (e : Fin 256) : k0_pay2 (F := Ideal) z (k0_pay13 z (View.ld (Val := Elt Ideal) (e' := .f32) (fun y : S8x80x1024.Idx => G (y 0) (y 1) (y 2)) (Rect.unit (s := S8x80x1024) ![0, 0, 0] ![1, 80, 1024] inb_S8x80x1024_S1x80x1024_0_0_0)) (View.ld (Val := Elt Ideal) (e' := .f32) (fun y : S8x80x1024.Idx => G (y 0) (y 1) (y 2)) (Rect.unit (s := S8x80x1024) ![1, 0, 0] ![1, 80, 1024] inb_S8x80x1024_S1x80x1024_1_0_0))) (k0_pay14 z (View.ld (Val := Elt Ideal) (e' := .f32) (fun y : S8x80x1024.Idx => G (y 0) (y 1) (y 2)) (Rect.unit (s := S8x80x1024) ![2, 0, 0] ![1, 80, 1024] inb_S8x80x1024_S1x80x1024_2_0_0)) (View.ld (Val := Elt Ideal) (e' := .f32) (fun y : S8x80x1024.Idx => G (y 0) (y 1) (y 2)) (Rect.unit (s := S8x80x1024) ![3, 0, 0] ![1, 80, 1024] inb_S8x80x1024_S1x80x1024_3_0_0)))
    (k0_pay15 (View.ld (Val := Elt Ideal) (e' := .f32) (fun y : S8x80x1024.Idx => G (y 0) (y 1) (y 2)) (Rect.unit (s := S8x80x1024) ![5, 0, 0] ![1, 80, 1024] inb_S8x80x1024_S1x80x1024_5_0_0))) (k0_pay16 (View.ld (Val := Elt Ideal) (e' := .f32) (fun y : S8x80x1024.Idx => G (y 0) (y 1) (y 2)) (Rect.unit (s := S8x80x1024) ![4, 0, 0] ![1, 80, 1024] inb_S8x80x1024_S1x80x1024_4_0_0)))
    (k0_pay17 (View.ld (Val := Elt Ideal) (e' := .f32) (fun y : S8x80x1024.Idx => G (y 0) (y 1) (y 2)) (Rect.unit (s := S8x80x1024) ![5, 0, 0] ![1, 80, 1024] inb_S8x80x1024_S1x80x1024_5_0_0))) (View.ld (Val := Elt Ideal) (e' := .f32) (fun y : S8x80x1024.Idx => G (y 0) (y 1) (y 2)) (Rect.unit (s := S8x80x1024) ![6, 0, 0] ![1, 80, 1024] inb_S8x80x1024_S1x80x1024_6_0_0)) (View.ld (Val := Elt Ideal) (e' := .f32) (fun y : S8x80x1024.Idx => G (y 0) (y 1) (y 2)) (Rect.unit (s := S8x80x1024) ![7, 0, 0] ![1, 80, 1024] inb_S8x80x1024_S1x80x1024_7_0_0)) (ix2 i e) = quotAt z G i e := by
  obtain ⟨e, he⟩ := e
  obtain ⟨v, hv | hv | hv | hv⟩ : ∃ v : Fin 64, e = v.val ∨ e = 64 + v.val ∨ e = 128 + v.val ∨ e = 192 + v.val :=
    ⟨⟨e % 64, by omega⟩, by show e = e % 64 ∨ e = 64 + e % 64 ∨ e = 128 + e % 64 ∨ e = 192 + e % 64; omega⟩
  · subst hv
    rw [quot_congr z G i v _ 0 0 1 (by show v.val = 64 * 0 + v.val; omega) rfl rfl]
    refine (head0 z _ _ _ _ _ _ _ _ i v).trans ?_
    rw [headAt, acc0, acc0, acc1, acc1]
  · subst hv
    rw [quot_congr z G i v _ 1 2 3 (by show 64 + v.val = 64 * 1 + v.val; omega) rfl rfl]
    refine (head1 z _ _ _ _ _ _ _ _ i v).trans ?_
    rw [headAt, acc2, acc2, acc3, acc3]
  · subst hv
    rw [quot_congr z G i v _ 2 4 5 (by show 128 + v.val = 64 * 2 + v.val; omega) rfl rfl]
    refine (head2 z _ _ _ _ _ _ _ _ i v).trans ?_
    rw [headAt, acc4, acc4, acc5, acc5]
  · subst hv
    rw [quot_congr z G i v _ 3 6 7 (by show 192 + v.val = 64 * 3 + v.val; omega) rfl rfl]
    refine (head3 z _ _ _ _ _ _ _ _ i v).trans ?_
    rw [headAt, acc6, acc6, acc7, acc7]

end Quotients

variable (m : (ℓ : Loc nD τ sig) → Buf (Elt Ideal) ℓ) (c : Dev nD) (t : Fin cfg0.N)

/-- The largest key norm of each pair, as the point's scalars give it. -/
abbrev shiftsOf : FVec Ideal S8x1x1024 .f32 := shifts (iblk m c 1 t) (iblk m c 0 t (ix2 0 1)) (iblk m c 0 t (ix2 0 2)) (iblk m c 0 t (ix2 0 3)) (iblk m c 0 t (ix2 0 4))
  (iblk m c 0 t (ix2 0 5)) (iblk m c 0 t (ix2 0 6)) (iblk m c 0 t (ix2 0 7)) (iblk m c 0 t (ix2 0 8))

theorem first0 (h0 : t.val % 5 = 0) (h1 : ¬ t.val % 5 = 4) : (outsAt0 m c t.val t.isLt).2.1 = shiftsOf m c t := by
  rw [outsAt0_A m c t h0 h1]
  funext y
  frame_out
  refine (shift_canon _ _ _ _ _ _ _ _ _ y).trans ?_
  rfl

theorem fill_eq : k0_pay3 (F := Ideal) = fun _ => (0 : EReal) := by
  funext y
  idx_vars y
  exact zero_at y1 y2 y0

theorem first1 (h0 : t.val % 5 = 0) (h1 : ¬ t.val % 5 = 4) (y : S8x80x1024.Idx) :
    (outsAt0 m c t.val t.isLt).2.2 y = stepAt (iblk m c 2 t) (iblk m c 1 t) (iblk m c 3 t) (shiftsOf m c t) (fun _ => 0) (y 0) (y 1) (y 2) := by
  rw [outsAt0_A m c t h0 h1]
  frame_out
  rw [fill7, fill6, fill5, fill4, fill3, fill2, fill1, fill0]
  simp only [shift_load]
  refine (slabs_canon _ _ _ _ _ _ y).trans ?_
  rw [fill_eq]
  exact congrArg (fun M => stepAt (iblk m c 2 t) (iblk m c 1 t) (iblk m c 3 t) M (fun _ => (0 : EReal)) (y 0) (y 1) (y 2)) (shifts_sc (iblk m c 0 t) _
    (by decide)
    (by decide)
    (by decide)
    (by decide)
    (by decide)
    (by decide)
    (by decide)
    (by decide))

theorem next0 (h0 : ¬ t.val % 5 = 0) (h1 : ¬ t.val % 5 = 4) : (outsAt0 m c t.val t.isLt).2.1 = (outsAt0 m c (t.val - 1) (Nat.lt_of_le_of_lt (Nat.sub_le _ _) t.isLt)).2.1 := by
  rw [outsAt0_B m c t h0 h1]
  rfl

theorem next1 (h0 : ¬ t.val % 5 = 0) (h1 : ¬ t.val % 5 = 4) (y : S8x80x1024.Idx) :
    (outsAt0 m c t.val t.isLt).2.2 y = stepAt (iblk m c 2 t) (iblk m c 1 t) (iblk m c 3 t) (outsAt0 m c (t.val - 1) (Nat.lt_of_le_of_lt (Nat.sub_le _ _) t.isLt)).2.1
      (outsAt0 m c (t.val - 1) (Nat.lt_of_le_of_lt (Nat.sub_le _ _) t.isLt)).2.2 (y 0) (y 1) (y 2) := by
  rw [outsAt0_B m c t h0 h1]
  frame_out
  simp only [read_unread_whole]
  exact slabs_canon _ _ _ _ _ [] y

theorem last0 (h0 : ¬ t.val % 5 = 0) (h1 : t.val % 5 = 4) : (outsAt0 m c t.val t.isLt).2.1 = (outsAt0 m c (t.val - 1) (Nat.lt_of_le_of_lt (Nat.sub_le _ _) t.isLt)).2.1 := by
  rw [outsAt0_C m c t h0 h1]
  rfl

/-- The last point's block: each head's difference of its two pairs' normalised sums. -/
theorem last (h0 : ¬ t.val % 5 = 0) (h1 : t.val % 5 = 4) (i : Fin 1024) (e : Fin 256) :
    (outsAt0 m c t.val t.isLt).1 (ix2 i e) = quotAt (iblk m c 0 t (ix2 0 0)) (stepAt (iblk m c 2 t) (iblk m c 1 t) (iblk m c 3 t)
      (outsAt0 m c (t.val - 1) (Nat.lt_of_le_of_lt (Nat.sub_le _ _) t.isLt)).2.1 (outsAt0 m c (t.val - 1) (Nat.lt_of_le_of_lt (Nat.sub_le _ _) t.isLt)).2.2) i e := by
  rw [outsAt0_C m c t h0 h1]
  frame_out
  simp only [read_unread_whole]
  simp only [slabs_load]
  rw [← sc0 (iblk m c 0 t) (by decide)]
  exact quot_at _ _ i e

end Cert.KernelIdeal.Att
end
-- ==== Proof.AttRun.lean ====
module

public import proofs.«01_k».proof.Proof.AttHost
public import proofs.«01_k».proof.Proof.AttPoint

/-! The attention kernel's run: the sums its five key tiles leave, and the array the grid writes. -/

@[expose] public section

set_option maxRecDepth 16384

noncomputable section
open Idealize.ShloMosaic Idealize.ShloMosaic.TcCoe Idealize.SL.Sem
open Idealize.ShloMosaic.Pipeline (Dat)

namespace Cert.KernelIdeal.Att
open Cert.KernelIdeal Cert.KernelIdeal.Gen

section Values
variable (q : FVec Ideal S1x4x2x16384x32 .f32) (k : FVec Ideal S1x4x2x16640x32 .f32) (v : FVec Ideal S1x4x16640x64 .f32) (la : FVec Ideal S4x32 .f32)

/-- A query entry times the folded factor, and a key entry, of the pair-and-component `p`. -/
abbrev qAt (p : Fin 8) (n : Fin 16384) (d : Fin 32) : EReal := (q (ix5 0 ⟨p.val / 2, by omega⟩ ⟨p.val % 2, by omega⟩ n d) : EReal) * fac
abbrev kAt (p : Fin 8) (κ : Fin 16640) (d : Fin 32) : EReal := k (ix5 0 ⟨p.val / 2, by omega⟩ ⟨p.val % 2, by omega⟩ κ d)

/-- A value entry; row 64 counts the weights. -/
def vAt (h : Fin 4) (r : Fin 80) (κ : Fin 16640) : EReal := if hr : r.val < 64 then v (ix4 0 h κ ⟨r.val, hr⟩) else 1

/-- The largest key norm. -/
def kMax (p : Fin 8) : EReal := Ideal.sqrt (Finset.univ.fold max ⊥ fun κ : Fin 16640 => ∑ d : Fin 32, kAt k p κ d * kAt k p κ d)

def shiftG (p : Fin 8) (n : Fin 16384) : EReal := Ideal.sqrt (∑ d : Fin 32, qAt q p n d * qAt q p n d) * kMax k p

def wAt (p : Fin 8) (n : Fin 16384) (κ : Fin 16640) : EReal := Ideal.exp2 ((∑ d : Fin 32, kAt k p κ d * qAt q p n d) - shiftG q k p n)

/-- What one key tile adds, and what all the keys add. -/
def tile (j : Fin 5) (p : Fin 8) (r : Fin 80) (n : Fin 16384) : EReal :=
  ∑ κ : Fin 3328, vAt v ⟨p.val / 2, by omega⟩ r ⟨j.val * 3328 + κ.val, by omega⟩ * wAt q k p n ⟨j.val * 3328 + κ.val, by omega⟩

def accG (p : Fin 8) (r : Fin 80) (n : Fin 16384) : EReal := ∑ κ : Fin 16640, vAt v ⟨p.val / 2, by omega⟩ r κ * wAt q k p n κ

theorem accG_tiles (p : Fin 8) (r : Fin 80) (n : Fin 16384) :
    0 + tile q k v 0 p r n + tile q k v 1 p r n + tile q k v 2 p r n + tile q k v 3 p r n + tile q k v 4 p r n = accG q k v p r n := by
  rw [zero_add]
  exact ((Fin.sum_univ_tiles 5 3328 rfl fun κ : Fin 16640 => vAt v ⟨p.val / 2, by omega⟩ r κ * wAt q k p n κ).trans (Fin.sum_univ_five _)).symm

/-- The factor of the second component. -/
def lam : EReal := Ideal.exp (∑ d : Fin 32, (la (ix2 0 d) : EReal) * la (ix2 1 d)) - Ideal.exp (∑ d : Fin 32, (la (ix2 2 d) : EReal) * la (ix2 3 d))
  + FloatOps.ofBits (F := Ideal) .f32 0x3EB60549#32

/-- The kernel's result at row `n`, column `e`. -/
def outK (n : Fin 16384) (e : Fin 256) : EReal :=
  Ideal.div (accG q k v ⟨2 * (e.val / 64), by omega⟩ ⟨e.val % 64, by omega⟩ n) (accG q k v ⟨2 * (e.val / 64), by omega⟩ 64 n)
    - lam la * Ideal.div (accG q k v ⟨2 * (e.val / 64) + 1, by omega⟩ ⟨e.val % 64, by omega⟩ n) (accG q k v ⟨2 * (e.val / 64) + 1, by omega⟩ 64 n)

end Values

theorem pick8 (f : Fin 8 → EReal) (z0 z1 z2 z3 z4 z5 z6 z7 : EReal) (h0 : z0 = f 0) (h1 : z1 = f 1) (h2 : z2 = f 2) (h3 : z3 = f 3)
    (h4 : z4 = f 4) (h5 : z5 = f 5) (h6 : z6 = f 6) (h7 : z7 = f 7) (p : Fin 8) : ![z0, z1, z2, z3, z4, z5, z6, z7] p = f p := by
  subst h0 h1 h2 h3 h4 h5 h6 h7
  fin_cases p <;> rfl

variable (m : (ℓ : Loc nD τ sig) → Buf (Elt Ideal) ℓ) (c : Dev nD) (t : Fin cfg0.N)

/-- The query row of the point's lane `i`. -/
abbrev row (i : Fin 1024) : Fin 16384 := ⟨1024 * (t.val / 5) + i.val, by have := lt_of_lt_of_eq t.isLt N_0; omega⟩

theorem max_at (p : Fin 8) : (iblk m c 0 t : FVec Ideal S1x16 .f32) (ix2 0 ⟨1 + p.val, by omega⟩) = kMax (arg1 m c) p :=
  (blk0 m c t _).trans ((V41_succ m c p).trans (V14 m c p))

theorem lam_at : (iblk m c 0 t : FVec Ideal S1x16 .f32) (ix2 0 0) = lam (arg3 m c) :=
  (blk0 m c t _).trans ((V41_zero m c).trans (V38 m c))

theorem q_at (p : Fin 8) (d : Fin 32) (i : Fin 1024) :
    (iblk m c 1 t : FVec Ideal S256x1024 .bf16) (ix2 ⟨32 * p.val + d.val, by omega⟩ i) = qAt (arg0 m c) p (row t i) d :=
  (blk1 m c t _ i).trans (V8 m c p d _)

theorem k_at (p : Fin 8) (κ : Fin 3328) (d : Fin 32) :
    (iblk m c 2 t : FVec Ideal S8x3328x32 .bf16) (ix3 p κ d) = kAt (arg1 m c) p ⟨t.val % 5 * 3328 + κ.val, by omega⟩ d :=
  (blk2 m c t p κ d).trans (V15 m c p _ d)

theorem v_at (h : Fin 4) (r : Fin 80) (hr : r.val ≤ 64) (κ : Fin 3328) :
    (iblk m c 3 t : FVec Ideal S4x80x3328 .bf16) (ix3 h r κ) = vAt (arg2 m c) h r ⟨t.val % 5 * 3328 + κ.val, by omega⟩ :=
  (blk3 m c t h r κ).trans (V21 m c h r _ hr)

theorem shift_at (p : Fin 8) (i : Fin 1024) : shiftsOf m c t (ix3 p 0 i) = shiftG (arg0 m c) (arg1 m c) p (row t i) := by
  refine congrArg₂ (· * ·) (congrArg Ideal.sqrt (Finset.sum_congr rfl fun d _ => ?_)) ?_
  · exact congrArg₂ (· * ·) (q_at m c t p d i) (q_at m c t p d i)
  · exact pick8 (kMax (arg1 m c)) _ _ _ _ _ _ _ _ (max_at m c t 0) (max_at m c t 1) (max_at m c t 2) (max_at m c t 3) (max_at m c t 4)
      (max_at m c t 5) (max_at m c t 6) (max_at m c t 7) p

theorem step_at (M : FVec Ideal S8x1x1024 .f32) (A : FVec Ideal S8x80x1024 .f32) (p : Fin 8) (r : Fin 80) (hr : r.val ≤ 64) (i : Fin 1024)
    (hM : M (ix3 p 0 i) = shiftG (arg0 m c) (arg1 m c) p (row t i)) :
    stepAt (iblk m c 2 t) (iblk m c 1 t) (iblk m c 3 t) M A p r i
      = (A (ix3 p r i) : EReal) + tile (arg0 m c) (arg1 m c) (arg2 m c) ⟨t.val % 5, Nat.mod_lt _ (by decide)⟩ p r (row t i) := by
  refine congrArg (fun x : EReal => (A (ix3 p r i) : EReal) + x) (Finset.sum_congr rfl fun κ _ => ?_)
  refine congrArg₂ (· * ·) (v_at m c t _ r hr κ) (congrArg Ideal.exp2 (congrArg₂ (· - ·) (Finset.sum_congr rfl fun d _ => ?_) hM))
  exact congrArg₂ (· * ·) (k_at m c t p κ d) (q_at m c t p d i)

/-- After point `t` the scratch buffers hold the shifts and the sums `X`. -/
def Holds (t : Fin cfg0.N) (X : Fin 8 → Fin 80 → Fin 1024 → EReal) : Prop :=
  (∀ (p : Fin 8) (i : Fin 1024), (outsAt0 m c t.val t.isLt).2.1 (ix3 p 0 i) = shiftG (arg0 m c) (arg1 m c) p (row t i))
    ∧ ∀ (p : Fin 8) (r : Fin 80) (i : Fin 1024), r.val ≤ 64 → (outsAt0 m c t.val t.isLt).2.2 (ix3 p r i) = X p r i

theorem holds_first (h0 : t.val % 5 = 0) : Holds m c t fun p r i => 0 + tile (arg0 m c) (arg1 m c) (arg2 m c) 0 p r (row t i) := by
  refine ⟨fun p i => ?_, fun p r i hr => ?_⟩
  · rw [first0 m c t h0 (by omega)]
    exact shift_at m c t p i
  · refine (first1 m c t h0 (by omega) _).trans ((step_at m c t _ _ p r hr i (shift_at m c t p i)).trans ?_)
    exact congrArg (fun j => (0 : EReal) + tile (arg0 m c) (arg1 m c) (arg2 m c) j p r (row t i)) (Fin.ext h0)

theorem holds_next (s : Fin cfg0.N) (hs : s.val + 1 = t.val) (j : Fin 5) (hj : t.val % 5 = j.val) (h0 : j.val ≠ 0) (h1 : j.val ≠ 4)
    (X : Fin 8 → Fin 80 → Fin 1024 → EReal) (h : Holds m c s X) :
    Holds m c t fun p r i => X p r i + tile (arg0 m c) (arg1 m c) (arg2 m c) j p r (row t i) := by
  have es : s = ⟨t.val - 1, Nat.lt_of_le_of_lt (Nat.sub_le _ _) t.isLt⟩ := Fin.ext (by simp only []; omega)
  have er : ∀ i, row s i = row t i := fun i => Fin.ext (by simp only [row]; omega)
  subst es
  have ha : ∀ (p : Fin 8) (i : Fin 1024), (outsAt0 m c (t.val - 1) (Nat.lt_of_le_of_lt (Nat.sub_le _ _) t.isLt)).2.1 (ix3 p 0 i)
      = shiftG (arg0 m c) (arg1 m c) p (row t i) := fun p i => (h.1 p i).trans (congrArg _ (er i))
  refine ⟨fun p i => ?_, fun p r i hr => ?_⟩
  · rw [next0 m c t (by omega) (by omega)]
    exact ha p i
  · refine (next1 m c t (by omega) (by omega) _).trans ((step_at m c t _ _ p r hr i (ha p i)).trans ?_)
    exact congrArg₂ (· + ·) (h.2 p r i hr) (congrArg (fun j => tile (arg0 m c) (arg1 m c) (arg2 m c) j p r (row t i)) (Fin.ext hj))

theorem holds_last (s : Fin cfg0.N) (hs : s.val + 1 = t.val) (h4 : t.val % 5 = 4)
    (X : Fin 8 → Fin 80 → Fin 1024 → EReal) (h : Holds m c s X) (i : Fin 1024) (e : Fin 256) :
    (outsAt0 m c t.val t.isLt).1 (ix2 i e)
      = quotAt (lam (arg3 m c)) (fun p r i => X p r i + tile (arg0 m c) (arg1 m c) (arg2 m c) 4 p r (row t i)) i e := by
  have es : s = ⟨t.val - 1, Nat.lt_of_le_of_lt (Nat.sub_le _ _) t.isLt⟩ := Fin.ext (by simp only []; omega)
  have er : ∀ i, row s i = row t i := fun i => Fin.ext (by simp only [row]; omega)
  subst es
  have ha : ∀ (p : Fin 8) (i : Fin 1024), (outsAt0 m c (t.val - 1) (Nat.lt_of_le_of_lt (Nat.sub_le _ _) t.isLt)).2.1 (ix3 p 0 i)
      = shiftG (arg0 m c) (arg1 m c) p (row t i) := fun p i => (h.1 p i).trans (congrArg _ (er i))
  have hx : ∀ (p : Fin 8) (r : Fin 80) (hr : r.val ≤ 64), stepAt (iblk m c 2 t) (iblk m c 1 t) (iblk m c 3 t)
      (outsAt0 m c (t.val - 1) (Nat.lt_of_le_of_lt (Nat.sub_le _ _) t.isLt)).2.1 (outsAt0 m c (t.val - 1) (Nat.lt_of_le_of_lt (Nat.sub_le _ _) t.isLt)).2.2 p r i
      = X p r i + tile (arg0 m c) (arg1 m c) (arg2 m c) 4 p r (row t i) := fun p r hr =>
    (step_at m c t _ _ p r hr i (ha p i)).trans
      (congrArg₂ (· + ·) (h.2 p r i hr) (congrArg (fun j => tile (arg0 m c) (arg1 m c) (arg2 m c) j p r (row t i)) (Fin.ext h4)))
  rw [last m c t (by omega) h4 i e, quotAt, quotAt, lam_at]
  rw [hx _ _ (by show e.val % 64 ≤ 64; omega), hx _ _ (by decide), hx _ _ (by show e.val % 64 ≤ 64; omega), hx _ _ (by decide)]

theorem point (h4 : t.val % 5 = 4) (i : Fin 1024) (e : Fin 256) :
    (outsAt0 m c t.val t.isLt).1 (ix2 i e) = outK (arg0 m c) (arg1 m c) (arg2 m c) (arg3 m c) (row t i) e := by
  have hN := t.isLt
  let s (j : ℕ) : Fin cfg0.N := ⟨t.val - j, Nat.lt_of_le_of_lt (Nat.sub_le _ _) hN⟩
  have b0 := holds_first m c (s 4) (by simp only [s]; omega)
  have b1 := holds_next m c (s 3) (s 4) (by simp only [s]; omega) 1 (by simp only [s]; show _ = 1; omega) (by decide) (by decide) _ b0
  have b2 := holds_next m c (s 2) (s 3) (by simp only [s]; omega) 2 (by simp only [s]; show _ = 2; omega) (by decide) (by decide) _ b1
  have b3 := holds_next m c (s 1) (s 2) (by simp only [s]; omega) 3 (by simp only [s]; show _ = 3; omega) (by decide) (by decide) _ b2
  rw [holds_last m c t (s 1) (by simp only [s]; omega) h4 _ b3 i e]
  have er : ∀ j, j ≤ 4 → row (s j) i = row t i := fun j hj => Fin.ext (by simp only [row, s]; omega)
  rw [quotAt, outK]
  simp only [er 4 (by decide), er 3 (by decide), er 2 (by decide), er 1 (by decide), accG_tiles]

theorem flush_last : ∀ t : Fin cfg0.N, (cfg0.win 4).flush t = true → t.val % 5 = 4 := (by decide +kernel : ∀ t : Fin grid0.N, _)

theorem final : (dats m 0 c).arrAt 4 cfg0.N = (fun y => outK (arg0 m c) (arg1 m c) (arg2 m c) (arg3 m c) (y 0) (y 1) : FVec Ideal S16384x256 .f32) := by
  refine (dats m 0 c).arrAt_eq_of_covers 4 _ (by decide +kernel) fun t hf y => ?_
  have ht := flush_last t hf
  blk_simp
  rw [after0_4]
  idx_vars y
  rw [point m c t ht]
  refine congrArg₂ (outK _ _ _ _) (Fin.ext ?_) (Fin.ext ?_)
  · blk_simp [idx t]
    show 1024 * (t.val / 5) + y0.val = t.val / 5 * 1024 + y0.val
    omega
  · blk_simp [idx t]

end Cert.KernelIdeal.Att
end
-- ==== Proof.AttRef.lean ====
module

public import proofs.«01_k».proof.Proof.Gen.ReferenceIdeal.Read
public import proofs.«01_k».proof.Proof.Gen.ReferenceIdeal.Run
public import Idealize.ShloMosaic.Lib.Pipeline.ValueKit
public import Idealize.ShloMosaic.Lib.Pointwise

/-! The differential attention's reference, read as a formula over the extended reals. -/

@[expose] public section

set_option maxRecDepth 16384

noncomputable section
open Idealize.ShloMosaic Idealize.ShloMosaic.TcCoe Idealize.SL.Sem

namespace Cert.ReferenceIdeal.Att
open Cert.ReferenceIdeal Cert.ReferenceIdeal.Gen Cert.ReferenceIdeal.Read

variable (q : FVec Ideal S1x4x2x16384x32 .f32) (k : FVec Ideal S1x4x2x16640x32 .f32) (v : FVec Ideal S1x4x16640x64 .f32) (la : FVec Ideal S4x32 .f32)
variable (h : Fin 4) (j : Fin 2) (n : Fin 16384)

/-- The scaled score of one query and one key. -/
def score (κ : Fin 16640) : EReal := (∑ d : Fin 32, (q (ix5 0 h j n d) : EReal) * k (ix5 0 h j κ d)) * Ideal.ofBits .f32 0x3E3504F3#32

/-- The largest score of one query. -/
def top : EReal := max ⊥ (Finset.univ.fold max ⊥ (score q k h j n))

/-- The softmax weight of one key. -/
def prob (κ : Fin 16640) : EReal :=
  Ideal.div (Ideal.exp (score q k h j n κ - top q k h j n)) (∑ κ' : Fin 16640, Ideal.exp (score q k h j n κ' - top q k h j n))

/-- The factor of the second component. -/
def lam : EReal := Ideal.exp (∑ d : Fin 32, (la (ix2 0 d) : EReal) * la (ix2 1 d)) - Ideal.exp (∑ d : Fin 32, (la (ix2 2 d) : EReal) * la (ix2 3 d))
  + Ideal.ofBits .f32 0x3EB60549#32

/-- The attention's result at row `n`, head `h`, value column `u`. -/
def out (u : Fin 64) : EReal := ∑ κ : Fin 16640, (prob q k h 0 n κ - lam la * prob q k h 1 n κ) * v (ix4 0 h κ u)

theorem neg_inf : Ideal.ofBits .f32 0xFF800000#32 = (⊥ : EReal) := by simp [Ideal.ofBits, Ideal.ieee]

theorem v18_at (κ : Fin 16640) : val_main_v18 (F := Ideal) q k (ix5 0 h j n κ) = score q k h j n κ := by
  rw [val_main_v18_apply, val_main_v16_apply, val_main_v17_apply, val_main_cst_2_apply]
  refine congrArg₂ (· * ·) (Finset.sum_congr rfl fun d _ => ?_) rfl
  refine congrArg₂ (· * ·) (congrArg q ?_) (congrArg k ?_)
  all_goals
    funext a
    fin_cases a <;> rfl

theorem v19_at : val_main_v19 (F := Ideal) q k (ix4 0 h j n) = Finset.univ.fold max ⊥ (score q k h j n) := by
  unfold val_main_v19
  have e (y : FVec Ideal S1x4x2x16384x16640 .f32) (z : FVec Ideal S_ .f32) :
      Host.reduce FloatOps.maximumf y z reducesTo_S1x4x2x16384x16640_S1x4x2x16384_d4 h_S_ (ix4 0 h j n)
        = Finset.univ.fold max (z (Shape.Idx.first h_S_)) fun κ : Fin 16640 => y (ix5 0 h j n κ) := by
    simp only [pointwise]
  rw [e, val_main_cst_3_apply, Ideal.ofBits_def, neg_inf]
  exact congrArg (Finset.univ.fold max ⊥) (funext (v18_at q k h j n))

theorem v21_at : val_main_v21 (F := Ideal) q k (ix4 0 h j n) = top q k h j n := by
  rw [val_main_v21_apply, val_main_v20_apply, val_main_cst_4_apply, Ideal.ofBits_def, neg_inf, v19_at]
  rfl

theorem v25_at (κ : Fin 16640) : val_main_v25 (F := Ideal) q k (ix5 0 h j n κ) = Ideal.exp (score q k h j n κ - top q k h j n) := by
  pointwise [val_main_v25, val_main_v24, val_main_v23, val_main_v22, v21_at, v18_at]

theorem v29_at (κ : Fin 16640) : val_main_v29 (F := Ideal) q k (ix5 0 h j n κ) = prob q k h j n κ := by
  pointwise [val_main_v29, val_main_v28, val_main_v27, val_main_v26, val_main_cst_5, v25_at]
  rfl

theorem v15_at (i : S_.Idx) : val_main_v15 (F := Ideal) la i = lam la := by
  pointwise [val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem split (κ : Fin 16640) (g : ℕ) (hg : g = ((0 * 4 + h.val) * 16384 + n.val) * 16640 + κ.val) :
    g / 272629760 % 4 = h.val ∧ g / 16640 % 16384 = n.val ∧ g % 16640 = κ.val := by
  have := h.isLt; have := n.isLt; have := κ.isLt
  omega

theorem v31_at (κ : Fin 16640) : val_main_v31 (F := Ideal) q k (ix4 0 h n κ) = prob q k h 0 n κ := by
  have e := split h n κ _ rfl
  rw [val_main_v31_apply, val_main_v30_apply]
  refine Eq.trans (congrArg _ (funext fun a => Fin.ext ?_)) (v29_at q k h 0 n κ)
  match a with
  | ⟨0, _⟩ => rfl
  | ⟨1, _⟩ => exact e.1
  | ⟨2, _⟩ => rfl
  | ⟨3, _⟩ => exact e.2.1
  | ⟨4, _⟩ => exact e.2.2

theorem v33_at (κ : Fin 16640) : val_main_v33 (F := Ideal) q k (ix4 0 h n κ) = prob q k h 1 n κ := by
  have e := split h n κ _ rfl
  rw [val_main_v33_apply, val_main_v32_apply]
  refine Eq.trans (congrArg _ (funext fun a => Fin.ext ?_)) (v29_at q k h 1 n κ)
  match a with
  | ⟨0, _⟩ => rfl
  | ⟨1, _⟩ => exact e.1
  | ⟨2, _⟩ => rfl
  | ⟨3, _⟩ => exact e.2.1
  | ⟨4, _⟩ => exact e.2.2

theorem v36_at (κ : Fin 16640) : val_main_v36 (F := Ideal) q k la (ix4 0 h n κ) = prob q k h 0 n κ - lam la * prob q k h 1 n κ := by
  rw [val_main_v36_apply, val_main_v35_apply, val_main_v34_apply, v31_at, v33_at, v15_at]
  rfl

theorem v37_at (u : Fin 64) : val_main_v37 (F := Ideal) q k v la (ix4 0 h n u) = out q k v la h n u := by
  rw [val_main_v37_apply]
  refine Finset.sum_congr rfl fun κ _ => congrArg₂ (· * ·) (Eq.trans (congrArg _ ?_) (v36_at q k la h n κ)) (congrArg v ?_)
  all_goals
    funext a
    fin_cases a <;> rfl

theorem v39_at (e : Fin 256) : val_main_v39 (F := Ideal) q k v la (ix2 n e) = out q k v la ⟨e.val / 64, by omega⟩ n ⟨e.val % 64, by omega⟩ := by
  rw [← v37_at]
  pointwise [val_main_v39, val_main_v38]

end Cert.ReferenceIdeal.Att
end
-- ==== Proof.Sums.lean ====
module

public import Idealize.ShloMosaic.PureOps.Ideal
public import Mathlib.Data.EReal.Operations
public import Mathlib.Algebra.BigOperators.Fin

/-! A finite sum of finite numbers, as an extended real. -/

@[expose] public section

namespace Cert

theorem sum_coe {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

end Cert
end
-- ==== Proof.AttMath.lean ====
module

public import proofs.«01_k».proof.Proof.AttRun
public import proofs.«01_k».proof.Proof.AttRef
public import proofs.«01_k».proof.Proof.Sums

/-! At finite arguments the shifted sums of the attention kernel and the softmax of its reference are one value. -/

@[expose] public section

set_option maxRecDepth 16384

noncomputable section
open Idealize.ShloMosaic Idealize.SL.Sem

namespace Cert.Att

theorem sum_coe_mul {ι : Type} [Fintype ι] (f g : ι → ℝ) : ∑ i, ((f i : ℝ) : EReal) * ((g i : ℝ) : EReal) = ((∑ i, f i * g i : ℝ) : EReal) := by
  rw [← sum_coe]
  exact Finset.sum_congr rfl fun i _ => (EReal.coe_mul _ _).symm

/-- A maximum over the keys is one key's. -/
theorem fold_at (f : Fin 16640 → EReal) : ∃ κ, Finset.univ.fold max ⊥ f = f κ := by
  obtain ⟨κ, _, h⟩ := Finset.exists_mem_eq_sup (Finset.univ : Finset (Fin 16640)) ⟨0, Finset.mem_univ _⟩ f
  exact ⟨κ, h⟩

theorem div_coe_coe (x : ℝ) {y : ℝ} (h : y ≠ 0) : Ideal.div (x : EReal) (y : EReal) = ((x / y : ℝ) : EReal) := by
  rw [Ideal.div_coe h, ← EReal.coe_mul, mul_one_div]

section Weights
variable (a : Fin 16640 → ℝ) (ha : ∀ κ, 0 < a κ) (u : ℝ) (hu : 0 < u)
include ha hu

theorem total_ne : ∑ κ, a κ * u ≠ 0 :=
  (Finset.sum_pos (fun κ _ => mul_pos (ha κ) hu) ⟨0, Finset.mem_univ _⟩).ne'

/-- A common factor of the weights leaves the weighted mean. -/
theorem mean_div (w : Fin 16640 → ℝ) : Ideal.div (∑ κ, ((w κ : ℝ) : EReal) * ((a κ * u : ℝ) : EReal)) (∑ κ, (1 : EReal) * ((a κ * u : ℝ) : EReal))
    = ((∑ κ, a κ / (∑ κ', a κ') * w κ : ℝ) : EReal) := by
  have h1 : ∑ κ, (1 : EReal) * ((a κ * u : ℝ) : EReal) = ((∑ κ, a κ * u : ℝ) : EReal) := by
    simp only [one_mul]
    exact sum_coe _
  rw [sum_coe_mul, h1, div_coe_coe _ (total_ne a ha u hu)]
  refine congrArg _ ?_
  rw [← Finset.sum_mul, Finset.sum_div]
  refine Finset.sum_congr rfl fun κ _ => ?_
  have hs : ∑ κ', a κ' ≠ 0 := (Finset.sum_pos (fun κ _ => ha κ) ⟨0, Finset.mem_univ _⟩).ne'
  field_simp

/-- Nor does it change one weight's share. -/
theorem share_div (κ : Fin 16640) : Ideal.div ((a κ * u : ℝ) : EReal) (∑ κ', ((a κ' * u : ℝ) : EReal)) = ((a κ / (∑ κ', a κ') : ℝ) : EReal) := by
  rw [sum_coe, div_coe_coe _ (total_ne a ha u hu), ← Finset.sum_mul]
  refine congrArg _ ?_
  exact mul_div_mul_right _ _ hu.ne'

end Weights

theorem scale_real : ∃ r : ℝ, Ideal.ofBits .f32 0x3E3504F3#32 = (r : EReal) :=
  ⟨_, (EReal.coe_toReal (by simp [Ideal.ofBits, Ideal.ieee, -EReal.coe_mul]) (by simp [Ideal.ofBits, Ideal.ieee, -EReal.coe_mul])).symm⟩

theorem base_real : ∃ r : ℝ, Ideal.ofBits .f32 0x3EB60549#32 = (r : EReal) :=
  ⟨_, (EReal.coe_toReal (by simp [Ideal.ofBits, Ideal.ieee, -EReal.coe_mul]) (by simp [Ideal.ofBits, Ideal.ieee, -EReal.coe_mul])).symm⟩

theorem two_real : Ideal.ofBits .f32 0x40000000#32 = ((2 : ℝ) : EReal) := by
  simp [Ideal.ofBits, Ideal.ieee, -EReal.coe_mul]
  norm_num

open Cert.KernelIdeal.Att (fac)

theorem fac_real (s : ℝ) (hs : Ideal.ofBits .f32 0x3E3504F3#32 = (s : EReal)) : fac = ((s / Real.log 2 : ℝ) : EReal) := by
  show Ideal.div (Ideal.ofBits .f32 0x3E3504F3#32) (Ideal.log (Ideal.ofBits .f32 0x40000000#32)) = _
  rw [hs, two_real, Ideal.log_coe, if_neg (by norm_num), div_coe_coe]
  exact (Real.log_pos (by norm_num)).ne'

section Finite
open Cert.KernelIdeal
variable (q : S1x4x2x16384x32.Idx → ℝ) (k : S1x4x2x16640x32.Idx → ℝ) (v : S1x4x16640x64.Idx → ℝ) (la : S4x32.Idx → ℝ)

/-- The finite arrays as the programs' arguments. -/
abbrev up {s : Shape} (x : s.Idx → ℝ) : FVec Ideal s .f32 := fun y => ((x y : ℝ) : EReal)

/-- The real score before the scale. -/
def dotR (h : Fin 4) (j : Fin 2) (n : Fin 16384) (κ : Fin 16640) : ℝ := ∑ d : Fin 32, q (ix5 0 h j n d) * k (ix5 0 h j κ d)

theorem kMax_real (p : Fin 8) : ∃ r : ℝ, Cert.KernelIdeal.Att.kMax (up k) p = (r : EReal) := by
  unfold Cert.KernelIdeal.Att.kMax
  obtain ⟨κ, h⟩ := fold_at fun κ : Fin 16640 => ∑ d : Fin 32, Cert.KernelIdeal.Att.kAt (up k) p κ d * Cert.KernelIdeal.Att.kAt (up k) p κ d
  rw [h]
  have e := sum_coe_mul (fun d : Fin 32 => k (ix5 0 ⟨p.val / 2, by omega⟩ ⟨p.val % 2, by omega⟩ κ d)) (fun d : Fin 32 => k (ix5 0 ⟨p.val / 2, by omega⟩ ⟨p.val % 2, by omega⟩ κ d))
  refine ⟨_, (congrArg Ideal.sqrt e).trans ((Ideal.sqrt_coe _).trans (if_neg (not_lt.mpr ?_)))⟩
  exact Finset.sum_nonneg fun d _ => mul_self_nonneg _

variable (s : ℝ) (hs : Ideal.ofBits .f32 0x3E3504F3#32 = (s : EReal))
include hs

theorem shift_real (p : Fin 8) (n : Fin 16384) : ∃ r : ℝ, Cert.KernelIdeal.Att.shiftG (up q) (up k) p n = (r : EReal) := by
  obtain ⟨r, hr⟩ := kMax_real k p
  unfold Cert.KernelIdeal.Att.shiftG
  rw [hr]
  have e := sum_coe_mul (fun d : Fin 32 => q (ix5 0 ⟨p.val / 2, by omega⟩ ⟨p.val % 2, by omega⟩ n d) * (s / Real.log 2))
    (fun d : Fin 32 => q (ix5 0 ⟨p.val / 2, by omega⟩ ⟨p.val % 2, by omega⟩ n d) * (s / Real.log 2))
  simp only [EReal.coe_mul (q _) _, ← fac_real s hs] at e
  have e' := (congrArg Ideal.sqrt e).trans ((Ideal.sqrt_coe _).trans (if_neg (not_lt.mpr (Finset.sum_nonneg fun d _ => mul_self_nonneg _))))
  exact ⟨_, (congrArg (fun x : EReal => x * (r : EReal)) e').trans (EReal.coe_mul _ _).symm⟩

theorem w_real (p : Fin 8) (n : Fin 16384) : ∃ u : ℝ, 0 < u ∧ ∀ κ, Cert.KernelIdeal.Att.wAt (up q) (up k) p n κ
    = ((Real.exp (dotR q k ⟨p.val / 2, by omega⟩ ⟨p.val % 2, by omega⟩ n κ * s) * u : ℝ) : EReal) := by
  obtain ⟨r, hr⟩ := shift_real q k s hs p n
  refine ⟨Real.exp (-(Real.log 2 * r)), Real.exp_pos _, fun κ => ?_⟩
  unfold Cert.KernelIdeal.Att.wAt
  rw [hr]
  have e := sum_coe_mul (fun d : Fin 32 => k (ix5 0 ⟨p.val / 2, by omega⟩ ⟨p.val % 2, by omega⟩ κ d))
    (fun d : Fin 32 => q (ix5 0 ⟨p.val / 2, by omega⟩ ⟨p.val % 2, by omega⟩ n d) * (s / Real.log 2))
  simp only [EReal.coe_mul (q _) _, ← fac_real s hs] at e
  refine (congrArg (fun x : EReal => Ideal.exp2 (x - (r : EReal))) e).trans ?_
  rw [← EReal.coe_sub, Ideal.exp2_coe]
  refine congrArg _ ?_
  have hl : Real.log 2 ≠ 0 := (Real.log_pos (by norm_num)).ne'
  show (2 : ℝ) ^ (_ : ℝ) = _
  rw [Real.rpow_def_of_pos (by norm_num), ← Real.exp_add]
  refine congrArg Real.exp ?_
  have es : ∑ d : Fin 32, k (ix5 0 ⟨p.val / 2, by omega⟩ ⟨p.val % 2, by omega⟩ κ d) * (q (ix5 0 ⟨p.val / 2, by omega⟩ ⟨p.val % 2, by omega⟩ n d) * (s / Real.log 2))
      = dotR q k ⟨p.val / 2, by omega⟩ ⟨p.val % 2, by omega⟩ n κ * (s / Real.log 2) := by
    rw [dotR, Finset.sum_mul]
    exact Finset.sum_congr rfl fun d _ => by ring
  rw [es]
  field_simp
  ring

/-- One component of the kernel's result: the mean of the values under the softmax weights. -/
theorem quot_real (p : Fin 8) (n : Fin 16384) (r : Fin 80) (hr : r.val < 64) :
    Ideal.div (Cert.KernelIdeal.Att.accG (up q) (up k) (up v) p r n) (Cert.KernelIdeal.Att.accG (up q) (up k) (up v) p 64 n)
      = ((∑ κ, Real.exp (dotR q k ⟨p.val / 2, by omega⟩ ⟨p.val % 2, by omega⟩ n κ * s)
          / (∑ κ', Real.exp (dotR q k ⟨p.val / 2, by omega⟩ ⟨p.val % 2, by omega⟩ n κ' * s)) * v (ix4 0 ⟨p.val / 2, by omega⟩ κ ⟨r.val, hr⟩) : ℝ) : EReal) := by
  obtain ⟨u, hu, hw⟩ := w_real q k s hs p n
  rw [← mean_div _ (fun κ => Real.exp_pos _) u hu]
  unfold Cert.KernelIdeal.Att.accG
  simp only [hw]
  refine congrArg₂ Ideal.div (Finset.sum_congr rfl fun κ _ => congrArg (fun x : EReal => x * _) ?_) (Finset.sum_congr rfl fun κ _ => congrArg (fun x : EReal => x * _) ?_)
  · exact dif_pos hr
  · exact dif_neg (by decide)

theorem prob_real (h : Fin 4) (j : Fin 2) (n : Fin 16384) (κ : Fin 16640) :
    Cert.ReferenceIdeal.Att.prob (up q) (up k) h j n κ
      = ((Real.exp (dotR q k h j n κ * s) / (∑ κ', Real.exp (dotR q k h j n κ' * s)) : ℝ) : EReal) := by
  have hsc : ∀ κ, Cert.ReferenceIdeal.Att.score (up q) (up k) h j n κ = ((dotR q k h j n κ * s : ℝ) : EReal) := fun κ => by
    unfold Cert.ReferenceIdeal.Att.score
    rw [hs, EReal.coe_mul]
    exact congrArg (fun x : EReal => x * (s : EReal)) (sum_coe_mul _ _)
  obtain ⟨κ₀, h₀⟩ := fold_at (Cert.ReferenceIdeal.Att.score (up q) (up k) h j n)
  have ht : Cert.ReferenceIdeal.Att.top (up q) (up k) h j n = ((dotR q k h j n κ₀ * s : ℝ) : EReal) := by
    unfold Cert.ReferenceIdeal.Att.top
    exact (congrArg (max ⊥) (h₀.trans (hsc κ₀))).trans (max_eq_right bot_le)
  have he : ∀ κ, Ideal.exp (Cert.ReferenceIdeal.Att.score (up q) (up k) h j n κ - Cert.ReferenceIdeal.Att.top (up q) (up k) h j n)
      = ((Real.exp (dotR q k h j n κ * s) * Real.exp (-(dotR q k h j n κ₀ * s)) : ℝ) : EReal) := fun κ => by
    rw [hsc, ht, ← EReal.coe_sub, Ideal.exp_coe, ← Real.exp_add, sub_eq_add_neg]
  unfold Cert.ReferenceIdeal.Att.prob
  simp only [he]
  exact share_div (fun κ => Real.exp (dotR q k h j n κ * s)) (fun κ => Real.exp_pos _) _ (Real.exp_pos _) κ

omit hs in
theorem lam_real : ∃ r : ℝ, Cert.KernelIdeal.Att.lam (up la) = (r : EReal) ∧ Cert.ReferenceIdeal.Att.lam (up la) = (r : EReal) := by
  obtain ⟨b, hb⟩ := base_real
  have e0 := sum_coe_mul (fun d : Fin 32 => la (ix2 0 d)) (fun d : Fin 32 => la (ix2 1 d))
  have e1 := sum_coe_mul (fun d : Fin 32 => la (ix2 2 d)) (fun d : Fin 32 => la (ix2 3 d))
  have e : Cert.ReferenceIdeal.Att.lam (up la) = ((Real.exp (∑ d : Fin 32, la (ix2 0 d) * la (ix2 1 d)) - Real.exp (∑ d : Fin 32, la (ix2 2 d) * la (ix2 3 d)) + b : ℝ) : EReal) := by
    unfold Cert.ReferenceIdeal.Att.lam
    rw [hb, EReal.coe_add, EReal.coe_sub, ← Ideal.exp_coe, ← Ideal.exp_coe, ← e0, ← e1]
  exact ⟨_, e, e⟩

/-- Kernel and reference agree at every entry. -/
theorem same (n : Fin 16384) (e : Fin 256) :
    Cert.KernelIdeal.Att.outK (up q) (up k) (up v) (up la) n e
      = Cert.ReferenceIdeal.Att.out (up q) (up k) (up v) (up la) ⟨e.val / 64, by omega⟩ n ⟨e.val % 64, by omega⟩ := by
  obtain ⟨l, hl, hl'⟩ := lam_real la
  have f0 : (⟨(2 * (e.val / 64)) / 2, by omega⟩ : Fin 4) = ⟨e.val / 64, by omega⟩ := Fin.ext (by simp only []; omega)
  have f1 : (⟨(2 * (e.val / 64) + 1) / 2, by omega⟩ : Fin 4) = ⟨e.val / 64, by omega⟩ := Fin.ext (by simp only []; omega)
  have g0 : (⟨(2 * (e.val / 64)) % 2, by omega⟩ : Fin 2) = 0 := Fin.ext (by show (2 * (e.val / 64)) % 2 = 0; omega)
  have g1 : (⟨(2 * (e.val / 64) + 1) % 2, by omega⟩ : Fin 2) = 1 := Fin.ext (by show (2 * (e.val / 64) + 1) % 2 = 1; omega)
  unfold Cert.KernelIdeal.Att.outK Cert.ReferenceIdeal.Att.out
  rw [quot_real q k v s hs _ n _ (by show e.val % 64 < 64; omega), quot_real q k v s hs _ n _ (by show e.val % 64 < 64; omega), hl, hl']
  simp only [f0, f1, g0, g1, prob_real q k s hs]
  rw [← EReal.coe_mul, ← EReal.coe_sub, Finset.mul_sum, ← Finset.sum_sub_distrib, ← sum_coe]
  refine Finset.sum_congr rfl fun κ _ => ?_
  rw [← EReal.coe_mul, ← EReal.coe_sub, ← EReal.coe_mul]
  refine congrArg _ ?_
  ring

end Finite

end Cert.Att
end
-- ==== Proof.AttPre.lean ====
module

public import proofs.«01_k».proof.Pre_finite
public import proofs.«01_k».proof.Proof.Gen.Pre_finite
public import Idealize.ShloMosaic.Lib.ReduceAll
public import Idealize.ShloMosaic.Lib.Pointwise

/-! The precondition `finite`, read back: every entry of the four arguments is a real number. -/

@[expose] public section

set_option maxRecDepth 16384

noncomputable section
open Idealize.ShloMosaic

namespace Cert.Att
open Cert.Pre_finite Cert.Pre_finite.Gen

instance : Subsingleton Cert.Pre_finite.S_.Idx := ⟨fun a b => funext fun i => i.elim0⟩

theorem pos_inf : Ideal.ofBits .f32 0x7F800000#32 = (⊤ : EReal) := by simp [Ideal.ofBits, Ideal.ieee]

theorem real_of_cmp {s : Shape} (x : FVec Ideal s .f32) (b : Cert.Pre_finite.S_.BroadcastsInDim s (![] : Fin 0 → Fin s.rank)) (y : s.Idx)
    (h : cmpf .olt (Host.absf x) (broadcastInDim s ![] b (constant Cert.Pre_finite.S_ .f32 0x7F800000#32)) y = 1#1) : ∃ r : ℝ, x y = ((r : ℝ) : EReal) := by
  pointwise at h
  rw [pos_inf] at h
  have h' : max (x y : EReal) (-(x y)) < ⊤ := by
    by_contra hn
    rw [show decide (FloatOps.absf (x y) < (⊤ : EReal)) = false from decide_eq_false hn] at h
    exact absurd h (by decide)
  have ht : (x y : EReal) ≠ ⊤ := fun e => by rw [e] at h'; simp at h'
  have hb : (x y : EReal) ≠ ⊥ := fun e => by rw [e] at h'; simp at h'
  exact ⟨_, (EReal.coe_toReal ht hb).symm⟩

theorem real_of_all {s : Shape} {axes : List (Fin s.rank)} (x : FVec Ideal s .f32) (b : Cert.Pre_finite.S_.BroadcastsInDim s (![] : Fin 0 → Fin s.rank))
    (hr : s.ReducesTo axes Cert.Pre_finite.S_) (h0 : 0 < Cert.Pre_finite.S_.numel) (j : Cert.Pre_finite.S_.Idx)
    (h : Host.reduce IntOp.andi (cmpf .olt (Host.absf x) (broadcastInDim s ![] b (constant Cert.Pre_finite.S_ .f32 0x7F800000#32)))
      (constantI Cert.Pre_finite.S_ 1 1#1) hr h0 j = 1#1) : ∃ x' : s.Idx → ℝ, x = fun y => ((x' y : ℝ) : EReal) := by
  have e : ∀ y, ∃ r : ℝ, x y = ((r : ℝ) : EReal) := fun y => real_of_cmp x b y (Host.reduce_andi_all _ _ hr h0 j h y)
  choose x' hx using e
  exact ⟨x', funext hx⟩

theorem reals (q : FVec Ideal Cert.Pre_finite.S1x4x2x16384x32 .f32) (k : FVec Ideal Cert.Pre_finite.S1x4x2x16640x32 .f32)
    (v : FVec Ideal Cert.Pre_finite.S1x4x16640x64 .f32) (la : FVec Ideal Cert.Pre_finite.S4x32 .f32)
    (h : Cert.Pre_finite.fn (F := Ideal) q k v la = fun _ => 1#1) :
    (∃ x' : Cert.Pre_finite.S1x4x2x16384x32.Idx → ℝ, q = fun y => ((x' y : ℝ) : EReal)) ∧ (∃ x' : Cert.Pre_finite.S1x4x2x16640x32.Idx → ℝ, k = fun y => ((x' y : ℝ) : EReal)) ∧ (∃ x' : Cert.Pre_finite.S1x4x16640x64.Idx → ℝ, v = fun y => ((x' y : ℝ) : EReal))
      ∧ ∃ x' : Cert.Pre_finite.S4x32.Idx → ℝ, la = fun y => ((x' y : ℝ) : EReal) := by
  have h' := congrFun h ix0
  obtain ⟨h1, hl⟩ := IntOp.andi_eq_one.1 h'
  obtain ⟨h2, hv⟩ := IntOp.andi_eq_one.1 h1
  obtain ⟨hq, hk⟩ := IntOp.andi_eq_one.1 h2
  exact ⟨real_of_all q _ _ _ _ hq, real_of_all k _ _ _ _ hk, real_of_all v _ _ _ _ hv, real_of_all la _ _ _ _ hl⟩

end Cert.Att
end
-- ==== Proof.InpRef.lean ====
module

public import proofs.«01_k».proof.Proof.Gen.Reference3Ideal.Read
public import proofs.«01_k».proof.Proof.Gen.Reference3Ideal.Run
public import proofs.«01_k».proof.Proof.FfnRef

/-! The input projection as a formula over the extended reals, row by row, and the reference read as that formula. -/

@[expose] public section

set_option maxRecDepth 16384

noncomputable section
open Idealize.ShloMosaic Idealize.ShloMosaic.TcCoe Idealize.SL.Sem

namespace Cert.Reference3Ideal.Inp
open Cert.Reference3Ideal Cert.Reference3Ideal.Read Cert.Ffn

variable (x0 : FVec Ideal S1x16384x1024 .f32) (x1 : FVec Ideal S1x256x1024 .f32) (x2 : FVec Ideal S2x6144 .f32) (x3 : FVec Ideal S1024 .f32)
  (x4 : FVec Ideal S1024x6432 .f32)

/-- The context's rows, then the latents' rows. -/
def row (R : Fin 16640) (k : Fin 1024) : EReal :=
  if h : R.val < 256 then x1 (ix3 0 ⟨R.val, h⟩ k) else x0 (ix3 0 ⟨R.val - 256, by omega⟩ k)

/-- The modulation a row takes: the context's or the latents'. -/
def side (R : Fin 16640) : Fin 2 := if R.val < 256 then 0 else 1

/-- The normalised and modulated rows. -/
def H (R : Fin 16640) (k : Fin 1024) : EReal :=
  modNorm (row x0 x1 R) (fun k => x3 (ix1 k)) (fun k => x2 (ix2 (side R) ⟨1024 + k.val, by omega⟩)) (fun k => x2 (ix2 (side R) ⟨k.val, by omega⟩)) k

/-- One entry of the projection. -/
def Z (R : Fin 16640) (n : Fin 6432) : EReal := ∑ c, H x0 x1 x2 x3 R c * x4 (ix2 c n)

/-- The values of one head, transposed, above a row of ones and rows of zeros. -/
def VT (h : Fin 4) (d : Fin 80) (R : Fin 16640) : EReal :=
  if hd : d.val < 64 then Z x0 x1 x2 x3 x4 R ⟨1280 + (h.val * 64 + d.val), by omega⟩ else if d.val = 64 then 1 else 0

/-- The gated linear attention's low-rank part, padded with zeros. -/
def A (R : Fin 16640) (n : Fin 128) : EReal :=
  if hn : n.val < 32 then Z x0 x1 x2 x3 x4 R ⟨2304 + n.val, by omega⟩ else 0

theorem row_ctx (R : Fin 16640) (h : R.val < 256) : row x0 x1 R = fun k => x1 (ix3 0 ⟨R.val, h⟩ k) := funext fun k => dif_pos h

theorem row_lat (R : Fin 16640) (h : ¬ R.val < 256) : row x0 x1 R = fun k => x0 (ix3 0 ⟨R.val - 256, by omega⟩ k) := funext fun k => dif_neg h

theorem v25_at (R : Fin 256) (k : Fin 1024) : val_main_v25 (F := Ideal) x1 x2 x3 (ix2 R k)
    = modNorm (fun k => x1 (ix3 0 R k)) (fun k => x3 (ix1 k)) (fun k => x2 (ix2 0 ⟨1024 + k.val, by omega⟩)) (fun k => x2 (ix2 0 ⟨k.val, by omega⟩)) k := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_v18, val_main_v19,
    val_main_v20, val_main_v21, val_main_v22, val_main_v23, val_main_v24, val_main_v25, val_main_cst, val_main_cst_0, val_main_cst_1, val_main_cst_2]
  rfl

theorem v51_at (R : Fin 16384) (k : Fin 1024) : val_main_v51 (F := Ideal) x0 x2 x3 (ix2 R k)
    = modNorm (fun k => x0 (ix3 0 R k)) (fun k => x3 (ix1 k)) (fun k => x2 (ix2 1 ⟨1024 + k.val, by omega⟩)) (fun k => x2 (ix2 1 ⟨k.val, by omega⟩)) k := by
  pointwise [val_main_v26, val_main_v27, val_main_v28, val_main_v29, val_main_v30, val_main_v31, val_main_v32, val_main_v33, val_main_v34, val_main_v35,
    val_main_v36, val_main_v37, val_main_v38, val_main_v39, val_main_v40, val_main_v41, val_main_v42, val_main_v43, val_main_v44, val_main_v45,
    val_main_v46, val_main_v47, val_main_v48, val_main_v49, val_main_v50, val_main_v51, val_main_cst_3, val_main_cst_4, val_main_cst_5, val_main_cst_6]
  rfl

theorem v52_at (R : Fin 16640) (k : Fin 1024) : val_main_v52 (F := Ideal) x0 x1 x2 x3 (ix2 R k) = H x0 x1 x2 x3 R k := by
  pointwise [val_main_v52]
  simp only [v25_at, v51_at, H, side]
  split
  next h => rw [row_ctx x0 x1 R h]
  next h => rw [row_lat x0 x1 R h]

theorem v53_at (R : Fin 16640) (n : Fin 6432) : val_main_v53 (F := Ideal) x0 x1 x2 x3 x4 (ix2 R n) = Z x0 x1 x2 x3 x4 R n := by
  pointwise [val_main_v53]
  exact Finset.sum_congr rfl fun c _ => by rw [v52_at]

theorem v60_at (R : Fin 16640) (n : Fin 256) : val_main_v60 (F := Ideal) x0 x1 x2 x3 x4 (ix2 R n) = Z x0 x1 x2 x3 x4 R ⟨n.val, by omega⟩ := by
  pointwise [val_main_v60]
  simp only [v53_at]

theorem v61_at (R : Fin 16640) (n : Fin 256) : val_main_v61 (F := Ideal) x0 x1 x2 x3 x4 (ix2 R n) = Z x0 x1 x2 x3 x4 R ⟨256 + n.val, by omega⟩ := by
  pointwise [val_main_v61]
  simp only [v53_at]

theorem v62_at (R : Fin 16640) (n : Fin 256) : val_main_v62 (F := Ideal) x0 x1 x2 x3 x4 (ix2 R n) = Z x0 x1 x2 x3 x4 R ⟨512 + n.val, by omega⟩ := by
  pointwise [val_main_v62]
  simp only [v53_at]

theorem v64_at (R : Fin 16640) (n : Fin 256) : val_main_v64 (F := Ideal) x0 x1 x2 x3 x4 (ix2 R n) = Z x0 x1 x2 x3 x4 R ⟨1536 + n.val, by omega⟩ := by
  pointwise [val_main_v64]
  simp only [v53_at]

theorem v65_at (R : Fin 16640) (n : Fin 256) : val_main_v65 (F := Ideal) x0 x1 x2 x3 x4 (ix2 R n) = Z x0 x1 x2 x3 x4 R ⟨1792 + n.val, by omega⟩ := by
  pointwise [val_main_v65]
  simp only [v53_at]

theorem v66_at (R : Fin 16640) (n : Fin 256) : val_main_v66 (F := Ideal) x0 x1 x2 x3 x4 (ix2 R n) = Z x0 x1 x2 x3 x4 R ⟨2048 + n.val, by omega⟩ := by
  pointwise [val_main_v66]
  simp only [v53_at]

theorem v70_at (R : Fin 16640) (n : Fin 4096) : val_main_v70 (F := Ideal) x0 x1 x2 x3 x4 (ix2 R n) = Z x0 x1 x2 x3 x4 R ⟨2336 + n.val, by omega⟩ := by
  pointwise [val_main_v69, val_main_v70]
  simp only [v53_at]

theorem v68_at (R : Fin 16640) (n : Fin 128) : val_main_v68 (F := Ideal) x0 x1 x2 x3 x4 (ix2 R n) = A x0 x1 x2 x3 x4 R n := by
  pointwise [val_main_v68, val_main_v67]
  simp only [v53_at, A, val_main_call0_v0, val_main_c]
  refine dite_congr rfl (fun _ => rfl) fun _ => ?_
  pointwise
  exact (congrArg (fun z : ℤ => ((z : ℝ) : EReal)) (by decide : (0#32 : BitVec 32).toInt = 0)).trans (by simp)

theorem v56_at (h : Fin 4) (d : Fin 64) (R : Fin 16640) : val_main_v56 (F := Ideal) x0 x1 x2 x3 x4 (ix3 h d R)
    = Z x0 x1 x2 x3 x4 R ⟨1280 + (h.val * 64 + d.val), by omega⟩ := by
  rw [val_main_v56_apply, val_main_v55_apply, val_main_v54_apply, ← v53_at]
  congr 1
  funext a
  apply Fin.ext
  match a with
  | ⟨0, _⟩ => show ((R.val * 4 + h.val) * 64 + d.val) / 256 = R.val; omega
  | ⟨1, _⟩ => show 1280 + ((R.val * 4 + h.val) * 64 + d.val) % 256 = 1280 + (h.val * 64 + d.val); omega

theorem v63_at (h : Fin 4) (d : Fin 80) (R : Fin 16640) : val_main_v63 (F := Ideal) x0 x1 x2 x3 x4 (ix3 h d R) = VT x0 x1 x2 x3 x4 h d R := by
  pointwise [val_main_v63, val_main_v59, val_main_v57, val_main_v58, val_main_cst_7, val_main_cst_8]
  simp only [v56_at, VT]
  refine dite_congr rfl (fun _ => rfl) fun h => ?_
  exact if_congr ⟨fun _ => by omega, fun _ => by omega⟩ rfl rfl

end Cert.Reference3Ideal.Inp
end
-- ==== Proof.InpPay.lean ====
module

public import proofs.«01_k».proof.Proof.Gen.Kernel3Ideal.Skeleton
public import proofs.«01_k».proof.Proof.InpRef
public import Idealize.ShloMosaic.Lib.Pointwise

/-! The input-projection kernel's values at an index. -/

@[expose] public section

set_option maxRecDepth 16384

noncomputable section
open Idealize.ShloMosaic Idealize.ShloMosaic.TcCoe Idealize.SL.Sem

namespace Cert.Kernel3Ideal.Inp
open Cert.Kernel3Ideal Cert.Kernel3Ideal.Gen Cert.Ffn

theorem hb_at (x : FVec Ideal S256x1024 .f32) (d : FVec Ideal S1x8x1024 .f32) (g : FVec Ideal S1x1024 .f32) (r : Fin 256) (k : Fin 1024) :
    k0_pay5 (F := Ideal) x d g (ix2 r k) = modNorm (fun k => x (ix2 r k)) (fun k => g (ix2 0 k)) (fun k => d (ix3 0 1 k)) (fun k => d (ix3 0 0 k)) k := by
  pointwise [k0_pay5]
  rfl

section Dots
variable (h : FVec Ideal S256x1024 .bf16)

theorem main_at (w : FVec Ideal S1024x1536 .bf16) (r : Fin 256) (n : Fin 1536) :
    k0_pay36 (F := Ideal) h w (ix2 r n) = ∑ c, (h (ix2 r c) : EReal) * (w (ix2 c n) : EReal) := by
  pointwise [k0_pay36]

theorem u_at (w : FVec Ideal S1024x1536 .bf16) (r n : Fin 256) :
    k0_pay37 (F := Ideal) h w (ix2 r n) = ∑ c, (h (ix2 r c) : EReal) * (w (ix2 c ⟨n.val, by omega⟩) : EReal) := by
  pointwise [k0_pay37]
  exact main_at ..

theorem lx_at (w : FVec Ideal S1024x1536 .bf16) (r n : Fin 256) :
    k0_pay38 (F := Ideal) h w (ix2 r n) = ∑ c, (h (ix2 r c) : EReal) * (w (ix2 c ⟨256 + n.val, by omega⟩) : EReal) := by
  pointwise [k0_pay38]
  exact main_at ..

theorem ly_at (w : FVec Ideal S1024x1536 .bf16) (r n : Fin 256) :
    k0_pay39 (F := Ideal) h w (ix2 r n) = ∑ c, (h (ix2 r c) : EReal) * (w (ix2 c ⟨512 + n.val, by omega⟩) : EReal) := by
  pointwise [k0_pay39]
  exact main_at ..

theorem gqk_at (w : FVec Ideal S1024x1536 .bf16) (r n : Fin 256) :
    k0_pay40 (F := Ideal) h w (ix2 r n) = ∑ c, (h (ix2 r c) : EReal) * (w (ix2 c ⟨768 + n.val, by omega⟩) : EReal) := by
  pointwise [k0_pay40]
  exact main_at ..

theorem gv_at (w : FVec Ideal S1024x1536 .bf16) (r n : Fin 256) :
    k0_pay1 (F := Ideal) (k0_pay36 h w) (ix2 r n) = ∑ c, (h (ix2 r c) : EReal) * (w (ix2 c ⟨1024 + n.val, by omega⟩) : EReal) := by
  pointwise [k0_pay1]
  exact main_at ..

theorem gg_at (w : FVec Ideal S1024x1536 .bf16) (r n : Fin 256) :
    k0_pay2 (F := Ideal) (k0_pay36 h w) (ix2 r n) = ∑ c, (h (ix2 r c) : EReal) * (w (ix2 c ⟨1280 + n.val, by omega⟩) : EReal) := by
  pointwise [k0_pay2]
  exact main_at ..

theorem ga_at (w : FVec Ideal S1024x128 .bf16) (r : Fin 256) (n : Fin 128) :
    k0_pay3 (F := Ideal) h w (ix2 r n) = ∑ c, (h (ix2 r c) : EReal) * (w (ix2 c n) : EReal) := by
  pointwise [k0_pay3]

theorem gates_at (w : FVec Ideal S1024x4096 .bf16) (r : Fin 256) (n : Fin 4096) :
    k0_pay4 (F := Ideal) h w (ix2 r n) = ∑ c, (h (ix2 r c) : EReal) * (w (ix2 c n) : EReal) := by
  pointwise [k0_pay4]

end Dots

theorem zq_at (x : FVec Ideal S256x1024 .f32) (d : FVec Ideal S1x8x1024 .f32) (g : FVec Ideal S1x1024 .f32) (w : FVec Ideal S1024x768 .bf16) (r : Fin 256)
    (n : Fin 768) : k0_pay6 (F := Ideal) x d g w (ix2 r n) = ∑ c, (k0_pay5 (F := Ideal) x d g (ix2 r c) : EReal) * (w (ix2 c n) : EReal) := by
  pointwise [k0_pay6]

theorem lane_lt : ∀ d : Fin 80, (IntOp.cmpi CmpIPredicate.slt (BitVec.ofNat 32 d.val) 64#32) = if d.val < 64 then 1#1 else 0#1 := by decide

theorem lane_eq : ∀ d : Fin 80, (BitVec.setWidth 32 (IntOp.cmpi CmpIPredicate.eq (BitVec.ofNat 32 d.val) 64#32)).toInt = if d.val = 64 then 1 else 0 := by decide

/-- The kernel's choice between the values, the row of ones and the rows of zeros. -/
theorem lanes (d : Fin 80) (a : EReal) : Scalar.select (IntOp.cmpi CmpIPredicate.slt (BitVec.ofNat 32 d.val) 64#32) a
    (FloatOps.sitofp (F := Ideal) FTy.f32 (BitVec.setWidth 32 (IntOp.cmpi CmpIPredicate.eq (BitVec.ofNat 32 d.val) 64#32)))
      = if d.val < 64 then a else if d.val = 64 then 1 else 0 := by
  rw [lane_lt]
  split
  · rfl
  · refine (congrArg (fun z : ℤ => ((z : ℝ) : EReal)) (lane_eq d)).trans ?_
    split <;> simp

/-- One head's values, transposed, above the row of ones and the rows of zeros. -/
def vt (z : FVec Ideal S256x768 .f32) (o : Fin 4) (d : Fin 80) (r : Fin 256) : EReal :=
  if hd : d.val < 64 then z (ix2 r ⟨512 + (o.val * 64 + d.val), by omega⟩) else if d.val = 64 then 1 else 0

theorem vt0_at (z : FVec Ideal S256x768 .f32) (d : Fin 80) (r : Fin 256) :
    k0_pay31 (F := Ideal) z (ix3 0 d r) = vt z 0 d r := by
  pointwise [k0_pay31, k0_pay30]
  rw [lanes, vt]
  split
  · exact congrArg z (congrArg (ix2 r) (Fin.ext (by simp <;> omega)))
  · rfl

theorem vt1_at (z : FVec Ideal S256x768 .f32) (d : Fin 80) (r : Fin 256) :
    k0_pay33 (F := Ideal) (k0_pay32 z) (ix3 0 d r) = vt z 1 d r := by
  pointwise [k0_pay33, k0_pay32, k0_pay30]
  rw [lanes, vt]
  split
  · exact congrArg z (congrArg (ix2 r) (Fin.ext (by simp <;> omega)))
  · rfl

theorem vt2_at (z : FVec Ideal S256x768 .f32) (d : Fin 80) (r : Fin 256) :
    k0_pay34 (F := Ideal) z (iota .tc S256x128 32 [1] iota_S256x128_d1_w32) k0_pay30 (ix3 0 d r) = vt z 2 d r := by
  pointwise [k0_pay34, k0_pay30]
  rw [lanes, vt]
  split
  · exact congrArg z (congrArg (ix2 r) (Fin.ext (by simp <;> omega)))
  · rfl

theorem vt3_at (z : FVec Ideal S256x768 .f32) (d : Fin 80) (r : Fin 256) :
    k0_pay35 (F := Ideal) z (iota .tc S256x128 32 [1] iota_S256x128_d1_w32) k0_pay30 (ix3 0 d r) = vt z 3 d r := by
  pointwise [k0_pay35, k0_pay30]
  rw [lanes, vt]
  split
  · exact congrArg z (congrArg (ix2 r) (Fin.ext (by simp <;> omega)))
  · rfl

end Cert.Kernel3Ideal.Inp
end
-- ==== Proof.InpHost.lean ====
module

public import proofs.«01_k».proof.Proof.Gen.Kernel3Ideal.Frame.Runs
public import proofs.«01_k».proof.Proof.InpPay
public import Idealize.ShloMosaic.Lib.Pipeline.ValueKit
public import Idealize.ShloMosaic.Lib.Pointwise

/-! The input projection's operands: what the host code hands the launch, and each grid point's blocks of it. -/

@[expose] public section

set_option maxRecDepth 16384

noncomputable section
open Idealize.ShloMosaic Idealize.ShloMosaic.TcCoe Idealize.SL.Sem
open Idealize.ShloMosaic.Pipeline (Dat)

namespace Cert.Kernel3Ideal.Inp
open Cert.Kernel3Ideal Cert.Kernel3Ideal.Gen Cert.Ffn

variable (m : (ℓ : Loc nD τ sig) → Buf (Elt Ideal) ℓ) (c : Dev nD)

theorem idx : ∀ t : Fin cfg0.N,
    win0_0.index t = ![t.val, 0] ∧ win0_1.index t = ![min t.val 1, 0, 0] ∧ win0_2.index t = ![0, 0] ∧ win0_3.index t = ![0, 0]
    ∧ win0_4.index t = ![0, 0] ∧ win0_5.index t = ![0, 0] ∧ win0_6.index t = ![0, 0] ∧ win0_12.index t = ![t.val, 0] ∧ win0_13.index t = ![t.val, 0]
    ∧ win0_14.index t = ![t.val, 0] ∧ win0_17.index t = ![0, 0, t.val] ∧ win0_18.index t = ![t.val, 0] ∧ win0_19.index t = ![t.val, 0]
    ∧ win0_20.index t = ![t.val, 0] ∧ win0_21.index t = ![t.val, 0] ∧ win0_22.index t = ![t.val, 0] :=
  (by decide +kernel : ∀ t : Fin grid0.N, _)

abbrev arg0 : FVec Ideal S1x16384x1024 .f32 := m ((c.tc : Thread nD τ).loc main_arg0)
abbrev arg1 : FVec Ideal S1x256x1024 .f32 := m ((c.tc : Thread nD τ).loc main_arg1)
abbrev arg2 : FVec Ideal S2x6144 .f32 := m ((c.tc : Thread nD τ).loc main_arg2)
abbrev arg3 : FVec Ideal S1024 .f32 := m ((c.tc : Thread nD τ).loc main_arg3)
abbrev arg4 : FVec Ideal S1024x6432 .f32 := m ((c.tc : Thread nD τ).loc main_arg4)

theorem V2 (R : Fin 16640) (k : Fin 1024) : (V m c main_v2 : FVec Ideal S16640x1024 .f32) (ix2 R k) = Cert.Reference3Ideal.Inp.row (arg0 m c) (arg1 m c) R k := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise
  rfl

theorem V4 (s : Fin 2) (d : Fin 6) (k : Fin 1024) : (V m c main_v4 : FVec Ideal S2x8x1024 .f32) (ix3 s ⟨d.val, by omega⟩ k)
    = arg2 m c (ix2 s ⟨d.val * 1024 + k.val, by omega⟩) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [StableHlo.TRef.ofBuf_toBuf]
  change pad S2x8x1024 ![0, 0, 0] ![0, 2, 0] ![0, 0, 0] (shapeCast S2x6x1024 (arg2 m c : FVec Ideal S2x6144 .f32) shapeCasts_S2x6144_S2x6x1024) _ pads_S2x6x1024_S2x8x1024_000_020_000 h_S_ (ix3 s ⟨d.val, by omega⟩ k) = _
  pointwise

theorem V74 (k : Fin 1024) : (V m c main_v74 : FVec Ideal S1x1024 .f32) (ix2 0 k) = arg3 m c (ix1 k) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem V56 (k : Fin 1024) (n : Fin 768) : (V m c main_v56 : FVec Ideal S1024x768 .bf16) (ix2 k n) = arg4 m c (ix2 k ⟨768 + n.val, by omega⟩) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

/-- The column of the whole weight a column of the kernel's main weight is. -/
def col (n : Fin 1536) : Fin 6432 := if h : n.val < 768 then ⟨n.val, by omega⟩ else ⟨768 + n.val, by omega⟩

theorem V60 (k : Fin 1024) (n : Fin 1536) : (V m c main_v60 : FVec Ideal S1024x1536 .bf16) (ix2 k n)
    = arg4 m c (ix2 k (col n)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise
  rw [col]
  split
  · rfl
  · exact congrArg (arg4 m c) (congrArg (ix2 k) (Fin.ext (by show 1536 + (n.val - 768) = 768 + n.val; omega)))

theorem V63 (k : Fin 1024) (n : Fin 128) : (V m c main_v63 : FVec Ideal S1024x128 .bf16) (ix2 k n)
    = if h : n.val < 32 then arg4 m c (ix2 k ⟨2304 + n.val, by omega⟩) else (0 : EReal) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [StableHlo.TRef.ofBuf_toBuf]
  change truncf (F := Ideal) (φ := .f32) .bf16 (pad S1024x128 ![0, 0] ![0, 96] ![0, 0] (extractStridedSlice S1024x32 ![0, 2304] (arg4 m c) slices_S1024x6432_S1024x32_0_2304)
    (sitofp (F := Ideal) .f32 (constantI S_ 32 0#32)) pads_S1024x32_S1024x128_000_0960 h_S_) bitsLt_bf16_f32 (ix2 k n) = _
  pointwise
  refine dite_congr rfl (fun _ => rfl) fun _ => ?_
  exact (congrArg (fun z : ℤ => ((z : ℝ) : EReal)) (by decide : (0#32 : BitVec 32).toInt = 0)).trans (by simp)

theorem V65 (k : Fin 1024) (n : Fin 4096) : (V m c main_v65 : FVec Ideal S1024x4096 .bf16) (ix2 k n) = arg4 m c (ix2 k ⟨2336 + n.val, by omega⟩) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

variable (t : Fin cfg0.N)

theorem blk0 (r : Fin 256) (k : Fin 1024) :
    iblk m c 0 t (ix2 r k) = Cert.Reference3Ideal.Inp.row (arg0 m c) (arg1 m c) ⟨256 * t.val + r.val, by have := lt_of_lt_of_eq t.isLt N_0; omega⟩ k := by
  rw [← V2]
  blk_ext [iblk, idx t]

theorem blk1 (d : Fin 6) (k : Fin 1024) :
    iblk m c 1 t (ix3 0 ⟨d.val, by omega⟩ k) = arg2 m c (ix2 ⟨min t.val 1, by omega⟩ ⟨d.val * 1024 + k.val, by omega⟩) := by
  rw [← V4]
  blk_ext [iblk, idx t]

theorem blk2 (k : Fin 1024) : iblk m c 2 t (ix2 0 k) = arg3 m c (ix1 k) := by
  rw [← V74]
  blk_ext [iblk, idx t]

theorem blk3 (k : Fin 1024) (n : Fin 768) : iblk m c 3 t (ix2 k n) = arg4 m c (ix2 k ⟨768 + n.val, by omega⟩) := by
  rw [← V56]
  blk_ext [iblk, idx t]

theorem blk4 (k : Fin 1024) (n : Fin 1536) : iblk m c 4 t (ix2 k n) = arg4 m c (ix2 k (col n)) := by
  rw [← V60]
  blk_ext [iblk, idx t]

theorem blk5 (k : Fin 1024) (n : Fin 128) : iblk m c 5 t (ix2 k n) = if h : n.val < 32 then arg4 m c (ix2 k ⟨2304 + n.val, by omega⟩) else (0 : EReal) := by
  rw [← V63]
  blk_ext [iblk, idx t]

theorem blk6 (k : Fin 1024) (n : Fin 4096) : iblk m c 6 t (ix2 k n) = arg4 m c (ix2 k ⟨2336 + n.val, by omega⟩) := by
  rw [← V65]
  blk_ext [iblk, idx t]

/-- The formulas of the reference over this program's arguments, and the row of the whole a row of the block is. -/
abbrev Hk := Cert.Reference3Ideal.Inp.H (arg0 m c) (arg1 m c) (arg2 m c) (arg3 m c)
abbrev Zk := Cert.Reference3Ideal.Inp.Z (arg0 m c) (arg1 m c) (arg2 m c) (arg3 m c) (arg4 m c)
abbrev at' (r : Fin 256) : Fin 16640 := ⟨256 * t.val + r.val, by have := lt_of_lt_of_eq t.isLt N_0; omega⟩

/-- The block's normalised rows, the kernel's common factor. -/
abbrev hbk : FVec Ideal S256x1024 .bf16 := k0_pay5 (F := Ideal) (iblk m c 0 t) (iblk m c 1 t) (iblk m c 2 t)

theorem side_at (r : Fin 256) : Cert.Reference3Ideal.Inp.side (at' t r) = ⟨min t.val 1, by omega⟩ := by
  unfold Cert.Reference3Ideal.Inp.side
  by_cases h : t.val = 0
  · rw [if_pos (by show 256 * t.val + r.val < 256; omega)]
    exact Fin.ext (by show 0 = min t.val 1; omega)
  · rw [if_neg (by show ¬ 256 * t.val + r.val < 256; omega)]
    exact Fin.ext (by show 1 = min t.val 1; omega)

theorem hbk_at (r : Fin 256) (k : Fin 1024) : hbk m c t (ix2 r k) = Hk m c (at' t r) k := by
  have h1 (k : Fin 1024) : iblk m c 1 t (ix3 0 1 k) = arg2 m c (ix2 ⟨min t.val 1, by omega⟩ ⟨1024 + k.val, by omega⟩) := blk1 m c t 1 k
  have h0 (k : Fin 1024) : iblk m c 1 t (ix3 0 0 k) = arg2 m c (ix2 ⟨min t.val 1, by omega⟩ ⟨k.val, by omega⟩) :=
    (blk1 m c t 0 k).trans (congrArg (arg2 m c) (congrArg (ix2 _) (Fin.ext (by simp))))
  rw [hbk, hb_at]
  simp only [h1, h0, blk0, blk2, Hk, Cert.Reference3Ideal.Inp.H, side_at]

theorem zq (r : Fin 256) (n : Fin 768) : k0_pay6 (F := Ideal) (iblk m c 0 t) (iblk m c 1 t) (iblk m c 2 t) (iblk m c 3 t) (ix2 r n)
    = Zk m c (at' t r) ⟨768 + n.val, by omega⟩ := by
  rw [zq_at]
  exact Finset.sum_congr rfl fun k _ => congrArg₂ (· * ·) (hbk_at m c t r k) (blk3 m c t k n)

theorem zmain (r : Fin 256) (n : Fin 1536) (n' : Fin 6432) (h : col n = n') :
    ∑ k, (hbk m c t (ix2 r k) : EReal) * (iblk m c 4 t (ix2 k n) : EReal) = Zk m c (at' t r) n' :=
  Finset.sum_congr rfl fun k _ => congrArg₂ (· * ·) (hbk_at m c t r k) ((blk4 m c t k n).trans (by rw [h]))

theorem za (r : Fin 256) (n : Fin 128) : ∑ k, (hbk m c t (ix2 r k) : EReal) * (iblk m c 5 t (ix2 k n) : EReal)
    = Cert.Reference3Ideal.Inp.A (arg0 m c) (arg1 m c) (arg2 m c) (arg3 m c) (arg4 m c) (at' t r) n := by
  rw [Cert.Reference3Ideal.Inp.A]
  split
  next h => exact Finset.sum_congr rfl fun k _ => congrArg₂ (· * ·) (hbk_at m c t r k) ((blk5 m c t k n).trans (dif_pos h))
  next h => exact Finset.sum_eq_zero fun k _ => by rw [blk5 m c t k n, dif_neg h, mul_zero]

theorem zgates (r : Fin 256) (n : Fin 4096) : ∑ k, (hbk m c t (ix2 r k) : EReal) * (iblk m c 6 t (ix2 k n) : EReal)
    = Zk m c (at' t r) ⟨2336 + n.val, by omega⟩ :=
  Finset.sum_congr rfl fun k _ => congrArg₂ (· * ·) (hbk_at m c t r k) (blk6 m c t k n)

end Cert.Kernel3Ideal.Inp
end
-- ==== Proof.InpPoint.lean ====
module

public import proofs.«01_k».proof.Proof.Gen.Kernel3Ideal.Value
public import proofs.«01_k».proof.Proof.InpHost

/-! The input projection: what one grid point leaves in its output blocks, and the result arrays after the run. -/

@[expose] public section

set_option maxRecDepth 16384

noncomputable section
open Idealize.ShloMosaic Idealize.ShloMosaic.TcCoe Idealize.SL.Sem
open Idealize.ShloMosaic.Pipeline (Dat)

namespace Cert.Kernel3Ideal.Inp
open Cert.Kernel3Ideal Cert.Kernel3Ideal.Gen Cert.Ffn

/-- The four heads' stores into the block of values. -/
abbrev heads (z0 z1 z2 z3 : FVec Ideal S1x80x256 .bf16) : List (View.Piece (Elt Ideal) S4x80x256 .bf16) :=
  [⟨Rect.unit ![3, 0, 0] ![1, 80, 256] inb_S4x80x256_S1x80x256_3_0_0, z3⟩,
    ⟨Rect.unit ![2, 0, 0] ![1, 80, 256] inb_S4x80x256_S1x80x256_2_0_0, z2⟩,
    ⟨Rect.unit ![1, 0, 0] ![1, 80, 256] inb_S4x80x256_S1x80x256_1_0_0, z1⟩,
    ⟨Rect.unit ![0, 0, 0] ![1, 80, 256] inb_S4x80x256_S1x80x256_0_0_0, z0⟩]

theorem heads_cover (z0 z1 z2 z3 : FVec Ideal S1x80x256 .bf16) (y : S4x80x256.Idx) : ∃ p ∈ heads z0 z1 z2 z3, y ∈ p.1.set := by
  have h0 : (y 0).val < 4 := (y 0).isLt
  have h1 : (y 1).val < 80 := (y 1).isLt
  have h2 : (y 2).val < 256 := (y 2).isLt
  rcases (by omega : (y 0).val = 0 ∨ (y 0).val = 1 ∨ (y 0).val = 2 ∨ (y 0).val = 3) with h | h | h | h
  · exact ⟨_, .tail _ (.tail _ (.tail _ (.head _))), (Rect.mem_set_unit (inb := inb_S4x80x256_S1x80x256_0_0_0)).mpr (by
      intro a
      fin_cases a
      · exact ⟨by simp [h], by simp [h]⟩
      · exact ⟨Nat.zero_le _, by simpa using h1⟩
      · exact ⟨Nat.zero_le _, by simpa using h2⟩)⟩
  · exact ⟨_, .tail _ (.tail _ (.head _)), (Rect.mem_set_unit (inb := inb_S4x80x256_S1x80x256_1_0_0)).mpr (by
      intro a
      fin_cases a
      · exact ⟨by simp [h], by simp [h]⟩
      · exact ⟨Nat.zero_le _, by simpa using h1⟩
      · exact ⟨Nat.zero_le _, by simpa using h2⟩)⟩
  · exact ⟨_, .tail _ (.head _), (Rect.mem_set_unit (inb := inb_S4x80x256_S1x80x256_2_0_0)).mpr (by
      intro a
      fin_cases a
      · exact ⟨by simp [h], by simp [h]⟩
      · exact ⟨Nat.zero_le _, by simpa using h1⟩
      · exact ⟨Nat.zero_le _, by simpa using h2⟩)⟩
  · exact ⟨_, .head _, (Rect.mem_set_unit (inb := inb_S4x80x256_S1x80x256_3_0_0)).mpr (by
      intro a
      fin_cases a
      · exact ⟨by simp [h], by simp [h]⟩
      · exact ⟨Nat.zero_le _, by simpa using h1⟩
      · exact ⟨Nat.zero_le _, by simpa using h2⟩)⟩

theorem heads_at (z0 z1 z2 z3 : FVec Ideal S1x80x256 .bf16) (f : Fin 4 → Fin 80 → Fin 256 → EReal) (hz0 : ∀ d r, z0 (ix3 0 d r) = f 0 d r)
    (hz1 : ∀ d r, z1 (ix3 0 d r) = f 1 d r) (hz2 : ∀ d r, z2 (ix3 0 d r) = f 2 d r) (hz3 : ∀ d r, z3 (ix3 0 d r) = f 3 d r) (y : S4x80x256.Idx) :
    View.canon (heads z0 z1 z2 z3) y = f (y 0) (y 1) (y 2) := by
  canon_tiles x h using (heads_cover z0 z1 z2 z3 y)
  · show z3 x = _
    idx_vars x
    obtain rfl : x0 = 0 := Subsingleton.elim _ _
    refine (hz3 _ _).trans ?_
    congr 1 <;> exact Fin.ext (by first | exact h0.symm | exact h1.symm | exact h2.symm | omega)
  · show z2 x = _
    idx_vars x
    obtain rfl : x0 = 0 := Subsingleton.elim _ _
    refine (hz2 _ _).trans ?_
    congr 1 <;> exact Fin.ext (by first | exact h0.symm | exact h1.symm | exact h2.symm | omega)
  · show z1 x = _
    idx_vars x
    obtain rfl : x0 = 0 := Subsingleton.elim _ _
    refine (hz1 _ _).trans ?_
    congr 1 <;> exact Fin.ext (by first | exact h0.symm | exact h1.symm | exact h2.symm | omega)
  · show z0 x = _
    idx_vars x
    obtain rfl : x0 = 0 := Subsingleton.elim _ _
    refine (hz0 _ _).trans ?_
    congr 1 <;> exact Fin.ext (by first | exact h0.symm | exact h1.symm | exact h2.symm | omega)

variable (m : (ℓ : Loc nD τ sig) → Buf (Elt Ideal) ℓ) (c : Dev nD) (t : Fin cfg0.N)

theorem vt_row (z : FVec Ideal S256x768 .f32) (hz : z = k0_pay6 (F := Ideal) (iblk m c 0 t) (iblk m c 1 t) (iblk m c 2 t) (iblk m c 3 t)) (o : Fin 4)
    (d : Fin 80) (r : Fin 256) : vt z o d r = Cert.Reference3Ideal.Inp.VT (arg0 m c) (arg1 m c) (arg2 m c) (arg3 m c) (arg4 m c) o d (at' t r) := by
  subst hz
  rw [vt, Cert.Reference3Ideal.Inp.VT]
  refine dite_congr rfl (fun h => ?_) fun _ => rfl
  refine (zq m c t r _).trans (congrArg (Zk m c (at' t r)) (Fin.ext ?_))
  show 768 + (512 + (o.val * 64 + d.val)) = 1280 + (o.val * 64 + d.val)
  omega

theorem point17 (y : S4x80x256.Idx) : (outsAt0 m c t.val t.isLt).2.2.2.2.2.1 y
    = Cert.Reference3Ideal.Inp.VT (arg0 m c) (arg1 m c) (arg2 m c) (arg3 m c) (arg4 m c) (y 0) (y 1) (at' t (y 2)) := by
  by_cases h0 : t.val % 65 = 0
  · rw [outsAt0_A m c t h0]
    frame_out
    exact heads_at _ _ _ _ (fun o d r => Cert.Reference3Ideal.Inp.VT (arg0 m c) (arg1 m c) (arg2 m c) (arg3 m c) (arg4 m c) o d (at' t r))
      (fun d r => (vt0_at _ d r).trans (vt_row m c t _ rfl 0 d r)) (fun d r => (vt1_at _ d r).trans (vt_row m c t _ rfl 1 d r))
      (fun d r => (vt2_at _ d r).trans (vt_row m c t _ rfl 2 d r)) (fun d r => (vt3_at _ d r).trans (vt_row m c t _ rfl 3 d r)) y
  · rw [outsAt0_B m c t h0]
    frame_out
    exact heads_at _ _ _ _ (fun o d r => Cert.Reference3Ideal.Inp.VT (arg0 m c) (arg1 m c) (arg2 m c) (arg3 m c) (arg4 m c) o d (at' t r))
      (fun d r => (vt0_at _ d r).trans (vt_row m c t _ rfl 0 d r)) (fun d r => (vt1_at _ d r).trans (vt_row m c t _ rfl 1 d r))
      (fun d r => (vt2_at _ d r).trans (vt_row m c t _ rfl 2 d r)) (fun d r => (vt3_at _ d r).trans (vt_row m c t _ rfl 3 d r)) y

theorem point12 (r : Fin 256) (n : Fin 256) : (outsAt0 m c t.val t.isLt).1 (ix2 r n) = Zk m c (at' t r) ⟨n.val, by omega⟩ := by
  by_cases h0 : t.val % 65 = 0
  · rw [outsAt0_A m c t h0]
    frame_out
    exact (u_at ..).trans (zmain m c t r _ _ (dif_pos (by show n.val < 768; omega)))
  · rw [outsAt0_B m c t h0]
    frame_out
    exact (u_at ..).trans (zmain m c t r _ _ (dif_pos (by show n.val < 768; omega)))

theorem point13 (r : Fin 256) (n : Fin 256) : (outsAt0 m c t.val t.isLt).2.1 (ix2 r n) = Zk m c (at' t r) ⟨256 + n.val, by omega⟩ := by
  by_cases h0 : t.val % 65 = 0
  · rw [outsAt0_A m c t h0]
    frame_out
    exact (lx_at ..).trans (zmain m c t r _ _ (dif_pos (by show 256 + n.val < 768; omega)))
  · rw [outsAt0_B m c t h0]
    frame_out
    exact (lx_at ..).trans (zmain m c t r _ _ (dif_pos (by show 256 + n.val < 768; omega)))

theorem point14 (r : Fin 256) (n : Fin 256) : (outsAt0 m c t.val t.isLt).2.2.1 (ix2 r n) = Zk m c (at' t r) ⟨512 + n.val, by omega⟩ := by
  by_cases h0 : t.val % 65 = 0
  · rw [outsAt0_A m c t h0]
    frame_out
    exact (ly_at ..).trans (zmain m c t r _ _ (dif_pos (by show 512 + n.val < 768; omega)))
  · rw [outsAt0_B m c t h0]
    frame_out
    exact (ly_at ..).trans (zmain m c t r _ _ (dif_pos (by show 512 + n.val < 768; omega)))

theorem point18 (r : Fin 256) (n : Fin 256) : (outsAt0 m c t.val t.isLt).2.2.2.2.2.2.1 (ix2 r n) = Zk m c (at' t r) ⟨1536 + n.val, by omega⟩ := by
  by_cases h0 : t.val % 65 = 0
  · rw [outsAt0_A m c t h0]
    frame_out
    exact (gqk_at ..).trans (zmain m c t r _ _ ((dif_neg (by show ¬ 768 + n.val < 768; omega)).trans (Fin.ext (by show 768 + (768 + n.val) = 1536 + n.val; omega))))
  · rw [outsAt0_B m c t h0]
    frame_out
    exact (gqk_at ..).trans (zmain m c t r _ _ ((dif_neg (by show ¬ 768 + n.val < 768; omega)).trans (Fin.ext (by show 768 + (768 + n.val) = 1536 + n.val; omega))))

theorem point19 (r : Fin 256) (n : Fin 256) : (outsAt0 m c t.val t.isLt).2.2.2.2.2.2.2.1 (ix2 r n) = Zk m c (at' t r) ⟨1792 + n.val, by omega⟩ := by
  by_cases h0 : t.val % 65 = 0
  · rw [outsAt0_A m c t h0]
    frame_out
    exact (gv_at ..).trans (zmain m c t r _ _ ((dif_neg (by show ¬ 1024 + n.val < 768; omega)).trans (Fin.ext (by show 768 + (1024 + n.val) = 1792 + n.val; omega))))
  · rw [outsAt0_B m c t h0]
    frame_out
    exact (gv_at ..).trans (zmain m c t r _ _ ((dif_neg (by show ¬ 1024 + n.val < 768; omega)).trans (Fin.ext (by show 768 + (1024 + n.val) = 1792 + n.val; omega))))

theorem point20 (r : Fin 256) (n : Fin 256) : (outsAt0 m c t.val t.isLt).2.2.2.2.2.2.2.2.1 (ix2 r n) = Zk m c (at' t r) ⟨2048 + n.val, by omega⟩ := by
  by_cases h0 : t.val % 65 = 0
  · rw [outsAt0_A m c t h0]
    frame_out
    exact (gg_at ..).trans (zmain m c t r _ _ ((dif_neg (by show ¬ 1280 + n.val < 768; omega)).trans (Fin.ext (by show 768 + (1280 + n.val) = 2048 + n.val; omega))))
  · rw [outsAt0_B m c t h0]
    frame_out
    exact (gg_at ..).trans (zmain m c t r _ _ ((dif_neg (by show ¬ 1280 + n.val < 768; omega)).trans (Fin.ext (by show 768 + (1280 + n.val) = 2048 + n.val; omega))))

theorem point21 (r : Fin 256) (n : Fin 128) : (outsAt0 m c t.val t.isLt).2.2.2.2.2.2.2.2.2.1 (ix2 r n) = Cert.Reference3Ideal.Inp.A (arg0 m c) (arg1 m c) (arg2 m c) (arg3 m c) (arg4 m c) (at' t r) n := by
  by_cases h0 : t.val % 65 = 0
  · rw [outsAt0_A m c t h0]
    frame_out
    exact (ga_at ..).trans (za m c t r _)
  · rw [outsAt0_B m c t h0]
    frame_out
    exact (ga_at ..).trans (za m c t r _)

theorem point22 (r : Fin 256) (n : Fin 4096) : (outsAt0 m c t.val t.isLt).2.2.2.2.2.2.2.2.2.2.1 (ix2 r n) = Zk m c (at' t r) ⟨2336 + n.val, by omega⟩ := by
  by_cases h0 : t.val % 65 = 0
  · rw [outsAt0_A m c t h0]
    frame_out
    exact (gates_at ..).trans (zgates m c t r _)
  · rw [outsAt0_B m c t h0]
    frame_out
    exact (gates_at ..).trans (zgates m c t r _)

theorem final12 : (dats m 0 c).arrAt 12 cfg0.N = (fun y => Zk m c (y 0) ⟨(y 1).val, by have := (y 1).isLt; simp at this; omega⟩ : FVec Ideal S16640x256 .f32) := by
  refine (dats m 0 c).arrAt_eq_of_covers 12 _ (by decide +kernel) fun t _ y => ?_
  blk_simp
  rw [after0_12]
  idx_vars y
  rw [point12 m c t]
  refine congrArg₂ (Zk m c) (Fin.ext ?_) (Fin.ext ?_)
  · blk_simp [idx t]
    show 256 * t.val + y0.val = t.val * 256 + y0.val
    omega
  · blk_simp [idx t]

theorem final13 : (dats m 0 c).arrAt 13 cfg0.N = (fun y => Zk m c (y 0) ⟨256 + (y 1).val, by have := (y 1).isLt; simp at this; omega⟩ : FVec Ideal S16640x256 .f32) := by
  refine (dats m 0 c).arrAt_eq_of_covers 13 _ (by decide +kernel) fun t _ y => ?_
  blk_simp
  rw [after0_13]
  idx_vars y
  rw [point13 m c t]
  refine congrArg₂ (Zk m c) (Fin.ext ?_) (Fin.ext ?_)
  · blk_simp [idx t]
    show 256 * t.val + y0.val = t.val * 256 + y0.val
    omega
  · blk_simp [idx t]

theorem final14 : (dats m 0 c).arrAt 14 cfg0.N = (fun y => Zk m c (y 0) ⟨512 + (y 1).val, by have := (y 1).isLt; simp at this; omega⟩ : FVec Ideal S16640x256 .f32) := by
  refine (dats m 0 c).arrAt_eq_of_covers 14 _ (by decide +kernel) fun t _ y => ?_
  blk_simp
  rw [after0_14]
  idx_vars y
  rw [point14 m c t]
  refine congrArg₂ (Zk m c) (Fin.ext ?_) (Fin.ext ?_)
  · blk_simp [idx t]
    show 256 * t.val + y0.val = t.val * 256 + y0.val
    omega
  · blk_simp [idx t]

theorem final18 : (dats m 0 c).arrAt 18 cfg0.N = (fun y => Zk m c (y 0) ⟨1536 + (y 1).val, by have := (y 1).isLt; simp at this; omega⟩ : FVec Ideal S16640x256 .f32) := by
  refine (dats m 0 c).arrAt_eq_of_covers 18 _ (by decide +kernel) fun t _ y => ?_
  blk_simp
  rw [after0_18]
  idx_vars y
  rw [point18 m c t]
  refine congrArg₂ (Zk m c) (Fin.ext ?_) (Fin.ext ?_)
  · blk_simp [idx t]
    show 256 * t.val + y0.val = t.val * 256 + y0.val
    omega
  · blk_simp [idx t]

theorem final19 : (dats m 0 c).arrAt 19 cfg0.N = (fun y => Zk m c (y 0) ⟨1792 + (y 1).val, by have := (y 1).isLt; simp at this; omega⟩ : FVec Ideal S16640x256 .f32) := by
  refine (dats m 0 c).arrAt_eq_of_covers 19 _ (by decide +kernel) fun t _ y => ?_
  blk_simp
  rw [after0_19]
  idx_vars y
  rw [point19 m c t]
  refine congrArg₂ (Zk m c) (Fin.ext ?_) (Fin.ext ?_)
  · blk_simp [idx t]
    show 256 * t.val + y0.val = t.val * 256 + y0.val
    omega
  · blk_simp [idx t]

theorem final20 : (dats m 0 c).arrAt 20 cfg0.N = (fun y => Zk m c (y 0) ⟨2048 + (y 1).val, by have := (y 1).isLt; simp at this; omega⟩ : FVec Ideal S16640x256 .f32) := by
  refine (dats m 0 c).arrAt_eq_of_covers 20 _ (by decide +kernel) fun t _ y => ?_
  blk_simp
  rw [after0_20]
  idx_vars y
  rw [point20 m c t]
  refine congrArg₂ (Zk m c) (Fin.ext ?_) (Fin.ext ?_)
  · blk_simp [idx t]
    show 256 * t.val + y0.val = t.val * 256 + y0.val
    omega
  · blk_simp [idx t]

theorem final21 : (dats m 0 c).arrAt 21 cfg0.N = (fun y => Cert.Reference3Ideal.Inp.A (arg0 m c) (arg1 m c) (arg2 m c) (arg3 m c) (arg4 m c) (y 0) (y 1) : FVec Ideal S16640x128 .f32) := by
  refine (dats m 0 c).arrAt_eq_of_covers 21 _ (by decide +kernel) fun t _ y => ?_
  blk_simp
  rw [after0_21]
  idx_vars y
  rw [point21 m c t]
  refine congrArg₂ (Cert.Reference3Ideal.Inp.A (arg0 m c) (arg1 m c) (arg2 m c) (arg3 m c) (arg4 m c)) (Fin.ext ?_) (Fin.ext ?_)
  · blk_simp [idx t]
    show 256 * t.val + y0.val = t.val * 256 + y0.val
    omega
  · blk_simp [idx t]

theorem final22 : (dats m 0 c).arrAt 22 cfg0.N = (fun y => Zk m c (y 0) ⟨2336 + (y 1).val, by have := (y 1).isLt; simp at this; omega⟩ : FVec Ideal S16640x4096 .bf16) := by
  refine (dats m 0 c).arrAt_eq_of_covers 22 _ (by decide +kernel) fun t _ y => ?_
  blk_simp
  rw [after0_22]
  idx_vars y
  rw [point22 m c t]
  refine congrArg₂ (Zk m c) (Fin.ext ?_) (Fin.ext ?_)
  · blk_simp [idx t]
    show 256 * t.val + y0.val = t.val * 256 + y0.val
    omega
  · blk_simp [idx t]

theorem final17 : (dats m 0 c).arrAt 17 cfg0.N
    = (fun y => Cert.Reference3Ideal.Inp.VT (arg0 m c) (arg1 m c) (arg2 m c) (arg3 m c) (arg4 m c) (y 0) (y 1) (y 2) : FVec Ideal S4x80x16640 .bf16) := by
  refine (dats m 0 c).arrAt_eq_of_covers 17 _ (by decide +kernel) fun t _ y => ?_
  blk_simp
  rw [after0_17, point17 m c t]
  idx_vars y
  show Cert.Reference3Ideal.Inp.VT _ _ _ _ _ y0 y1 (at' t y2) = _
  congr 1
  · exact Fin.ext (by blk_simp [idx t])
  · exact Fin.ext (by blk_simp [idx t])
  · refine Fin.ext ?_
    blk_simp [idx t]
    show 256 * t.val + y2.val = t.val * 256 + y2.val
    omega

end Cert.Kernel3Ideal.Inp
end
-- ==== Proof.InpSame.lean ====
module

public import proofs.«01_k».proof.Proof.InpPoint

/-! The input projection: the nine arrays the launch leaves are the reference's nine results of the same arguments. -/

@[expose] public section

set_option maxRecDepth 16384

noncomputable section
open Idealize.ShloMosaic Idealize.ShloMosaic.TcCoe Idealize.SL.Sem
open Idealize.ShloMosaic.Pipeline (Dat)

namespace Cert.Kernel3Ideal.Inp
open Cert.Kernel3Ideal Cert.Kernel3Ideal.Gen Cert.Reference3Ideal.Read Cert.Reference3Ideal.Inp

variable (m : (ℓ : Loc nD τ sig) → Buf (Elt Ideal) ℓ) (c : Dev nD)

theorem same12 : (dats m 0 c).arrAt 12 cfg0.N = val_main_v60 (F := Ideal) (arg0 m c) (arg1 m c) (arg2 m c) (arg3 m c) (arg4 m c) := by
  rw [final12]
  funext y
  rw [eq_ix2 y]
  exact (v60_at ..).symm

theorem same13 : (dats m 0 c).arrAt 13 cfg0.N = val_main_v61 (F := Ideal) (arg0 m c) (arg1 m c) (arg2 m c) (arg3 m c) (arg4 m c) := by
  rw [final13]
  funext y
  rw [eq_ix2 y]
  exact (v61_at ..).symm

theorem same14 : (dats m 0 c).arrAt 14 cfg0.N = val_main_v62 (F := Ideal) (arg0 m c) (arg1 m c) (arg2 m c) (arg3 m c) (arg4 m c) := by
  rw [final14]
  funext y
  rw [eq_ix2 y]
  exact (v62_at ..).symm

theorem same17 : (dats m 0 c).arrAt 17 cfg0.N = val_main_v63 (F := Ideal) (arg0 m c) (arg1 m c) (arg2 m c) (arg3 m c) (arg4 m c) := by
  rw [final17]
  funext y
  rw [eq_ix3 y]
  exact (v63_at ..).symm

theorem same18 : (dats m 0 c).arrAt 18 cfg0.N = val_main_v64 (F := Ideal) (arg0 m c) (arg1 m c) (arg2 m c) (arg3 m c) (arg4 m c) := by
  rw [final18]
  funext y
  rw [eq_ix2 y]
  exact (v64_at ..).symm

theorem same19 : (dats m 0 c).arrAt 19 cfg0.N = val_main_v65 (F := Ideal) (arg0 m c) (arg1 m c) (arg2 m c) (arg3 m c) (arg4 m c) := by
  rw [final19]
  funext y
  rw [eq_ix2 y]
  exact (v65_at ..).symm

theorem same20 : (dats m 0 c).arrAt 20 cfg0.N = val_main_v66 (F := Ideal) (arg0 m c) (arg1 m c) (arg2 m c) (arg3 m c) (arg4 m c) := by
  rw [final20]
  funext y
  rw [eq_ix2 y]
  exact (v66_at ..).symm

theorem same21 : (dats m 0 c).arrAt 21 cfg0.N = val_main_v68 (F := Ideal) (arg0 m c) (arg1 m c) (arg2 m c) (arg3 m c) (arg4 m c) := by
  rw [final21]
  funext y
  rw [eq_ix2 y]
  exact (v68_at ..).symm

theorem same22 : (dats m 0 c).arrAt 22 cfg0.N = val_main_v70 (F := Ideal) (arg0 m c) (arg1 m c) (arg2 m c) (arg3 m c) (arg4 m c) := by
  rw [final22]
  funext y
  rw [eq_ix2 y]
  exact (v70_at ..).symm

end Cert.Kernel3Ideal.Inp
end
-- ==== Proof.MergeRef.lean ====
module

public import proofs.«01_k».proof.Proof.Gen.Reference4Ideal.Read
public import proofs.«01_k».proof.Proof.Gen.Reference4Ideal.Run
public import proofs.«01_k».proof.Proof.FfnRef

/-! The merge of the four branches as a formula over the extended reals, row by row, and the reference read as that formula. -/

@[expose] public section

set_option maxRecDepth 16384

noncomputable section
open Idealize.ShloMosaic Idealize.ShloMosaic.TcCoe Idealize.SL.Sem

namespace Cert.Merge
open Cert.Ffn

/-- The gated activation of the state-space branch before its gate, and the branch. -/
def zrow (u d yf yb : Fin 256 → EReal) (j : Fin 256) : EReal := gelu (u j * d j + yf j + yb j)
def branchA (z : Fin 256 → EReal) (w : Fin 256 → Fin 256 → EReal) (j : Fin 256) : EReal := z j * Ideal.logistic (∑ k, z k * w k j)

/-- The recurrent branch. -/
def branchB (hf hb ly : Fin 256 → EReal) (j : Fin 256) : EReal := (hf j + hb j) * gelu (ly j)

/-- Lane `e` of lane `j`'s head. -/
def lane (j : Fin 256) (e : Fin 64) : Fin 256 := ⟨j.val / 64 * 64 + e.val, by omega⟩

/-- The root-mean-square norm of each head. -/
def headNorm (o : Fin 256 → EReal) (g : Fin 64 → EReal) (j : Fin 256) : EReal :=
  o j * Ideal.rsqrt (Ideal.div (∑ e, o (lane j e) * o (lane j e)) (Ideal.ofBits .f32 0x42800000#32) + Ideal.ofBits .f32 0x358637BD#32)
    * g ⟨j.val % 64, by omega⟩

/-- The attention's and the gated linear attention's branches. -/
def branchC (att : Fin 256 → EReal) (g : Fin 64 → EReal) (j : Fin 256) : EReal := headNorm att g j * Ideal.ofBits .f32 0x3F24FD5C#32
def branchD (o gg : Fin 256 → EReal) (g : Fin 64 → EReal) (j : Fin 256) : EReal := headNorm o g j * (gg j * Ideal.logistic (gg j))

/-- One branch's projection under its gate. -/
def gated (gate : EReal) (y w : Fin 256 → EReal) : EReal := Ideal.logistic gate * ∑ j, y j * w j

end Cert.Merge

namespace Cert.Reference4Ideal.Mrg
open Cert.Reference4Ideal Cert.Reference4Ideal.Read Cert.Ffn Cert.Merge

variable (x0 : FVec Ideal S1x16384x1024 .f32) (x1 : FVec Ideal S1x256x1024 .f32) (x2 : FVec Ideal S2x6144 .f32)
  (x3 x4 x5 : FVec Ideal S16640x256 .f32) (x6 : FVec Ideal S256 .f32) (x7 : FVec Ideal S256x256 .f32)
  (x8 x9 x10 x11 : FVec Ideal S16640x256 .f32) (x12 : FVec Ideal S64 .f32) (x13 x14 x15 : FVec Ideal S16640x256 .f32) (x16 : FVec Ideal S64 .f32)
  (x17 : FVec Ideal S16640x4096 .f32) (x18 : FVec Ideal S4x256x1024 .f32) (x19 : FVec Ideal S1024x1024 .f32)

/-- The context's rows, then the latents' rows. -/
def row (R : Fin 16640) (k : Fin 1024) : EReal :=
  if h : R.val < 256 then x1 (ix3 0 ⟨R.val, h⟩ k) else x0 (ix3 0 ⟨R.val - 256, by omega⟩ k)

/-- The modulation a row takes: the context's or the latents'. -/
def side (R : Fin 16640) : Fin 2 := if R.val < 256 then 0 else 1

/-- The four branches. -/
def Z (R : Fin 16640) : Fin 256 → EReal := zrow (fun j => x3 (ix2 R j)) (fun j => x6 (ix1 j)) (fun j => x4 (ix2 R j)) (fun j => x5 (ix2 R j))
def Ya (R : Fin 16640) : Fin 256 → EReal := branchA (Z x3 x4 x5 x6 R) fun k j => x7 (ix2 k j)
def Yb (R : Fin 16640) : Fin 256 → EReal := branchB (fun j => x8 (ix2 R j)) (fun j => x9 (ix2 R j)) (fun j => x10 (ix2 R j))
def Yc (R : Fin 16640) : Fin 256 → EReal := branchC (fun j => x11 (ix2 R j)) fun e => x12 (ix1 e)
def Yd (R : Fin 16640) : Fin 256 → EReal := branchD (fun j => x13 (ix2 R j) + x14 (ix2 R j)) (fun j => x15 (ix2 R j)) fun e => x16 (ix1 e)

/-- Branch `n`'s gated projection. -/
def part (n : Fin 4) (y : Fin 16640 → Fin 256 → EReal) (R : Fin 16640) (k : Fin 1024) : EReal :=
  gated (x17 (ix2 R ⟨n.val * 1024 + k.val, by omega⟩)) (y R) fun j => x18 (ix3 n j k)

/-- The sum of the gated projections. -/
def acc (R : Fin 16640) (k : Fin 1024) : EReal :=
  part x17 x18 0 (Ya x3 x4 x5 x6 x7) R k + part x17 x18 1 (Yb x8 x9 x10) R k + part x17 x18 2 (Yc x11 x12) R k + part x17 x18 3 (Yd x13 x14 x15 x16) R k

/-- The result. -/
def out (R : Fin 16640) (k : Fin 1024) : EReal :=
  row x0 x1 R k + x2 (ix2 (side R) ⟨2048 + k.val, by omega⟩)
    * ∑ c, acc x3 x4 x5 x6 x7 x8 x9 x10 x11 x12 x13 x14 x15 x16 x17 x18 R c * x19 (ix2 c k)

theorem v17_at (R : Fin 16640) (j : Fin 256) : val_main_v17 (F := Ideal) x3 x4 x5 x6 (ix2 R j) = Z x3 x4 x5 x6 R j := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_cst, val_main_cst_0, val_main_cst_1, val_main_cst_2]
  simp only [Z, zrow, gelu, mul_assoc]

theorem v25_at (R : Fin 16640) (j : Fin 256) : val_main_v25 (F := Ideal) x3 x4 x5 x6 x7 (ix2 R j) = Ya x3 x4 x5 x6 x7 R j := by
  pointwise [val_main_v18, val_main_v19, val_main_v20, val_main_v21, val_main_v22, val_main_v23, val_main_v24, val_main_v25, val_main_cst_3, val_main_cst_4]
  simp only [v17_at]
  rfl

theorem v40_at (R : Fin 16640) (j : Fin 256) : val_main_v40 (F := Ideal) x8 x9 x10 (ix2 R j) = Yb x8 x9 x10 R j := by
  pointwise [val_main_v26, val_main_v27, val_main_v28, val_main_v29, val_main_v30, val_main_v31, val_main_v32, val_main_v33, val_main_v34, val_main_v35,
    val_main_v36, val_main_v37, val_main_v38, val_main_v39, val_main_v40, val_main_cst_5, val_main_cst_6, val_main_cst_7, val_main_cst_8]
  simp only [Yb, branchB, gelu, mul_assoc]

theorem v41_at (R : Fin 16640) (h : Fin 4) (e : Fin 64) : val_main_v41 (F := Ideal) x11 (ix3 R h e) = x11 (ix2 R ⟨h.val * 64 + e.val, by omega⟩) := by
  rw [val_main_v41_apply]
  refine congrArg x11 (funext fun a => Fin.ext ?_)
  match a with
  | ⟨0, _⟩ => show ((R.val * 4 + h.val) * 64 + e.val) / 256 = R.val; omega
  | ⟨1, _⟩ => show ((R.val * 4 + h.val) * 64 + e.val) % 256 = h.val * 64 + e.val; omega

theorem v59_at (R : Fin 16640) (h : Fin 4) (e : Fin 64) : val_main_v59 (F := Ideal) x13 x14 (ix3 R h e)
    = x13 (ix2 R ⟨h.val * 64 + e.val, by omega⟩) + x14 (ix2 R ⟨h.val * 64 + e.val, by omega⟩) := by
  rw [val_main_v59_apply]
  have e : idx_main_v59 (ix3 R h e) = ix2 R ⟨h.val * 64 + e.val, by omega⟩ := by
    refine funext fun a => Fin.ext ?_
    match a with
    | ⟨0, _⟩ => show ((R.val * 4 + h.val) * 64 + e.val) / 256 = R.val; omega
    | ⟨1, _⟩ => show ((R.val * 4 + h.val) * 64 + e.val) % 256 = h.val * 64 + e.val; omega
  rw [e]
  rfl

theorem v56_at (R : Fin 16640) (h : Fin 4) (e : Fin 64) : val_main_v56 (F := Ideal) x11 x12 (ix3 R h e) = Yc x11 x12 R ⟨h.val * 64 + e.val, by omega⟩ := by
  pointwise [val_main_v42, val_main_v43, val_main_v44, val_main_v45, val_main_v46, val_main_v47, val_main_v48, val_main_v49, val_main_v50, val_main_v51,
    val_main_v52, val_main_v53, val_main_v54, val_main_v55, val_main_v56, val_main_cst_9, val_main_cst_10, val_main_cst_11, val_main_cst_12]
  simp only [v41_at]
  have hl (l : Fin 64) : lane ⟨h.val * 64 + e.val, by omega⟩ l = ⟨h.val * 64 + l.val, by omega⟩ := Fin.ext (by show (h.val * 64 + e.val) / 64 * 64 + l.val = h.val * 64 + l.val; omega)
  have hg : (⟨(h.val * 64 + e.val) % 64, by omega⟩ : Fin 64) = e := Fin.ext (by show (h.val * 64 + e.val) % 64 = e.val; omega)
  simp only [Yc, branchC, headNorm, hl, hg]

theorem v72_at (R : Fin 16640) (h : Fin 4) (e : Fin 64) : val_main_v72 (F := Ideal) x13 x14 x16 (ix3 R h e)
    = headNorm (fun j => x13 (ix2 R j) + x14 (ix2 R j)) (fun e => x16 (ix1 e)) ⟨h.val * 64 + e.val, by omega⟩ := by
  pointwise [val_main_v60, val_main_v61, val_main_v62, val_main_v63, val_main_v64, val_main_v65, val_main_v66, val_main_v67, val_main_v68, val_main_v69,
    val_main_v70, val_main_v71, val_main_v72, val_main_cst_13, val_main_cst_14, val_main_cst_15]
  simp only [v59_at]
  have hl (l : Fin 64) : lane ⟨h.val * 64 + e.val, by omega⟩ l = ⟨h.val * 64 + l.val, by omega⟩ := Fin.ext (by show (h.val * 64 + e.val) / 64 * 64 + l.val = h.val * 64 + l.val; omega)
  have hg : (⟨(h.val * 64 + e.val) % 64, by omega⟩ : Fin 64) = e := Fin.ext (by show (h.val * 64 + e.val) % 64 = e.val; omega)
  simp only [headNorm, hl, hg]

theorem split (R : Fin 16640) (j : Fin 256) : idx_main_v57 (ix2 R j) = ix3 R ⟨j.val / 64, by omega⟩ ⟨j.val % 64, by omega⟩ := by
  refine funext fun a => Fin.ext ?_
  match a with
  | ⟨0, _⟩ => show (R.val * 256 + j.val) / 256 = R.val; omega
  | ⟨1, _⟩ => show (R.val * 256 + j.val) / 64 % 4 = j.val / 64; omega
  | ⟨2, _⟩ => show (R.val * 256 + j.val) % 64 = j.val % 64; omega

theorem join (j : Fin 256) : (⟨j.val / 64 * 64 + j.val % 64, by omega⟩ : Fin 256) = j := Fin.ext (by show j.val / 64 * 64 + j.val % 64 = j.val; omega)

theorem v57_at (R : Fin 16640) (j : Fin 256) : val_main_v57 (F := Ideal) x11 x12 (ix2 R j) = Yc x11 x12 R j := by
  rw [val_main_v57_apply, split, v56_at, join]

theorem v73_at (R : Fin 16640) (j : Fin 256) : val_main_v73 (F := Ideal) x13 x14 x16 (ix2 R j)
    = headNorm (fun j => x13 (ix2 R j) + x14 (ix2 R j)) (fun e => x16 (ix1 e)) j := by
  rw [val_main_v73_apply, show idx_main_v73 (ix2 R j) = _ from split R j, v72_at, join]

theorem v75_at (R : Fin 16640) (j : Fin 256) : val_main_v75 (F := Ideal) x13 x14 x15 x16 (ix2 R j) = Yd x13 x14 x15 x16 R j := by
  pointwise [val_main_call0_v0, val_main_call0_v1, val_main_call0_v2, val_main_call0_v3, val_main_call0_v4, val_main_call0_v5, val_main_call0_cst,
    val_main_call0_cst_0, val_main_v74, val_main_v75]
  rw [v73_at]
  rfl

theorem v82_at (R : Fin 16640) (n : Fin 4) (k : Fin 1024) : val_main_v82 (F := Ideal) x17 (ix3 R n k) = Ideal.logistic (x17 (ix2 R ⟨n.val * 1024 + k.val, by omega⟩)) := by
  pointwise [val_main_v77, val_main_v78, val_main_v79, val_main_v80, val_main_v81, val_main_v82, val_main_cst_16, val_main_cst_17]
  rw [val_main_v76_apply]
  have e : idx_main_v76 (ix3 R n k) = ix2 R ⟨n.val * 1024 + k.val, by omega⟩ := by
    refine funext fun a => Fin.ext ?_
    match a with
    | ⟨0, _⟩ => show ((R.val * 4 + n.val) * 1024 + k.val) / 4096 = R.val; omega
    | ⟨1, _⟩ => show ((R.val * 4 + n.val) * 1024 + k.val) % 4096 = n.val * 1024 + k.val; omega
  rw [e]
  rfl

theorem v88_at (R : Fin 16640) (k : Fin 1024) : val_main_v88 (F := Ideal) x3 x4 x5 x6 x7 x17 x18 (ix2 R k) = part x17 x18 0 (Ya x3 x4 x5 x6 x7) R k := by
  pointwise [val_main_v83, val_main_v84, val_main_v85, val_main_v86, val_main_v87, val_main_v88]
  simp only [v25_at, v82_at]
  rfl

theorem v96_at (R : Fin 16640) (k : Fin 1024) : val_main_v96 (F := Ideal) x8 x9 x10 x17 x18 (ix2 R k) = part x17 x18 1 (Yb x8 x9 x10) R k := by
  pointwise [val_main_v91, val_main_v92, val_main_v93, val_main_v94, val_main_v95, val_main_v96]
  simp only [v40_at, v82_at]
  rfl

theorem v103_at (R : Fin 16640) (k : Fin 1024) : val_main_v103 (F := Ideal) x11 x12 x17 x18 (ix2 R k) = part x17 x18 2 (Yc x11 x12) R k := by
  pointwise [val_main_v98, val_main_v99, val_main_v100, val_main_v101, val_main_v102, val_main_v103]
  simp only [v57_at, v82_at]
  rfl

theorem v110_at (R : Fin 16640) (k : Fin 1024) : val_main_v110 (F := Ideal) x13 x14 x15 x16 x17 x18 (ix2 R k) = part x17 x18 3 (Yd x13 x14 x15 x16) R k := by
  pointwise [val_main_v105, val_main_v106, val_main_v107, val_main_v108, val_main_v109, val_main_v110]
  simp only [v75_at, v82_at]
  rfl

theorem v111_at (R : Fin 16640) (k : Fin 1024) : val_main_v111 (F := Ideal) x3 x4 x5 x6 x7 x8 x9 x10 x11 x12 x13 x14 x15 x16 x17 x18 (ix2 R k)
    = acc x3 x4 x5 x6 x7 x8 x9 x10 x11 x12 x13 x14 x15 x16 x17 x18 R k := by
  pointwise [val_main_v89, val_main_v90, val_main_v97, val_main_v104, val_main_v111, val_main_cst_18]
  rw [v88_at, v96_at, v103_at, v110_at]
  simp [acc]

theorem v129_at (R : Fin 16640) (k : Fin 1024) : val_main_v129 (F := Ideal) x0 x1 x2 x3 x4 x5 x6 x7 x8 x9 x10 x11 x12 x13 x14 x15 x16 x17 x18 x19 (ix2 R k)
    = out x0 x1 x2 x3 x4 x5 x6 x7 x8 x9 x10 x11 x12 x13 x14 x15 x16 x17 x18 x19 R k := by
  pointwise [val_main_v112, val_main_v113, val_main_v114, val_main_v115, val_main_v116, val_main_v117, val_main_v118, val_main_v119, val_main_v120, val_main_v121,
    val_main_v122, val_main_v123, val_main_v124, val_main_v125, val_main_v126, val_main_v127, val_main_v128, val_main_v129]
  simp only [v111_at, out, row, side]
  by_cases h : R.val < 256
  · rw [dif_pos h, dif_pos h, if_pos h]
  · have e : (⟨256 + (R.val - 256), by omega⟩ : Fin 16640) = R := Fin.ext (by show 256 + (R.val - 256) = R.val; omega)
    rw [dif_neg h, dif_neg h, if_neg h, e]

end Cert.Reference4Ideal.Mrg
end
-- ==== Proof.MergePay.lean ====
module

public import proofs.«01_k».proof.Proof.Gen.Kernel4Ideal.Skeleton
public import proofs.«01_k».proof.Proof.MergeRef
public import proofs.«01_k».proof.Proof.Sums
public import Idealize.ShloMosaic.Lib.Pointwise

/-! The merge kernel's values at an index; its group mean, taken by a product with a matrix, over finite rows. -/

@[expose] public section

set_option maxRecDepth 16384

noncomputable section
open Idealize.ShloMosaic Idealize.ShloMosaic.TcCoe Idealize.SL.Sem

namespace Cert.Kernel4Ideal.Mrg
open Cert.Kernel4Ideal Cert.Kernel4Ideal.Gen Cert.Ffn Cert.Merge

/-- The matrix that averages each head's lanes. -/
def meanMat (k j : Fin 256) : EReal := if k.val / 64 = j.val / 64 then (((1 : ℝ) / 64 : ℝ) : EReal) else 0

/-- A sum over the lanes of one head, taken over all lanes with the others left out. -/
theorem sum_head (a : Fin 256 → ℝ) (j : Fin 256) : ∑ k, a k * (if k.val / 64 = j.val / 64 then (1 : ℝ) / 64 else 0) = (∑ e, a (lane j e)) / 64 := by
  rw [Finset.sum_div, ← Finset.sum_subset (Finset.subset_univ (Finset.univ.image (lane j)))]
  · rw [Finset.sum_image fun e _ e' _ h => Fin.ext (by have h := congrArg Fin.val h; simp only [lane] at h; omega)]
    refine Finset.sum_congr rfl fun e _ => ?_
    rw [if_pos (by simp only [lane]; omega)]
    ring
  · intro k _ hk
    rw [if_neg, mul_zero]
    intro h
    refine hk (Finset.mem_image.mpr ⟨⟨k.val % 64, by omega⟩, Finset.mem_univ _, Fin.ext ?_⟩)
    simp only [lane]
    omega

/-- The kernel's mean of squares over a head — the rounded squares and what the rounding left, each times the matrix — of a row of finite numbers. -/
theorem group_mean (o : Fin 256 → EReal) (a : Fin 256 → ℝ) (ho : ∀ k, o k = (a k : EReal)) (j : Fin 256) :
    (∑ k, o k * o k * meanMat k j) + (∑ k, (o k * o k - o k * o k) * meanMat k j)
      = Ideal.div (∑ e, o (lane j e) * o (lane j e)) (Ideal.ofBits .f32 0x42800000#32) := by
  have hm (k : Fin 256) : meanMat k j = ((if k.val / 64 = j.val / 64 then (1 : ℝ) / 64 else 0 : ℝ) : EReal) := by
    rw [meanMat]
    split <;> simp
  have h64 : Ideal.ofBits .f32 0x42800000#32 = ((64 : ℝ) : EReal) := by
    simp [Ideal.ofBits, Ideal.ieee, -EReal.coe_mul]
    norm_num
  have e1 : (∑ k, o k * o k * meanMat k j) = (((∑ e, a (lane j e) * a (lane j e)) / 64 : ℝ) : EReal) := by
    rw [← sum_head (fun k => a k * a k) j, ← sum_coe]
    exact Finset.sum_congr rfl fun k _ => by rw [ho, hm, ← EReal.coe_mul, ← EReal.coe_mul]
  have e2 : (∑ k, (o k * o k - o k * o k) * meanMat k j) = 0 := by
    refine Finset.sum_eq_zero fun k _ => ?_
    rw [ho, ← EReal.coe_mul, ← EReal.coe_sub, sub_self, EReal.coe_zero, zero_mul]
  have e3 : (∑ e, o (lane j e) * o (lane j e)) = ((∑ e, a (lane j e) * a (lane j e) : ℝ) : EReal) := by
    rw [← sum_coe]
    exact Finset.sum_congr rfl fun k _ => by rw [ho, ← EReal.coe_mul]
  rw [e1, e2, e3, add_zero, h64, Ideal.div_coe (by norm_num), ← EReal.coe_mul, div_eq_mul_inv, one_div]

theorem z_at (u : FVec Ideal S256x256 .f32) (d : FVec Ideal S1x256 .f32) (yf yb : FVec Ideal S256x256 .f32) (w : FVec Ideal S256x256 .bf16) (r j : Fin 256) :
    k0_pay2 (F := Ideal) u d yf yb w (ix2 r j)
      = branchA (zrow (fun j => u (ix2 r j)) (fun j => d (ix2 0 j)) (fun j => yf (ix2 r j)) (fun j => yb (ix2 r j))) (fun k j => w (ix2 k j)) j := by
  pointwise [k0_pay2]
  rfl

theorem b_at (hf hb ly : FVec Ideal S256x256 .f32) (r j : Fin 256) : k0_pay5 (F := Ideal) (k0_pay3 hf hb) ly (k0_pay4 ly) (ix2 r j)
    = branchB (fun j => hf (ix2 r j)) (fun j => hb (ix2 r j)) (fun j => ly (ix2 r j)) j := by
  pointwise [k0_pay5, k0_pay3, k0_pay4]
  rfl

theorem d_at (gf gb : FVec Ideal S256x256 .f32) (M : FVec Ideal S256x256 .bf16) (gg : FVec Ideal S256x256 .f32) (g : FVec Ideal S1x256 .f32)
    (g' : Fin 64 → EReal) (r j : Fin 256) (hM : ∀ k j, M (ix2 k j) = meanMat k j) (hg : ∀ j : Fin 256, g (ix2 0 j) = g' ⟨j.val % 64, by omega⟩)
    (a : Fin 256 → ℝ) (ho : ∀ k, gf (ix2 r k) + gb (ix2 r k) = (a k : EReal)) :
    k0_pay7 (F := Ideal) gf gb M gg g (ix2 r j) = branchD (fun j => gf (ix2 r j) + gb (ix2 r j)) (fun j => gg (ix2 r j)) g' j := by
  pointwise [k0_pay7, k0_pay6]
  rw [branchD, headNorm, ← group_mean _ a ho j, ← hg]
  simp only [hM]

theorem c_at (att : FVec Ideal S256x256 .f32) (M : FVec Ideal S256x256 .bf16) (g : FVec Ideal S1x256 .f32)
    (g' : Fin 64 → EReal) (r j : Fin 256) (hM : ∀ k j, M (ix2 k j) = meanMat k j) (hg : ∀ j : Fin 256, g (ix2 0 j) = g' ⟨j.val % 64, by omega⟩)
    (a : Fin 256 → ℝ) (ho : ∀ k, att (ix2 r k) = (a k : EReal)) :
    k0_pay14 (F := Ideal) (k0_pay6 M) att (k0_pay10 att) (k0_pay11 M att) g (ix2 r j) = branchC (fun j => att (ix2 r j)) g' j := by
  pointwise [k0_pay14, k0_pay6, k0_pay8, k0_pay9, k0_pay10, k0_pay11]
  rw [branchC, headNorm, ← group_mean _ a ho j, ← hg, mul_assoc _ (g _)]
  simp only [hM]

/-- The first two gated projections. -/
theorem ab_at (ya yb : FVec Ideal S256x256 .f32) (g0 g1 : FVec Ideal S256x1024 .bf16) (w0 w1 : FVec Ideal S1x256x1024 .bf16) (r : Fin 256) (k : Fin 1024) :
    k0_pay12 (F := Ideal) ya yb g0 w0 g1 w1 (ix2 r k)
      = gated (g0 (ix2 r k)) (fun j => ya (ix2 r j)) (fun j => w0 (ix3 0 j k)) + gated (g1 (ix2 r k)) (fun j => yb (ix2 r j)) (fun j => w1 (ix3 0 j k)) := by
  pointwise [k0_pay12]
  rfl

/-- The point's store, over its blocks. -/
theorem out_at (yd : FVec Ideal S256x256 .f32) (ab : FVec Ideal S256x1024 .f32) (g2 : FVec Ideal S256x1024 .bf16) (yc : FVec Ideal S256x256 .bf16)
    (w2 : FVec Ideal S1x256x1024 .bf16) (g3 : FVec Ideal S256x1024 .bf16) (w3 : FVec Ideal S1x256x1024 .bf16) (x : FVec Ideal S256x1024 .f32)
    (d : FVec Ideal S1x1x1024 .f32) (w : FVec Ideal S1024x1024 .bf16) (r : Fin 256) (k : Fin 1024) :
    k0_pay1 (F := Ideal) yd ab (k0_pay13 g2) yc (k0_pay15 w2) g3 w3 x d w (ix2 r k)
      = x (ix2 r k) + d (ix3 0 0 k) * ∑ c, (ab (ix2 r c) + gated (g2 (ix2 r c)) (fun j => yc (ix2 r j)) (fun j => w2 (ix3 0 j c))
          + gated (g3 (ix2 r c)) (fun j => yd (ix2 r j)) (fun j => w3 (ix3 0 j c))) * w (ix2 c k) := by
  pointwise [k0_pay1, k0_pay13, k0_pay15]
  rfl

end Cert.Kernel4Ideal.Mrg
end
-- ==== Proof.MergeHost.lean ====
module

public import proofs.«01_k».proof.Proof.Gen.Kernel4Ideal.Value
public import proofs.«01_k».proof.Proof.MergePay
public import Idealize.ShloMosaic.Lib.Pipeline.ValueKit
public import Idealize.ShloMosaic.Lib.Pointwise

/-! The merge: what the host code hands the launch, and each grid point's blocks of it. -/

@[expose] public section

set_option maxRecDepth 16384

noncomputable section
open Idealize.ShloMosaic Idealize.ShloMosaic.TcCoe Idealize.SL.Sem
open Idealize.ShloMosaic.Pipeline (Dat)

namespace Cert.Kernel4Ideal.Mrg
open Cert.Kernel4Ideal Cert.Kernel4Ideal.Gen Cert.Ffn Cert.Merge

variable (m : (ℓ : Loc nD τ sig) → Buf (Elt Ideal) ℓ) (c : Dev nD)

theorem idx : ∀ t : Fin cfg0.N,
    win0_0.index t = ![t.val, 0] ∧ win0_1.index t = ![min t.val 1, 0, 0] ∧ win0_2.index t = ![t.val, 0] ∧ win0_3.index t = ![t.val, 0]
    ∧ win0_4.index t = ![t.val, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![0, 0] ∧ win0_12.index t = ![t.val, 0] ∧ win0_13.index t = ![t.val, 0]
    ∧ win0_14.index t = ![t.val, 0] ∧ win0_15.index t = ![0, 0] ∧ win0_16.index t = ![0, 0] ∧ win0_17.index t = ![t.val, 0] ∧ win0_18.index t = ![0, 0, 0]
    ∧ win0_19.index t = ![0, 0] ∧ win0_20.index t = ![t.val, 0] :=
  (by decide +kernel : ∀ t : Fin grid0.N, _)

abbrev arg0 : FVec Ideal S1x16384x1024 .f32 := m ((c.tc : Thread nD τ).loc main_arg0)
abbrev arg1 : FVec Ideal S1x256x1024 .f32 := m ((c.tc : Thread nD τ).loc main_arg1)
abbrev arg2 : FVec Ideal S2x6144 .f32 := m ((c.tc : Thread nD τ).loc main_arg2)
abbrev arg3 : FVec Ideal S16640x256 .f32 := m ((c.tc : Thread nD τ).loc main_arg3)
abbrev arg4 : FVec Ideal S16640x256 .f32 := m ((c.tc : Thread nD τ).loc main_arg4)
abbrev arg5 : FVec Ideal S16640x256 .f32 := m ((c.tc : Thread nD τ).loc main_arg5)
abbrev arg6 : FVec Ideal S256 .f32 := m ((c.tc : Thread nD τ).loc main_arg6)
abbrev arg7 : FVec Ideal S256x256 .f32 := m ((c.tc : Thread nD τ).loc main_arg7)
abbrev arg8 : FVec Ideal S16640x256 .f32 := m ((c.tc : Thread nD τ).loc main_arg8)
abbrev arg9 : FVec Ideal S16640x256 .f32 := m ((c.tc : Thread nD τ).loc main_arg9)
abbrev arg10 : FVec Ideal S16640x256 .f32 := m ((c.tc : Thread nD τ).loc main_arg10)
abbrev arg11 : FVec Ideal S16640x256 .f32 := m ((c.tc : Thread nD τ).loc main_arg11)
abbrev arg12 : FVec Ideal S64 .f32 := m ((c.tc : Thread nD τ).loc main_arg12)
abbrev arg13 : FVec Ideal S16640x256 .f32 := m ((c.tc : Thread nD τ).loc main_arg13)
abbrev arg14 : FVec Ideal S16640x256 .f32 := m ((c.tc : Thread nD τ).loc main_arg14)
abbrev arg15 : FVec Ideal S16640x256 .f32 := m ((c.tc : Thread nD τ).loc main_arg15)
abbrev arg16 : FVec Ideal S64 .f32 := m ((c.tc : Thread nD τ).loc main_arg16)
abbrev arg17 : FVec Ideal S16640x4096 .f32 := m ((c.tc : Thread nD τ).loc main_arg17)
abbrev arg18 : FVec Ideal S4x256x1024 .f32 := m ((c.tc : Thread nD τ).loc main_arg18)
abbrev arg19 : FVec Ideal S1024x1024 .f32 := m ((c.tc : Thread nD τ).loc main_arg19)

theorem V2 (R : Fin 16640) (k : Fin 1024) : (V m c main_v2 : FVec Ideal S16640x1024 .f32) (ix2 R k) = Cert.Reference4Ideal.Mrg.row (arg0 m c) (arg1 m c) R k := by
  simp only [V, hostOps0, hostOps0_1, hostOps0_2, hostOps0_3, hostOps0_4,
    List.flatten_cons, List.flatten_nil, List.append_nil, List.cons_append, List.nil_append]
  entry_read
  pointwise
  rfl

theorem V4 (s : Fin 2) (d : Fin 6) (k : Fin 1024) : (V m c main_v4 : FVec Ideal S2x8x1024 .f32) (ix3 s ⟨d.val, by omega⟩ k)
    = arg2 m c (ix2 s ⟨d.val * 1024 + k.val, by omega⟩) := by
  simp only [V, hostOps0, hostOps0_1, hostOps0_2, hostOps0_3, hostOps0_4,
    List.flatten_cons, List.flatten_nil, List.append_nil, List.cons_append, List.nil_append]
  entry_read
  simp only [StableHlo.TRef.ofBuf_toBuf]
  change pad S2x8x1024 ![0, 0, 0] ![0, 2, 0] ![0, 0, 0] (shapeCast S2x6x1024 (arg2 m c : FVec Ideal S2x6144 .f32) shapeCasts_S2x6144_S2x6x1024) _ pads_S2x6x1024_S2x8x1024_000_020_000 h_S_ (ix3 s ⟨d.val, by omega⟩ k) = _
  pointwise

theorem V5 (k : Fin 256) : (V m c main_v5 : FVec Ideal S1x256 .f32) (ix2 0 k) = arg6 m c (ix1 k) := by
  simp only [V, hostOps0, hostOps0_1, hostOps0_2, hostOps0_3, hostOps0_4,
    List.flatten_cons, List.flatten_nil, List.append_nil, List.cons_append, List.nil_append]
  entry_read
  pointwise

theorem V6 (k j : Fin 256) : (V m c main_v6 : FVec Ideal S256x256 .bf16) (ix2 k j) = arg7 m c (ix2 k j) := by
  simp only [V, hostOps0, hostOps0_1, hostOps0_2, hostOps0_3, hostOps0_4,
    List.flatten_cons, List.flatten_nil, List.append_nil, List.cons_append, List.nil_append]
  entry_read
  pointwise

theorem V10 (j : Fin 256) : (V m c main_v10 : FVec Ideal S1x256 .f32) (ix2 0 j) = arg12 m c (ix1 ⟨j.val % 64, by omega⟩) := by
  simp only [V, hostOps0, hostOps0_1, hostOps0_2, hostOps0_3, hostOps0_4,
    List.flatten_cons, List.flatten_nil, List.append_nil, List.cons_append, List.nil_append]
  entry_read
  pointwise

theorem V14 (j : Fin 256) : (V m c main_v14 : FVec Ideal S1x256 .f32) (ix2 0 j) = arg16 m c (ix1 ⟨j.val % 64, by omega⟩) := by
  simp only [V, hostOps0, hostOps0_1, hostOps0_2, hostOps0_3, hostOps0_4,
    List.flatten_cons, List.flatten_nil, List.append_nil, List.cons_append, List.nil_append]
  entry_read
  pointwise

/-- The host's head of each lane, as its floor division spells it. -/
def headOf : IVec S256 32 :=
  have n : IVec S256 32 := iotaInDim S256 32 0
  have w : IVec S256 32 := broadcastInDim S256 ![] bcast_S_S256 (constantI S_ 32 64#32)
  select (andi (cmpi CmpIPredicate.ne (signi n) (broadcastInDim S256 ![] bcast_S_S256 (signi (constantI S_ 32 64#32))))
      (cmpi CmpIPredicate.ne (Host.remsi n w) (broadcastInDim S256 ![] bcast_S_S256 (constantI S_ 32 0#32))))
    (subi (Host.divsi n w) (broadcastInDim S256 ![] bcast_S_S256 (constantI S_ 32 1#32))) (Host.divsi n w)

theorem headOf_at (j : Fin 256) : headOf (ix1 j) = BitVec.ofNat 32 (j.val / 64) := by
  pointwise [headOf]
  revert j
  decide +kernel

theorem same_head : ∀ k j : Fin 256, (IntOp.cmpi CmpIPredicate.eq (BitVec.ofNat 32 (k.val / 64)) (BitVec.ofNat 32 (j.val / 64))).toNat
    = if k.val / 64 = j.val / 64 then 1 else 0 := by decide +kernel

theorem V25 (k j : Fin 256) : (V m c main_v25 : FVec Ideal S256x256 .bf16) (ix2 k j) = meanMat k j := by
  simp only [V, hostOps0, hostOps0_1, hostOps0_2, hostOps0_3, hostOps0_4,
    List.flatten_cons, List.flatten_nil, List.append_nil, List.cons_append, List.nil_append]
  entry_read
  simp only [StableHlo.TRef.ofBuf_toBuf]
  change truncf (F := Ideal) (φ := .f32) .bf16 (Host.divf (uitofp (F := Ideal) .f32 (cmpi CmpIPredicate.eq
    (broadcastInDim S256x256 ![0, 1] bcast_S256x1_S256x256_0_1 (broadcastInDim S256x1 ![0] bcast_S256_S256x1_0 headOf))
    (broadcastInDim S256x256 ![0, 1] bcast_S1x256_S256x256_0_1 (broadcastInDim S1x256 ![1] bcast_S256_S1x256_1 headOf))))
    (broadcastInDim S256x256 ![] bcast_S_S256x256 (constant S_ FTy.f32 1115684864#32))) bitsLt_bf16_f32 (ix2 k j) = _
  pointwise
  rw [headOf_at, headOf_at]
  have h64 : Ideal.ofBits .f32 0x42800000#32 = ((64 : ℝ) : EReal) := by
    simp [Ideal.ofBits, Ideal.ieee, -EReal.coe_mul]
    norm_num
  refine (congrArg (fun z : ℕ => Ideal.div (((z : ℝ) : EReal)) (Ideal.ofBits FTy.f32 1115684864#32)) (same_head k j)).trans ?_
  rw [h64, Ideal.div_coe (by norm_num), meanMat]
  split <;> simp

theorem V26 (R : Fin 16640) (n : Fin 4096) : (V m c main_v26 : FVec Ideal S16640x4096 .bf16) (ix2 R n) = arg17 m c (ix2 R n) := by
  simp only [V, hostOps0, hostOps0_1, hostOps0_2, hostOps0_3, hostOps0_4,
    List.flatten_cons, List.flatten_nil, List.append_nil, List.cons_append, List.nil_append]
  entry_read
  pointwise

theorem V27 (n : Fin 4) (j : Fin 256) (k : Fin 1024) : (V m c main_v27 : FVec Ideal S4x256x1024 .bf16) (ix3 n j k) = arg18 m c (ix3 n j k) := by
  simp only [V, hostOps0, hostOps0_1, hostOps0_2, hostOps0_3, hostOps0_4,
    List.flatten_cons, List.flatten_nil, List.append_nil, List.cons_append, List.nil_append]
  entry_read
  pointwise

theorem V28 (j k : Fin 1024) : (V m c main_v28 : FVec Ideal S1024x1024 .bf16) (ix2 j k) = arg19 m c (ix2 j k) := by
  simp only [V, hostOps0, hostOps0_1, hostOps0_2, hostOps0_3, hostOps0_4,
    List.flatten_cons, List.flatten_nil, List.append_nil, List.cons_append, List.nil_append]
  entry_read
  pointwise

variable (t : Fin cfg0.N)

/-- The row of the whole a row of the point's blocks is. -/
abbrev at' (r : Fin 256) : Fin 16640 := ⟨256 * t.val + r.val, by have := lt_of_lt_of_eq t.isLt N_0; omega⟩

theorem blk0 (r : Fin 256) (k : Fin 1024) : iblk m c 0 t (ix2 r k) = Cert.Reference4Ideal.Mrg.row (arg0 m c) (arg1 m c) (at' t r) k := by
  rw [← V2]
  blk_ext [iblk, idx t]

theorem blk1 (d : Fin 6) (k : Fin 1024) :
    iblk m c 1 t (ix3 0 ⟨d.val, by omega⟩ k) = arg2 m c (ix2 ⟨min t.val 1, by omega⟩ ⟨d.val * 1024 + k.val, by omega⟩) := by
  rw [← V4]
  blk_ext [iblk, idx t]

theorem blk2 (r j : Fin 256) : iblk m c 2 t (ix2 r j) = arg3 m c (ix2 (at' t r) j) := by
  rw [arg3, ← V_main_arg3 m c]
  blk_ext [iblk, idx t]

theorem blk3 (r j : Fin 256) : iblk m c 3 t (ix2 r j) = arg4 m c (ix2 (at' t r) j) := by
  rw [arg4, ← V_main_arg4 m c]
  blk_ext [iblk, idx t]

theorem blk4 (r j : Fin 256) : iblk m c 4 t (ix2 r j) = arg5 m c (ix2 (at' t r) j) := by
  rw [arg5, ← V_main_arg5 m c]
  blk_ext [iblk, idx t]

theorem blk7 (r j : Fin 256) : iblk m c 7 t (ix2 r j) = arg8 m c (ix2 (at' t r) j) := by
  rw [arg8, ← V_main_arg8 m c]
  blk_ext [iblk, idx t]

theorem blk8 (r j : Fin 256) : iblk m c 8 t (ix2 r j) = arg9 m c (ix2 (at' t r) j) := by
  rw [arg9, ← V_main_arg9 m c]
  blk_ext [iblk, idx t]

theorem blk9 (r j : Fin 256) : iblk m c 9 t (ix2 r j) = arg10 m c (ix2 (at' t r) j) := by
  rw [arg10, ← V_main_arg10 m c]
  blk_ext [iblk, idx t]

theorem blk10 (r j : Fin 256) : iblk m c 10 t (ix2 r j) = arg11 m c (ix2 (at' t r) j) := by
  rw [arg11, ← V_main_arg11 m c]
  blk_ext [iblk, idx t]

theorem blk12 (r j : Fin 256) : iblk m c 12 t (ix2 r j) = arg13 m c (ix2 (at' t r) j) := by
  rw [arg13, ← V_main_arg13 m c]
  blk_ext [iblk, idx t]

theorem blk13 (r j : Fin 256) : iblk m c 13 t (ix2 r j) = arg14 m c (ix2 (at' t r) j) := by
  rw [arg14, ← V_main_arg14 m c]
  blk_ext [iblk, idx t]

theorem blk14 (r j : Fin 256) : iblk m c 14 t (ix2 r j) = arg15 m c (ix2 (at' t r) j) := by
  rw [arg15, ← V_main_arg15 m c]
  blk_ext [iblk, idx t]

theorem blk5 (k : Fin 256) : iblk m c 5 t (ix2 0 k) = arg6 m c (ix1 k) := by
  rw [← V5]
  blk_ext [iblk, idx t]

theorem blk6 (k j : Fin 256) : iblk m c 6 t (ix2 k j) = arg7 m c (ix2 k j) := by
  rw [← V6]
  blk_ext [iblk, idx t]

theorem blk11 (j : Fin 256) : iblk m c 11 t (ix2 0 j) = arg12 m c (ix1 ⟨j.val % 64, by omega⟩) := by
  rw [← V10]
  blk_ext [iblk, idx t]

theorem blk15 (j : Fin 256) : iblk m c 15 t (ix2 0 j) = arg16 m c (ix1 ⟨j.val % 64, by omega⟩) := by
  rw [← V14]
  blk_ext [iblk, idx t]

theorem blk16 (k j : Fin 256) : iblk m c 16 t (ix2 k j) = meanMat k j := by
  rw [← V25 m c]
  blk_ext [iblk, idx t]

theorem blk17 (r : Fin 256) (n : Fin 4096) : iblk m c 17 t (ix2 r n) = arg17 m c (ix2 (at' t r) n) := by
  rw [← V26]
  blk_ext [iblk, idx t]

theorem blk18 (n : Fin 4) (j : Fin 256) (k : Fin 1024) : iblk m c 18 t (ix3 n j k) = arg18 m c (ix3 n j k) := by
  rw [← V27]
  blk_ext [iblk, idx t]

theorem blk19 (j k : Fin 1024) : iblk m c 19 t (ix2 j k) = arg19 m c (ix2 j k) := by
  rw [← V28]
  blk_ext [iblk, idx t]

theorem side_at (r : Fin 256) : Cert.Reference4Ideal.Mrg.side (at' t r) = ⟨min t.val 1, by omega⟩ := by
  unfold Cert.Reference4Ideal.Mrg.side
  by_cases h : t.val = 0
  · rw [if_pos (by show 256 * t.val + r.val < 256; omega)]
    exact Fin.ext (by show 0 = min t.val 1; omega)
  · rw [if_neg (by show ¬ 256 * t.val + r.val < 256; omega)]
    exact Fin.ext (by show 1 = min t.val 1; omega)

end Cert.Kernel4Ideal.Mrg
end
-- ==== Proof.MergePoint.lean ====
module

public import proofs.«01_k».proof.Proof.Gen.Kernel4Ideal.Value
public import proofs.«01_k».proof.Proof.MergeHost
public import Idealize.ShloMosaic.Lib.Pipeline.ValueKit
public import Idealize.ShloMosaic.Lib.Pointwise

/-! The merge: what one grid point leaves in its output block, and the result array after the run. -/

@[expose] public section

set_option maxRecDepth 16384

noncomputable section
open Idealize.ShloMosaic Idealize.ShloMosaic.TcCoe Idealize.SL.Sem
open Idealize.ShloMosaic.Pipeline (Dat)

namespace Cert.Kernel4Ideal.Mrg
open Cert.Kernel4Ideal Cert.Kernel4Ideal.Gen Cert.Ffn Cert.Merge

variable (m : (ℓ : Loc nD τ sig) → Buf (Elt Ideal) ℓ) (c : Dev nD)

theorem gate0 (X : FVec Ideal S256x4096 .bf16) (r : Fin 256) (k : Fin 1024) :
    View.ld (Val := Elt Ideal) (e' := .bf16) X r0_2 (ix2 r k) = X (ix2 r ⟨(0 : Fin 4).val * 1024 + k.val, by omega⟩) :=
  View.ld_unit_apply_of _ _ _ _ _ _ (by intro a; fin_cases a <;> simp [ix2, Nat.add_comm])

theorem proj0 (X : FVec Ideal S4x256x1024 .bf16) (j : Fin 256) (k : Fin 1024) :
    View.ld (Val := Elt Ideal) (e' := .bf16) X r0_3 (ix3 0 j k) = X (ix3 0 j k) :=
  View.ld_unit_apply_of _ _ _ _ _ _ (by intro a; fin_cases a <;> simp [ix3])

theorem gate1 (X : FVec Ideal S256x4096 .bf16) (r : Fin 256) (k : Fin 1024) :
    View.ld (Val := Elt Ideal) (e' := .bf16) X r0_4 (ix2 r k) = X (ix2 r ⟨(1 : Fin 4).val * 1024 + k.val, by omega⟩) :=
  View.ld_unit_apply_of _ _ _ _ _ _ (by intro a; fin_cases a <;> simp [ix2, Nat.add_comm])

theorem proj1 (X : FVec Ideal S4x256x1024 .bf16) (j : Fin 256) (k : Fin 1024) :
    View.ld (Val := Elt Ideal) (e' := .bf16) X r0_5 (ix3 0 j k) = X (ix3 1 j k) :=
  View.ld_unit_apply_of _ _ _ _ _ _ (by intro a; fin_cases a <;> simp [ix3])

theorem gate2 (X : FVec Ideal S256x4096 .bf16) (r : Fin 256) (k : Fin 1024) :
    View.ld (Val := Elt Ideal) (e' := .bf16) X r0_6 (ix2 r k) = X (ix2 r ⟨(2 : Fin 4).val * 1024 + k.val, by omega⟩) :=
  View.ld_unit_apply_of _ _ _ _ _ _ (by intro a; fin_cases a <;> simp [ix2, Nat.add_comm])

theorem proj2 (X : FVec Ideal S4x256x1024 .bf16) (j : Fin 256) (k : Fin 1024) :
    View.ld (Val := Elt Ideal) (e' := .bf16) X r0_7 (ix3 0 j k) = X (ix3 2 j k) :=
  View.ld_unit_apply_of _ _ _ _ _ _ (by intro a; fin_cases a <;> simp [ix3])

theorem gate3 (X : FVec Ideal S256x4096 .bf16) (r : Fin 256) (k : Fin 1024) :
    View.ld (Val := Elt Ideal) (e' := .bf16) X r0_8 (ix2 r k) = X (ix2 r ⟨(3 : Fin 4).val * 1024 + k.val, by omega⟩) :=
  View.ld_unit_apply_of _ _ _ _ _ _ (by intro a; fin_cases a <;> simp [ix2, Nat.add_comm])

theorem proj3 (X : FVec Ideal S4x256x1024 .bf16) (j : Fin 256) (k : Fin 1024) :
    View.ld (Val := Elt Ideal) (e' := .bf16) X r0_9 (ix3 0 j k) = X (ix3 3 j k) :=
  View.ld_unit_apply_of _ _ _ _ _ _ (by intro a; fin_cases a <;> simp [ix3])

theorem mod_at (X : FVec Ideal S1x8x1024 .f32) (k : Fin 1024) : View.ld (Val := Elt Ideal) (e' := .f32) X r0_11 (ix3 0 0 k) = X (ix3 0 2 k) :=
  View.ld_unit_apply_of _ _ _ _ _ _ (by intro a; fin_cases a <;> simp [ix3])

theorem gated_congr {g g' : EReal} {y y' w w' : Fin 256 → EReal} (hg : g = g') (hy : y = y') (hw : w = w') : gated g y w = gated g' y' w' := by
  rw [hg, hy, hw]

variable (t : Fin cfg0.N)

/-- Every number the group means are taken of is finite. -/
def Fin4 : Prop := (∀ i, ∃ a : ℝ, arg11 m c i = (a : EReal)) ∧ (∀ i, ∃ a : ℝ, arg13 m c i = (a : EReal)) ∧ ∀ i, ∃ a : ℝ, arg14 m c i = (a : EReal)

/-- One grid point leaves its 256 rows of the result. -/
theorem point (hf : Fin4 m c) (r : Fin 256) (k : Fin 1024) : (dats m 0 c).after 20 t (ix2 r k) = Cert.Reference4Ideal.Mrg.out (arg0 m c) (arg1 m c) (arg2 m c) (arg3 m c) (arg4 m c)
    (arg5 m c) (arg6 m c) (arg7 m c) (arg8 m c) (arg9 m c) (arg10 m c) (arg11 m c) (arg12 m c) (arg13 m c) (arg14 m c) (arg15 m c) (arg16 m c) (arg17 m c)
    (arg18 m c) (arg19 m c) (at' t r) k := by
  rw [after0_20]
  frame_out
  obtain ⟨h11, h13, h14⟩ := hf
  choose a11 h11 using h11
  choose a13 h13 using h13
  choose a14 h14 using h14
  have hc (j : Fin 256) := c_at (iblk m c 10 t) (iblk m c 16 t) (iblk m c 11 t) (fun e => arg12 m c (ix1 e)) r j (blk16 m c t) (blk11 m c t)
    (fun k => a11 (ix2 (at' t r) k)) fun k => (blk10 m c t r k).trans (h11 _)
  have hd (j : Fin 256) := d_at (iblk m c 12 t) (iblk m c 13 t) (iblk m c 16 t) (iblk m c 14 t) (iblk m c 15 t) (fun e => arg16 m c (ix1 e)) r j
    (blk16 m c t) (blk15 m c t) (fun k => a13 (ix2 (at' t r) k) + a14 (ix2 (at' t r) k))
    fun k => (congrArg₂ (fun a b : EReal => a + b) ((blk12 m c t r k).trans (h13 _)) ((blk13 m c t r k).trans (h14 _))).trans (EReal.coe_add _ _).symm
  refine (out_at ..).trans ?_
  rw [Cert.Reference4Ideal.Mrg.out, side_at, blk0, mod_at]
  refine congrArg₂ (fun d s : EReal => _ + d * s) (blk1 m c t 2 k) (Finset.sum_congr rfl fun k' _ => ?_)
  refine congrArg₂ (fun a b : EReal => a * b) ?_ (blk19 m c t k' k)
  rw [ab_at]
  simp only [hc, hd, z_at, b_at, blk2, blk3, blk4, blk5, blk6, blk7, blk8, blk9, blk10, blk12, blk13, blk14]
  have e0 := (gate0 (iblk m c 17 t) r k').trans (blk17 m c t r _)
  have e1 := (gate1 (iblk m c 17 t) r k').trans (blk17 m c t r _)
  have e2 := (gate2 (iblk m c 17 t) r k').trans (blk17 m c t r _)
  have e3 := (gate3 (iblk m c 17 t) r k').trans (blk17 m c t r _)
  have w0 := funext fun j => (proj0 (iblk m c 18 t) j k').trans (blk18 m c t 0 j k')
  have w1 := funext fun j => (proj1 (iblk m c 18 t) j k').trans (blk18 m c t 1 j k')
  have w2 := funext fun j => (proj2 (iblk m c 18 t) j k').trans (blk18 m c t 2 j k')
  have w3 := funext fun j => (proj3 (iblk m c 18 t) j k').trans (blk18 m c t 3 j k')
  rw [Cert.Reference4Ideal.Mrg.acc]
  exact congrArg₂ (fun a b : EReal => a + b) (congrArg₂ (fun a b : EReal => a + b) (congrArg₂ (fun a b : EReal => a + b)
    (gated_congr e0 rfl w0) (gated_congr e1 rfl w1)) (gated_congr e2 rfl w2)) (gated_congr e3 rfl w3)

/-- The whole result array after the run. -/
theorem final (hf : Fin4 m c) : (dats m 0 c).arrAt 20 cfg0.N = (fun y => Cert.Reference4Ideal.Mrg.out (arg0 m c) (arg1 m c) (arg2 m c) (arg3 m c) (arg4 m c)
    (arg5 m c) (arg6 m c) (arg7 m c) (arg8 m c) (arg9 m c) (arg10 m c) (arg11 m c) (arg12 m c) (arg13 m c) (arg14 m c) (arg15 m c) (arg16 m c) (arg17 m c)
    (arg18 m c) (arg19 m c) (y 0) (y 1) : FVec Ideal S16640x1024 .f32) := by
  refine (dats m 0 c).arrAt_eq_of_covers 20 _ (by decide +kernel) fun t _ y => ?_
  blk_simp
  idx_vars y
  rw [point m c t hf]
  refine congrArg₂ (Cert.Reference4Ideal.Mrg.out _ _ _ _ _ _ _ _ _ _ _ _ _ _ _ _ _ _ _ _) (Fin.ext ?_) (Fin.ext ?_)
  · blk_simp [idx t]
    show 256 * t.val + y0.val = t.val * 256 + y0.val
    omega
  · blk_simp [idx t]

end Cert.Kernel4Ideal.Mrg
end
-- ==== Proof.MergePre.lean ====
module

public import proofs.«01_k».proof.Pre_finite4
public import proofs.«01_k».proof.Proof.Gen.Pre_finite4
public import Idealize.ShloMosaic.Lib.ReduceAll
public import Idealize.ShloMosaic.Lib.Pointwise

/-! The precondition `finite4`, read back: every entry of the three arrays it names is a real number. -/

@[expose] public section

set_option maxRecDepth 16384

noncomputable section
open Idealize.ShloMosaic

namespace Cert.Merge
open Cert.Pre_finite4 Cert.Pre_finite4.Gen

instance : Subsingleton Cert.Pre_finite4.S_.Idx := ⟨fun a b => funext fun i => i.elim0⟩

theorem pos_inf : Ideal.ofBits .f32 0x7F800000#32 = (⊤ : EReal) := by simp [Ideal.ofBits, Ideal.ieee]

theorem real_of_all (x : FVec Ideal S16640x256 .f32) (b : S_.BroadcastsInDim S16640x256 (![] : Fin 0 → Fin S16640x256.rank))
    (hr : S16640x256.ReducesTo [0, 1] S_) (h0 : 0 < S_.numel) (j : S_.Idx)
    (h : Host.reduce IntOp.andi (cmpf .olt (Host.absf x) (broadcastInDim S16640x256 ![] b (constant S_ .f32 0x7F800000#32)))
      (constantI S_ 1 1#1) hr h0 j = 1#1) (y : S16640x256.Idx) : ∃ r : ℝ, x y = ((r : ℝ) : EReal) := by
  have e := Host.reduce_andi_all _ _ hr h0 j h y
  pointwise at e
  rw [pos_inf] at e
  have e' : max (x y : EReal) (-(x y)) < ⊤ := by
    by_contra hn
    rw [show decide (FloatOps.absf (x y) < (⊤ : EReal)) = false from decide_eq_false hn] at e
    exact absurd e (by decide)
  exact ⟨_, (EReal.coe_toReal (fun q => by rw [q] at e'; simp at e') (fun q => by rw [q] at e'; simp at e')).symm⟩

theorem reals (x0 : FVec Ideal S1x16384x1024 .f32) (x1 : FVec Ideal S1x256x1024 .f32) (x2 : FVec Ideal S2x6144 .f32) (x3 x4 x5 : FVec Ideal S16640x256 .f32)
    (x6 : FVec Ideal S256 .f32) (x7 : FVec Ideal S256x256 .f32) (x8 x9 x10 x11 : FVec Ideal S16640x256 .f32) (x12 : FVec Ideal S64 .f32)
    (x13 x14 x15 : FVec Ideal S16640x256 .f32) (x16 : FVec Ideal S64 .f32) (x17 : FVec Ideal S16640x4096 .f32) (x18 : FVec Ideal S4x256x1024 .f32)
    (x19 : FVec Ideal S1024x1024 .f32) (h : fn (F := Ideal) x0 x1 x2 x3 x4 x5 x6 x7 x8 x9 x10 x11 x12 x13 x14 x15 x16 x17 x18 x19 = fun _ => 1#1) :
    (∀ y, ∃ r : ℝ, x11 y = ((r : ℝ) : EReal)) ∧ (∀ y, ∃ r : ℝ, x13 y = ((r : ℝ) : EReal)) ∧ ∀ y, ∃ r : ℝ, x14 y = ((r : ℝ) : EReal) := by
  obtain ⟨h1, hb⟩ := IntOp.andi_eq_one.1 (congrFun h ix0)
  obtain ⟨ha, hf⟩ := IntOp.andi_eq_one.1 h1
  exact ⟨real_of_all x11 _ _ _ _ ha, real_of_all x13 _ _ _ _ hf, real_of_all x14 _ _ _ _ hb⟩

end Cert.Merge
end
-- ==== Proof.AdaRef.lean ====
module

public import proofs.«01_k».proof.Proof.Gen.Reference5Ideal.Read
public import proofs.«01_k».proof.Proof.Gen.Reference5Ideal.Run
public import Idealize.ShloMosaic.Lib.Pipeline.ValueKit
public import Idealize.ShloMosaic.Lib.Pointwise

/-! The modulation as a formula over the extended reals, and the reference read as that formula. -/

@[expose] public section

set_option maxRecDepth 16384

noncomputable section
open Idealize.ShloMosaic Idealize.ShloMosaic.TcCoe Idealize.SL.Sem

namespace Cert.Reference5Ideal.Ada
open Cert.Reference5Ideal Cert.Reference5Ideal.Read

variable (x0 : FVec Ideal S1x1024 .f32) (x1 : FVec Ideal S1024 .f32) (x2 : FVec Ideal S2x1024x6144 .f32) (x3 : FVec Ideal S2x6144 .f32)

/-- The conditions, one a row: the context's, the latents', and six of zeros. -/
def rows (r : Fin 8) (k : Fin 1024) : EReal := if r.val = 0 then x1 (ix1 k) else if r.val = 1 then x0 (ix2 0 k) else 0

/-- The SiLU. -/
def silu (z : EReal) : EReal := z * Ideal.logistic z

/-- The modulation of layer `l` for the condition in row `r`. -/
def out (l : Fin 2) (r : Fin 8) (n : Fin 6144) : EReal := (∑ k, silu (rows x0 x1 r k) * x2 (ix3 l k n)) + x3 (ix2 l n)

theorem v2_at (r : Fin 8) (k : Fin 1024) : val_main_v2 (F := Ideal) x0 x1 (ix2 r k) = rows x0 x1 r k := by
  pointwise [val_main_v0, val_main_cst, val_main_v1, val_main_v2]
  split
  · rw [rows, if_pos (by omega)]
  · refine (dite_congr (u := fun _ => x0 (ix2 0 k)) (v := fun _ => (0 : EReal)) rfl
      (fun _ => congrArg (fun a => x0 (ix2 a k)) (Subsingleton.elim _ _)) fun _ => rfl).trans ?_
    rw [rows, if_neg (by omega : ¬ r.val = 0)]
    by_cases h : r.val = 1
    · rw [dif_pos (by omega : r.val - 1 < 1), if_pos h]
    · rw [dif_neg (by omega : ¬ r.val - 1 < 1), if_neg h]

theorem v3_at (r : Fin 8) (k : Fin 1024) : val_main_v3 (F := Ideal) x0 x1 (ix2 r k) = silu (rows x0 x1 r k) := by
  pointwise [val_main_call0_v0, val_main_call0_v1, val_main_call0_cst, val_main_call0_v2, val_main_call0_v3, val_main_call0_cst_0, val_main_call0_v4,
    val_main_call0_v5, val_main_v3]
  rw [v2_at]
  rfl

theorem v12_at (r : Fin 8) (k : Fin 1024) : val_main_v12 (F := Ideal) x0 x1 (ix2 r k) = silu (rows x0 x1 r k) := by
  pointwise [val_main_call1_v0, val_main_call1_v1, val_main_call1_cst, val_main_call1_v2, val_main_call1_v3, val_main_call1_cst_0, val_main_call1_v4,
    val_main_call1_v5, val_main_v12]
  rw [v2_at]
  rfl

theorem v11_at (r : Fin 8) (n : Fin 6144) : val_main_v11 (F := Ideal) x0 x1 x2 x3 (ix2 r n) = out x0 x1 x2 x3 0 r n := by
  pointwise [val_main_v4, val_main_v5, val_main_v6, val_main_v7, val_main_v8, val_main_v9, val_main_v10, val_main_v11]
  simp only [v3_at]
  rfl

theorem v20_at (r : Fin 8) (n : Fin 6144) : val_main_v20 (F := Ideal) x0 x1 x2 x3 (ix2 r n) = out x0 x1 x2 x3 1 r n := by
  pointwise [val_main_v13, val_main_v14, val_main_v15, val_main_v16, val_main_v17, val_main_v18, val_main_v19, val_main_v20]
  simp only [v12_at]
  rfl

theorem v23_at (l : Fin 2) (r : Fin 8) (n : Fin 6144) : val_main_v23 (F := Ideal) x0 x1 x2 x3 (ix3 l r n) = out x0 x1 x2 x3 l r n := by
  pointwise [val_main_v21, val_main_v22, val_main_v23]
  fin_cases l
  · simp [v11_at]
  · simp [v20_at]

end Cert.Reference5Ideal.Ada
end
-- ==== Proof.AdaHost.lean ====
module

public import proofs.«01_k».proof.Proof.Gen.Kernel5Ideal.Value
public import proofs.«01_k».proof.Proof.AdaRef
public import Idealize.ShloMosaic.Lib.Routing.OpsSet
public import Idealize.ShloMosaic.Lib.Pipeline.ValueKit
public import Idealize.ShloMosaic.Lib.Pointwise

/-! The modulation: the conditions' rows as the host code sets them, and each grid point's blocks. -/

@[expose] public section

set_option maxRecDepth 16384

noncomputable section
open Idealize.ShloMosaic Idealize.ShloMosaic.TcCoe Idealize.SL.Sem
open Idealize.ShloMosaic.Pipeline (Dat)

namespace Cert.Kernel5Ideal.Ada
open Cert.Kernel5Ideal Cert.Kernel5Ideal.Gen Cert.Reference5Ideal.Ada

variable (m : (ℓ : Loc nD τ sig) → Buf (Elt Ideal) ℓ) (c : Dev nD)

/-- The record of `x.at[r].set(v)` on the eight rows. -/
abbrev rowDims := scatter_S8x1024_S1_S1024_0_0_0_0

/-- Entry `j` of the new row lands in column `j` of the row the index names, and nowhere else. -/
theorem lands (i : IVec S1 32) (q : Fin 8) (hi : (i (ix1 0)).toInt = (q.val : Int)) (j : S1024.Idx) (r : Fin 8) (k : Fin 1024) :
    rowDims.resultIdx? j i = some (ix2 r k) ↔ q = r ∧ (j 0).val = k.val := by
  have s0 : rowDims.start j i 0 = (q.val : Int) := by
    rw [← hi]
    unfold ScatterDims.start
    rw [dif_pos (by decide)]
    refine congrArg (fun z => (i z).toInt) (funext fun b => ?_)
    fin_cases b
    exact Subsingleton.elim (α := Fin 1) _ _
  have s1 : rowDims.start j i 1 = 0 := by
    unfold ScatterDims.start
    rw [dif_neg (by decide)]
  have w0 : rowDims.window j 0 = 0 := by
    unfold ScatterDims.window
    rw [dif_neg (by decide)]
  have w1 : rowDims.window j 1 = (j 0).val := by
    unfold ScatterDims.window
    rw [dif_pos (by decide)]
    rfl
  rw [Routing.resultIdx?_eq_some, Fin.ext_iff]
  constructor
  · intro h
    have h0 : rowDims.start j i 0 + (rowDims.window j 0 : Int) = (r.val : Int) := h 0
    have h1 : rowDims.start j i 1 + (rowDims.window j 1 : Int) = (k.val : Int) := h 1
    rw [s0, w0] at h0
    rw [s1, w1] at h1
    omega
  · rintro ⟨h0, h1⟩ a
    fin_cases a
    · show rowDims.start j i 0 + (rowDims.window j 0 : Int) = (r.val : Int)
      rw [s0, w0]
      omega
    · show rowDims.start j i 1 + (rowDims.window j 1 : Int) = (k.val : Int)
      rw [s1, w1]
      omega

/-- `x.at[q].set(v)`: row `q` is `v`, the other rows are as before. -/
theorem set_row (X : FVec Ideal S8x1024 .f32) (i : IVec S1 32) (v : FVec Ideal S1024 .f32) (q : Fin 8) (hi : (i (ix1 0)).toInt = (q.val : Int))
    (r : Fin 8) (k : Fin 1024) : Host.scatter rowDims (fun _ b => b) X i v (ix2 r k) = if q = r then v (ix1 k) else X (ix2 r k) := by
  by_cases h : q = r
  · rw [if_pos h]
    refine Routing.scatter_set_hit rowDims X i v _ _ (fun j hj => congrArg v ?_) (ix1 k) ((lands i q hi _ r k).2 ⟨h, rfl⟩)
    funext b
    fin_cases b
    exact Fin.ext ((lands i q hi j r k).1 hj).2
  · rw [if_neg h]
    exact Routing.scatter_set_miss rowDims X i v _ fun j hj => h ((lands i q hi j r k).1 hj).1

theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

abbrev arg0 : FVec Ideal S1x1024 .f32 := m ((c.tc : Thread nD τ).loc main_arg0)
abbrev arg1 : FVec Ideal S1024 .f32 := m ((c.tc : Thread nD τ).loc main_arg1)
abbrev arg2 : FVec Ideal S2x1024x6144 .f32 := m ((c.tc : Thread nD τ).loc main_arg2)
abbrev arg3 : FVec Ideal S2x6144 .f32 := m ((c.tc : Thread nD τ).loc main_arg3)

theorem row_at (X : FVec Ideal S1x1024 .f32) (k : Fin 1024) : shapeCast S1024 X shapeCasts_S1x1024_S1024 (ix1 k) = X (ix2 0 k) := by
  pointwise

theorem V5 (r : Fin 8) (k : Fin 1024) : (V m c main_v5 : FVec Ideal S8x1024 .f32) (ix2 r k) = rows (arg0 m c) (arg1 m c) r k := by
  simp only [V, hostOps0, List.flatten_cons, List.flatten_nil, List.append_nil, List.cons_append, List.nil_append]
  entry_read
  refine (set_row _ _ _ 1 (by rfl) r k).trans ?_
  rw [rows]
  by_cases h1 : (1 : Fin 8) = r
  · subst h1
    rw [if_pos rfl, if_neg (by decide), if_pos (by decide)]
    exact row_at (arg0 m c) k
  · rw [if_neg h1]
    refine (set_row _ _ (arg1 m c) 0 (by rfl) r k).trans ?_
    have e1 : ¬ r.val = 1 := fun h => h1 (Fin.ext h.symm)
    rw [if_neg e1]
    refine if_congr ⟨fun h => by rw [← h]; rfl, fun h => Fin.ext h.symm⟩ rfl ?_
    pointwise

theorem V6 (l : Fin 2) (n : Fin 6144) : (V m c main_v6 : FVec Ideal S2x1x6144 .f32) (ix3 l 0 n) = arg3 m c (ix2 l n) := by
  simp only [V, hostOps0, List.flatten_cons, List.flatten_nil, List.append_nil, List.cons_append, List.nil_append]
  entry_read
  pointwise

variable (t : Fin cfg0.N)

/-- The layer of a grid point, and the column of the result that its column `n` is. -/
def layer : Fin 2 := ⟨t.val / 4, by have := lt_of_lt_of_eq t.isLt N_0; omega⟩
def col (n : Fin 1536) : Fin 6144 := ⟨1536 * (t.val % 4) + n.val, by omega⟩

theorem blk0 (r : Fin 8) (k : Fin 1024) : iblk m c 0 t (ix2 r k) = rows (arg0 m c) (arg1 m c) r k := by
  rw [← V5]
  blk_ext [iblk, idx t]

theorem blk1 (k : Fin 1024) (n : Fin 1536) : iblk m c 1 t (ix3 0 k n) = arg2 m c (ix3 (layer t) k (col t n)) := by
  rw [arg2, ← V_main_arg2 m c]
  blk_ext [iblk, idx t, layer, col]

theorem blk2 (n : Fin 1536) : iblk m c 2 t (ix3 0 0 n) = arg3 m c (ix2 (layer t) (col t n)) := by
  rw [← V6]
  blk_ext [iblk, idx t, layer, col]

end Cert.Kernel5Ideal.Ada
end
-- ==== Proof.AdaPoint.lean ====
module

public import proofs.«01_k».proof.Proof.AdaHost

/-! The modulation: what one grid point leaves in its output block, and the result array after the run. -/

@[expose] public section

set_option maxRecDepth 16384

noncomputable section
open Idealize.ShloMosaic Idealize.ShloMosaic.TcCoe Idealize.SL.Sem
open Idealize.ShloMosaic.Pipeline (Dat)

namespace Cert.Kernel5Ideal.Ada
open Cert.Kernel5Ideal Cert.Kernel5Ideal.Gen Cert.Reference5Ideal.Ada

variable (m : (ℓ : Loc nD τ sig) → Buf (Elt Ideal) ℓ) (c : Dev nD)

theorem pay_at (C : FVec Ideal S8x1024 .f32) (W : FVec Ideal S1x1024x1536 .f32) (B : FVec Ideal S1x1x1536 .f32) (r : Fin 8) (n : Fin 1536) :
    k0_pay1 (F := Ideal) C W B (ix3 0 r n) = (∑ k, silu (C (ix2 r k)) * (W (ix3 0 k n) : EReal)) + (B (ix3 0 0 n) : EReal) := by
  pointwise [k0_pay1]
  rfl

/-- One grid point leaves 1536 columns of a layer's modulation, for every condition. -/
theorem point (t : Fin cfg0.N) (r : Fin 8) (n : Fin 1536) : (dats m 0 c).after 3 t (ix3 0 r n)
    = out (arg0 m c) (arg1 m c) (arg2 m c) (arg3 m c) (layer t) r (col t n) := by
  rw [after0_3]
  frame_out
  refine (pay_at ..).trans ?_
  simp only [blk0, blk1, blk2]
  rfl

/-- The whole result array after the run. -/
theorem final : (dats m 0 c).arrAt 3 cfg0.N = (fun y => out (arg0 m c) (arg1 m c) (arg2 m c) (arg3 m c) (y 0) (y 1) (y 2) : FVec Ideal S2x8x6144 .f32) := by
  refine (dats m 0 c).arrAt_eq_of_covers 3 _ (by decide +kernel) fun t _ y => ?_
  blk_simp
  idx_vars y
  have e : y0 = 0 := Subsingleton.elim _ _
  subst e
  rw [point m c t]
  have e0 : layer t = ((View.whole main_v7).slice (win0_3.rect t)).emb (ix3 0 y1 y2) 0 := Fin.ext (by
    blk_simp [idx t, layer]
    exact (Nat.add_zero _).symm)
  have e1 : y1 = ((View.whole main_v7).slice (win0_3.rect t)).emb (ix3 0 y1 y2) 1 := Fin.ext (by blk_simp [idx t])
  have e2 : col t y2 = ((View.whole main_v7).slice (win0_3.rect t)).emb (ix3 0 y1 y2) 2 := Fin.ext (by
    blk_simp [idx t, col]
    show 1536 * (t.val % 4) + y2.val = t.val % 4 * 1536 + y2.val
    omega)
  exact congr (congrArg₂ (out _ _ _ _) e0 e1) e2

end Cert.Kernel5Ideal.Ada
end
-- ==== Proof.lean ====
/- The claims about the five calls — attention, ConvFFN, input projection, merge, modulation — assembled from their runs. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite
public import proofs.«01_k».proof.Proof.Gen.Pre_finite4
public import proofs.«01_k».proof.Proof.FfnPoint
public import proofs.«01_k».proof.Proof.AttMath
public import proofs.«01_k».proof.Proof.AttPre
public import proofs.«01_k».proof.Proof.InpSame
public import proofs.«01_k».proof.Proof.MergePoint
public import proofs.«01_k».proof.Proof.MergePre
public import proofs.«01_k».proof.Proof.AdaPoint
public import Idealize.ShloMosaic.Adequacy
public import Idealize.ShloMosaic.Init

@[expose] public section

set_option maxRecDepth 16384

noncomputable section

namespace Cert.Proof

open Idealize.ShloMosaic Idealize.SL.Sem

theorem frame_attention : Cert.quiescent_Kernel := by
  intro m g _
  exact Cert.Kernel.Gen.frame m g

theorem frame_attentionIdeal : Cert.quiescent_KernelIdeal := by
  intro m g _
  exact Cert.KernelIdeal.Gen.frame m g

theorem frame_attentionIdeal_pre : Cert.quiescent_KernelIdeal_pre_finite := by
  intro m g _
  exact Cert.KernelIdeal.Gen.frame m g

theorem frame_attentionRef : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

theorem frame_attentionRef_pre : Cert.quiescent_ReferenceIdeal_pre_finite := by
  intro m g _
  exact (θ_run Cert.ReferenceIdeal.defs _ _).mono (fun r h => ⟨fun c => (h c).2, sem_eq_zero_of_no_sems (by decide) r.2⟩)
    (Cert.ReferenceIdeal.Value.run m g)

theorem frame_ffn : Cert.quiescent_Kernel2 := by
  intro m g _
  exact Cert.Kernel2.Gen.frame m g

theorem frame_ffnIdeal : Cert.quiescent_Kernel2Ideal := by
  intro m g _
  exact Cert.Kernel2Ideal.Gen.frame m g

theorem frame_ffnRef : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

theorem frame_inproj : Cert.quiescent_Kernel3 := by
  intro m g _
  exact Cert.Kernel3.Gen.frame m g

theorem frame_inprojIdeal : Cert.quiescent_Kernel3Ideal := by
  intro m g _
  exact Cert.Kernel3Ideal.Gen.frame m g

theorem frame_inprojRef : Cert.quiescent_Reference3Ideal := by
  intro m g _
  exact (θ_run Cert.Reference3Ideal.defs _ _).mono (fun r h => ⟨fun c => (h c).2.2.2.2.2.2.2.2.2, sem_eq_zero_of_no_sems (by decide) r.2⟩)
    (Cert.Reference3Ideal.Value.run m g)

theorem frame_merge : Cert.quiescent_Kernel4 := by
  intro m g _
  exact Cert.Kernel4.Gen.frame m g

theorem frame_mergeIdeal : Cert.quiescent_Kernel4Ideal := by
  intro m g _
  exact Cert.Kernel4Ideal.Gen.frame m g

theorem frame_mergeIdeal_pre : Cert.quiescent_Kernel4Ideal_pre_finite4 := by
  intro m g _
  exact Cert.Kernel4Ideal.Gen.frame m g

theorem frame_mergeRef : Cert.quiescent_Reference4Ideal := by
  intro m g _
  exact (θ_run Cert.Reference4Ideal.defs _ _).mono (fun r h => ⟨fun c => (h c).2, sem_eq_zero_of_no_sems (by decide) r.2⟩)
    (Cert.Reference4Ideal.Value.run m g)

theorem frame_mergeRef_pre : Cert.quiescent_Reference4Ideal_pre_finite4 := by
  intro m g _
  exact (θ_run Cert.Reference4Ideal.defs _ _).mono (fun r h => ⟨fun c => (h c).2, sem_eq_zero_of_no_sems (by decide) r.2⟩)
    (Cert.Reference4Ideal.Value.run m g)

theorem frame_ada : Cert.quiescent_Kernel5 := by
  intro m g _
  exact Cert.Kernel5.Gen.frame m g

theorem frame_adaIdeal : Cert.quiescent_Kernel5Ideal := by
  intro m g _
  exact Cert.Kernel5Ideal.Gen.frame m g

theorem frame_adaRef : Cert.quiescent_Reference5Ideal := by
  intro m g _
  exact (θ_run Cert.Reference5Ideal.defs _ _).mono (fun r h => ⟨fun c => (h c).2, sem_eq_zero_of_no_sems (by decide) r.2⟩)
    (Cert.Reference5Ideal.Value.run m g)

theorem algebraic_ffn : Cert.algebraic_Kernel2Ideal_Reference2Ideal := by
  pair_intro
  · run_from Cert.Kernel2Ideal.Value.run_blocks m g
  · run_from Cert.Reference2Ideal.Value.run m' g'
    rw [Cert.Kernel2Ideal.Ffn.final m c, Cert.Reference2Ideal.Read.val_main_v73_eq]
    obtain ⟨e0, _, e2, e3, e4, e5, e6, e7⟩ := hagree c
    rw [e0, e2, e3, e4, e5, e6, e7]
    funext y
    rw [eq_ix2 y]
    exact Cert.Reference2Ideal.Ffn.v73_at _ _ _ _ _ _ _ _ _

theorem algebraic_attention : Cert.algebraic_KernelIdeal_ReferenceIdeal_pre_finite := by
  pair_intro
  · run_from Cert.KernelIdeal.Value.run_blocks m g
  · refine (θ_run Cert.ReferenceIdeal.defs _ _).mono (fun r h c => ?_) (Cert.ReferenceIdeal.Value.run m' g')
    refine ⟨(h c).1.trans ?_, (h c).2⟩
    rw [Cert.KernelIdeal.Att.final m c, Cert.ReferenceIdeal.Read.val_main_v39_eq]
    obtain ⟨e0, e1, e2, e3⟩ := hagree c
    rw [e0, e1, e2, e3]
    obtain ⟨⟨q, hq⟩, ⟨k, hk⟩, ⟨v, hv⟩, ⟨la, hl⟩⟩ := Cert.Att.reals _ _ _ _ (hpre c)
    obtain ⟨s, hs⟩ := Cert.Att.scale_real
    funext y
    rw [eq_ix2 y]
    refine (Cert.ReferenceIdeal.Att.v39_at _ _ _ _ (y 0) (y 1)).trans ?_
    show _ = Cert.KernelIdeal.Att.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (y 0) (y 1)
    rw [hq, hk, hv, hl]
    exact (Cert.Att.same q k v la s hs (y 0) (y 1)).symm

set_option maxHeartbeats 2000000 in
theorem algebraic_inproj : Cert.algebraic_Kernel3Ideal_Reference3Ideal := by
  intro m g m' g' hpre hagree
  refine ⟨fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    fun c => (Cert.Kernel3Ideal.Gen.dats m 0 c).arrAt 17 Cert.Kernel3Ideal.cfg0.N,
    fun c => (Cert.Kernel3Ideal.Gen.dats m 0 c).arrAt 18 Cert.Kernel3Ideal.cfg0.N,
    fun c => (Cert.Kernel3Ideal.Gen.dats m 0 c).arrAt 19 Cert.Kernel3Ideal.cfg0.N,
    fun c => (Cert.Kernel3Ideal.Gen.dats m 0 c).arrAt 20 Cert.Kernel3Ideal.cfg0.N,
    fun c => (Cert.Kernel3Ideal.Gen.dats m 0 c).arrAt 21 Cert.Kernel3Ideal.cfg0.N,
    fun c => (Cert.Kernel3Ideal.Gen.dats m 0 c).arrAt 22 Cert.Kernel3Ideal.cfg0.N, ?_, ?_⟩
  · refine (θ_run Cert.Kernel3Ideal.defs _ _).mono (fun r h c => ?_) (Cert.Kernel3Ideal.Value.run_blocks m g)
    obtain ⟨h12, h13, h14, _, _, h17, h18, h19, h20, h21, h22, _, _, hargs⟩ := h c
    exact ⟨h12, h13, h14, h17, h18, h19, h20, h21, h22, hargs⟩
  · refine (θ_run Cert.Reference3Ideal.defs _ _).mono (fun r h c => ?_) (Cert.Reference3Ideal.Value.run m' g')
    obtain ⟨h0, h1, h2, h3, h4, h5, h6, h7, h8, hargs⟩ := h c
    obtain ⟨e0, e1, e2, e3, e4, _, _⟩ := hagree c
    have q0 := h0.trans (Cert.Reference3Ideal.Read.val_main_v60_eq _ _ _ _ _)
    rw [e0, e1, e2, e3, e4] at q0
    have q1 := h1.trans (Cert.Reference3Ideal.Read.val_main_v61_eq _ _ _ _ _)
    rw [e0, e1, e2, e3, e4] at q1
    have q2 := h2.trans (Cert.Reference3Ideal.Read.val_main_v62_eq _ _ _ _ _)
    rw [e0, e1, e2, e3, e4] at q2
    have q3 := h3.trans (Cert.Reference3Ideal.Read.val_main_v63_eq _ _ _ _ _)
    rw [e0, e1, e2, e3, e4] at q3
    have q4 := h4.trans (Cert.Reference3Ideal.Read.val_main_v64_eq _ _ _ _ _)
    rw [e0, e1, e2, e3, e4] at q4
    have q5 := h5.trans (Cert.Reference3Ideal.Read.val_main_v65_eq _ _ _ _ _)
    rw [e0, e1, e2, e3, e4] at q5
    have q6 := h6.trans (Cert.Reference3Ideal.Read.val_main_v66_eq _ _ _ _ _)
    rw [e0, e1, e2, e3, e4] at q6
    have q7 := h7.trans (Cert.Reference3Ideal.Read.val_main_v68_eq _ _ _ _ _)
    rw [e0, e1, e2, e3, e4] at q7
    have q8 := h8.trans (Cert.Reference3Ideal.Read.val_main_v70_eq _ _ _ _ _)
    rw [e0, e1, e2, e3, e4] at q8
    exact ⟨q0.trans (Cert.Kernel3Ideal.Inp.same12 m c).symm,
      q1.trans (Cert.Kernel3Ideal.Inp.same13 m c).symm,
      q2.trans (Cert.Kernel3Ideal.Inp.same14 m c).symm,
      q3.trans (Cert.Kernel3Ideal.Inp.same17 m c).symm,
      q4.trans (Cert.Kernel3Ideal.Inp.same18 m c).symm,
      q5.trans (Cert.Kernel3Ideal.Inp.same19 m c).symm,
      q6.trans (Cert.Kernel3Ideal.Inp.same20 m c).symm,
      q7.trans (Cert.Kernel3Ideal.Inp.same21 m c).symm,
      q8.trans (Cert.Kernel3Ideal.Inp.same22 m c).symm, hargs⟩

theorem algebraic_merge : Cert.algebraic_Kernel4Ideal_Reference4Ideal_pre_finite4 := by
  pair_intro
  · run_from Cert.Kernel4Ideal.Value.run_blocks m g
  · refine (θ_run Cert.Reference4Ideal.defs _ _).mono (fun r h c => ?_) (Cert.Reference4Ideal.Value.run m' g')
    refine ⟨(h c).1.trans ?_, (h c).2⟩
    rw [Cert.Kernel4Ideal.Mrg.final m c (Cert.Merge.reals _ _ _ _ _ _ _ _ _ _ _ _ _ _ _ _ _ _ _ _ (hpre c)), Cert.Reference4Ideal.Read.val_main_v129_eq]
    obtain ⟨e0, e1, e2, e3, e4, e5, e6, e7, e8, e9, e10, e11, e12, e13, e14, e15, e16, e17, e18, e19⟩ := hagree c
    rw [e0, e1, e2, e3, e4, e5, e6, e7, e8, e9, e10, e11, e12, e13, e14, e15, e16, e17, e18, e19]
    funext y
    rw [eq_ix2 y]
    exact Cert.Reference4Ideal.Mrg.v129_at ..

theorem algebraic_ada : Cert.algebraic_Kernel5Ideal_Reference5Ideal := by
  pair_intro
  · run_from Cert.Kernel5Ideal.Value.run_blocks m g
  · refine (θ_run Cert.Reference5Ideal.defs _ _).mono (fun r h c => ?_) (Cert.Reference5Ideal.Value.run m' g')
    refine ⟨(h c).1.trans ?_, (h c).2⟩
    rw [Cert.Kernel5Ideal.Ada.final m c, Cert.Reference5Ideal.Read.val_main_v23_eq]
    obtain ⟨e0, e1, e2, e3⟩ := hagree c
    rw [e0, e1, e2, e3]
    funext y
    rw [eq_ix3 y]
    exact Cert.Reference5Ideal.Ada.v23_at ..

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts, Cert.Pre_finite4.Gen.facts,
    frame_attention, frame_attentionIdeal, frame_attentionIdeal_pre, frame_attentionRef, frame_attentionRef_pre,
    frame_ffn, frame_ffnIdeal, frame_ffnRef, frame_inproj, frame_inprojIdeal, frame_inprojRef,
    frame_merge, frame_mergeIdeal, frame_mergeIdeal_pre, frame_mergeRef, frame_mergeRef_pre, frame_ada, frame_adaIdeal, frame_adaRef,
    trivial, algebraic_attention, trivial, algebraic_ffn, trivial, algebraic_inproj, trivial, algebraic_merge,
    trivial, algebraic_ada⟩

end Cert.Proof

end
